-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_CKeys (m : (ℓ : Loc Cert.CKeys.nD Cert.CKeys.τ Cert.CKeys.sig) → Buf (Elt Bits) ℓ) : Prop :=
  True

def Pre_CKeysIdeal (m : (ℓ : Loc Cert.CKeysIdeal.nD Cert.CKeysIdeal.τ Cert.CKeysIdeal.sig) → Buf (Elt Ideal) ℓ) : Prop :=
  True

def Pre_RefCKeysIdeal (m : (ℓ : Loc Cert.RefCKeysIdeal.nD Cert.RefCKeysIdeal.τ Cert.RefCKeysIdeal.sig) → Buf (Elt Ideal) ℓ) : Prop :=
  True

def Pre_CValues (m : (ℓ : Loc Cert.CValues.nD Cert.CValues.τ Cert.CValues.sig) → Buf (Elt Bits) ℓ) : Prop :=
  True

def Pre_CValuesIdeal (m : (ℓ : Loc Cert.CValuesIdeal.nD Cert.CValuesIdeal.τ Cert.CValuesIdeal.sig) → Buf (Elt Ideal) ℓ) : Prop :=
  True

def Pre_RefCValuesIdeal (m : (ℓ : Loc Cert.RefCValuesIdeal.nD Cert.RefCValuesIdeal.τ Cert.RefCValuesIdeal.sig) → Buf (Elt Ideal) ℓ) : Prop :=
  True

def Pre_CQueries (m : (ℓ : Loc Cert.CQueries.nD Cert.CQueries.τ Cert.CQueries.sig) → Buf (Elt Bits) ℓ) : Prop :=
  True

def Pre_CQueriesIdeal (m : (ℓ : Loc Cert.CQueriesIdeal.nD Cert.CQueriesIdeal.τ Cert.CQueriesIdeal.sig) → Buf (Elt Ideal) ℓ) : Prop :=
  True

def Pre_RefCQueriesIdeal (m : (ℓ : Loc Cert.RefCQueriesIdeal.nD Cert.RefCQueriesIdeal.τ Cert.RefCQueriesIdeal.sig) → Buf (Elt Ideal) ℓ) : Prop :=
  True

def Pre_AQueries (m : (ℓ : Loc Cert.AQueries.nD Cert.AQueries.τ Cert.AQueries.sig) → Buf (Elt Bits) ℓ) : Prop :=
  True

def Pre_AQueriesIdeal (m : (ℓ : Loc Cert.AQueriesIdeal.nD Cert.AQueriesIdeal.τ Cert.AQueriesIdeal.sig) → Buf (Elt Ideal) ℓ) : Prop :=
  True

def Pre_RefAQueriesIdeal (m : (ℓ : Loc Cert.RefAQueriesIdeal.nD Cert.RefAQueriesIdeal.τ Cert.RefAQueriesIdeal.sig) → Buf (Elt Ideal) ℓ) : Prop :=
  True

def Pre_AKeys (m : (ℓ : Loc Cert.AKeys.nD Cert.AKeys.τ Cert.AKeys.sig) → Buf (Elt Bits) ℓ) : Prop :=
  True

def Pre_AKeysIdeal (m : (ℓ : Loc Cert.AKeysIdeal.nD Cert.AKeysIdeal.τ Cert.AKeysIdeal.sig) → Buf (Elt Ideal) ℓ) : Prop :=
  True

def Pre_RefAKeysIdeal (m : (ℓ : Loc Cert.RefAKeysIdeal.nD Cert.RefAKeysIdeal.τ Cert.RefAKeysIdeal.sig) → Buf (Elt Ideal) ℓ) : Prop :=
  True

def Pre_AValues (m : (ℓ : Loc Cert.AValues.nD Cert.AValues.τ Cert.AValues.sig) → Buf (Elt Bits) ℓ) : Prop :=
  True

def Pre_AValuesIdeal (m : (ℓ : Loc Cert.AValuesIdeal.nD Cert.AValuesIdeal.τ Cert.AValuesIdeal.sig) → Buf (Elt Ideal) ℓ) : Prop :=
  True

def Pre_RefAValuesIdeal (m : (ℓ : Loc Cert.RefAValuesIdeal.nD Cert.RefAValuesIdeal.τ Cert.RefAValuesIdeal.sig) → Buf (Elt Ideal) ℓ) : Prop :=
  True

def Pre_BInputs (m : (ℓ : Loc Cert.BInputs.nD Cert.BInputs.τ Cert.BInputs.sig) → Buf (Elt Bits) ℓ) : Prop :=
  True

def Pre_BInputsIdeal (m : (ℓ : Loc Cert.BInputsIdeal.nD Cert.BInputsIdeal.τ Cert.BInputsIdeal.sig) → Buf (Elt Ideal) ℓ) : Prop :=
  True

def Pre_RefBInputsIdeal (m : (ℓ : Loc Cert.RefBInputsIdeal.nD Cert.RefBInputsIdeal.τ Cert.RefBInputsIdeal.sig) → Buf (Elt Ideal) ℓ) : Prop :=
  True

def Pre_AOutput (m : (ℓ : Loc Cert.AOutput.nD Cert.AOutput.τ Cert.AOutput.sig) → Buf (Elt Bits) ℓ) : Prop :=
  True

def Pre_AOutputIdeal (m : (ℓ : Loc Cert.AOutputIdeal.nD Cert.AOutputIdeal.τ Cert.AOutputIdeal.sig) → Buf (Elt Ideal) ℓ) : Prop :=
  True

def Pre_RefAOutputIdeal (m : (ℓ : Loc Cert.RefAOutputIdeal.nD Cert.RefAOutputIdeal.τ Cert.RefAOutputIdeal.sig) → Buf (Elt Ideal) ℓ) : Prop :=
  True

def Pre_COutput (m : (ℓ : Loc Cert.COutput.nD Cert.COutput.τ Cert.COutput.sig) → Buf (Elt Bits) ℓ) : Prop :=
  True

def Pre_COutputIdeal (m : (ℓ : Loc Cert.COutputIdeal.nD Cert.COutputIdeal.τ Cert.COutputIdeal.sig) → Buf (Elt Ideal) ℓ) : Prop :=
  True

def Pre_RefCOutputIdeal (m : (ℓ : Loc Cert.RefCOutputIdeal.nD Cert.RefCOutputIdeal.τ Cert.RefCOutputIdeal.sig) → Buf (Elt Ideal) ℓ) : Prop :=
  True

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_RefScoresIdeal (m : (ℓ : Loc Cert.RefScoresIdeal.nD Cert.RefScoresIdeal.τ Cert.RefScoresIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_RefNormIdeal (m : (ℓ : Loc Cert.RefNormIdeal.nD Cert.RefNormIdeal.τ Cert.RefNormIdeal.sig) → Buf (Elt Ideal) ℓ) : Prop :=
  True

def Pre_CKeysSample (m : (ℓ : Loc Cert.CKeysSample.nD Cert.CKeysSample.τ Cert.CKeysSample.sig) → Buf (Elt Bits) ℓ) : Prop :=
  True

def Pre_CKeysSampleIdeal (m : (ℓ : Loc Cert.CKeysSampleIdeal.nD Cert.CKeysSampleIdeal.τ Cert.CKeysSampleIdeal.sig) → Buf (Elt Ideal) ℓ) : Prop :=
  True

def Pre_RefCKeysSampleIdeal (m : (ℓ : Loc Cert.RefCKeysSampleIdeal.nD Cert.RefCKeysSampleIdeal.τ Cert.RefCKeysSampleIdeal.sig) → Buf (Elt Ideal) ℓ) : Prop :=
  True

def Pre_CValuesSample (m : (ℓ : Loc Cert.CValuesSample.nD Cert.CValuesSample.τ Cert.CValuesSample.sig) → Buf (Elt Bits) ℓ) : Prop :=
  True

def Pre_CValuesSampleIdeal (m : (ℓ : Loc Cert.CValuesSampleIdeal.nD Cert.CValuesSampleIdeal.τ Cert.CValuesSampleIdeal.sig) → Buf (Elt Ideal) ℓ) : Prop :=
  True

def Pre_RefCValuesSampleIdeal (m : (ℓ : Loc Cert.RefCValuesSampleIdeal.nD Cert.RefCValuesSampleIdeal.τ Cert.RefCValuesSampleIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_RefFirstIdeal (m : (ℓ : Loc Cert.RefFirstIdeal.nD Cert.RefFirstIdeal.τ Cert.RefFirstIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_CKeys [hCKeys : Cert.CKeys.Facts] : Prop :=
  ∀ (m : (ℓ : Loc Cert.CKeys.nD Cert.CKeys.τ Cert.CKeys.sig) → Buf (Elt Bits) ℓ) (g : Dev Cert.CKeys.nD → PrngReg), Pre_CKeys m →
    θ_run (Cert.CKeys.defs (F := Bits)) (onTc (τ := Cert.CKeys.τ) (Cert.CKeys.main (F := Bits))) ⟨m, fun _ => 0, g⟩ (fun r => (∀ c : Dev Cert.CKeys.nD,
      r.2.mem ((c.tc : Thread Cert.CKeys.nD Cert.CKeys.τ).loc Cert.CKeys.main_arg0) = m ((c.tc : Thread Cert.CKeys.nD Cert.CKeys.τ).loc Cert.CKeys.main_arg0)
      ∧ r.2.mem ((c.tc : Thread Cert.CKeys.nD Cert.CKeys.τ).loc Cert.CKeys.main_arg1) = m ((c.tc : Thread Cert.CKeys.nD Cert.CKeys.τ).loc Cert.CKeys.main_arg1))
      ∧ r.2.sem = fun _ => 0)

def quiescent_CKeysIdeal [hCKeysIdeal : Cert.CKeysIdeal.Facts] : Prop :=
  ∀ (m : (ℓ : Loc Cert.CKeysIdeal.nD Cert.CKeysIdeal.τ Cert.CKeysIdeal.sig) → Buf (Elt Ideal) ℓ) (g : Dev Cert.CKeysIdeal.nD → PrngReg), Pre_CKeysIdeal m →
    θ_run (Cert.CKeysIdeal.defs (F := Ideal)) (onTc (τ := Cert.CKeysIdeal.τ) (Cert.CKeysIdeal.main (F := Ideal))) ⟨m, fun _ => 0, g⟩ (fun r => (∀ c : Dev Cert.CKeysIdeal.nD,
      r.2.mem ((c.tc : Thread Cert.CKeysIdeal.nD Cert.CKeysIdeal.τ).loc Cert.CKeysIdeal.main_arg0) = m ((c.tc : Thread Cert.CKeysIdeal.nD Cert.CKeysIdeal.τ).loc Cert.CKeysIdeal.main_arg0)
      ∧ r.2.mem ((c.tc : Thread Cert.CKeysIdeal.nD Cert.CKeysIdeal.τ).loc Cert.CKeysIdeal.main_arg1) = m ((c.tc : Thread Cert.CKeysIdeal.nD Cert.CKeysIdeal.τ).loc Cert.CKeysIdeal.main_arg1))
      ∧ r.2.sem = fun _ => 0)

def quiescent_RefCKeysIdeal [hRefCKeysIdeal : Cert.RefCKeysIdeal.Facts] : Prop :=
  ∀ (m : (ℓ : Loc Cert.RefCKeysIdeal.nD Cert.RefCKeysIdeal.τ Cert.RefCKeysIdeal.sig) → Buf (Elt Ideal) ℓ) (g : Dev Cert.RefCKeysIdeal.nD → PrngReg), Pre_RefCKeysIdeal m →
    θ_run (Cert.RefCKeysIdeal.defs (F := Ideal)) (onTc (τ := Cert.RefCKeysIdeal.τ) (Cert.RefCKeysIdeal.main (F := Ideal))) ⟨m, fun _ => 0, g⟩ (fun r => (∀ c : Dev Cert.RefCKeysIdeal.nD,
      r.2.mem ((c.tc : Thread Cert.RefCKeysIdeal.nD Cert.RefCKeysIdeal.τ).loc Cert.RefCKeysIdeal.main_arg0) = m ((c.tc : Thread Cert.RefCKeysIdeal.nD Cert.RefCKeysIdeal.τ).loc Cert.RefCKeysIdeal.main_arg0)
      ∧ r.2.mem ((c.tc : Thread Cert.RefCKeysIdeal.nD Cert.RefCKeysIdeal.τ).loc Cert.RefCKeysIdeal.main_arg1) = m ((c.tc : Thread Cert.RefCKeysIdeal.nD Cert.RefCKeysIdeal.τ).loc Cert.RefCKeysIdeal.main_arg1))
      ∧ r.2.sem = fun _ => 0)

def quiescent_CValues [hCValues : Cert.CValues.Facts] : Prop :=
  ∀ (m : (ℓ : Loc Cert.CValues.nD Cert.CValues.τ Cert.CValues.sig) → Buf (Elt Bits) ℓ) (g : Dev Cert.CValues.nD → PrngReg), Pre_CValues m →
    θ_run (Cert.CValues.defs (F := Bits)) (onTc (τ := Cert.CValues.τ) (Cert.CValues.main (F := Bits))) ⟨m, fun _ => 0, g⟩ (fun r => (∀ c : Dev Cert.CValues.nD,
      r.2.mem ((c.tc : Thread Cert.CValues.nD Cert.CValues.τ).loc Cert.CValues.main_arg0) = m ((c.tc : Thread Cert.CValues.nD Cert.CValues.τ).loc Cert.CValues.main_arg0)
      ∧ r.2.mem ((c.tc : Thread Cert.CValues.nD Cert.CValues.τ).loc Cert.CValues.main_arg1) = m ((c.tc : Thread Cert.CValues.nD Cert.CValues.τ).loc Cert.CValues.main_arg1))
      ∧ r.2.sem = fun _ => 0)

def quiescent_CValuesIdeal [hCValuesIdeal : Cert.CValuesIdeal.Facts] : Prop :=
  ∀ (m : (ℓ : Loc Cert.CValuesIdeal.nD Cert.CValuesIdeal.τ Cert.CValuesIdeal.sig) → Buf (Elt Ideal) ℓ) (g : Dev Cert.CValuesIdeal.nD → PrngReg), Pre_CValuesIdeal m →
    θ_run (Cert.CValuesIdeal.defs (F := Ideal)) (onTc (τ := Cert.CValuesIdeal.τ) (Cert.CValuesIdeal.main (F := Ideal))) ⟨m, fun _ => 0, g⟩ (fun r => (∀ c : Dev Cert.CValuesIdeal.nD,
      r.2.mem ((c.tc : Thread Cert.CValuesIdeal.nD Cert.CValuesIdeal.τ).loc Cert.CValuesIdeal.main_arg0) = m ((c.tc : Thread Cert.CValuesIdeal.nD Cert.CValuesIdeal.τ).loc Cert.CValuesIdeal.main_arg0)
      ∧ r.2.mem ((c.tc : Thread Cert.CValuesIdeal.nD Cert.CValuesIdeal.τ).loc Cert.CValuesIdeal.main_arg1) = m ((c.tc : Thread Cert.CValuesIdeal.nD Cert.CValuesIdeal.τ).loc Cert.CValuesIdeal.main_arg1))
      ∧ r.2.sem = fun _ => 0)

def quiescent_RefCValuesIdeal [hRefCValuesIdeal : Cert.RefCValuesIdeal.Facts] : Prop :=
  ∀ (m : (ℓ : Loc Cert.RefCValuesIdeal.nD Cert.RefCValuesIdeal.τ Cert.RefCValuesIdeal.sig) → Buf (Elt Ideal) ℓ) (g : Dev Cert.RefCValuesIdeal.nD → PrngReg), Pre_RefCValuesIdeal m →
    θ_run (Cert.RefCValuesIdeal.defs (F := Ideal)) (onTc (τ := Cert.RefCValuesIdeal.τ) (Cert.RefCValuesIdeal.main (F := Ideal))) ⟨m, fun _ => 0, g⟩ (fun r => (∀ c : Dev Cert.RefCValuesIdeal.nD,
      r.2.mem ((c.tc : Thread Cert.RefCValuesIdeal.nD Cert.RefCValuesIdeal.τ).loc Cert.RefCValuesIdeal.main_arg0) = m ((c.tc : Thread Cert.RefCValuesIdeal.nD Cert.RefCValuesIdeal.τ).loc Cert.RefCValuesIdeal.main_arg0)
      ∧ r.2.mem ((c.tc : Thread Cert.RefCValuesIdeal.nD Cert.RefCValuesIdeal.τ).loc Cert.RefCValuesIdeal.main_arg1) = m ((c.tc : Thread Cert.RefCValuesIdeal.nD Cert.RefCValuesIdeal.τ).loc Cert.RefCValuesIdeal.main_arg1))
      ∧ r.2.sem = fun _ => 0)

def quiescent_CQueries [hCQueries : Cert.CQueries.Facts] : Prop :=
  ∀ (m : (ℓ : Loc Cert.CQueries.nD Cert.CQueries.τ Cert.CQueries.sig) → Buf (Elt Bits) ℓ) (g : Dev Cert.CQueries.nD → PrngReg), Pre_CQueries m →
    θ_run (Cert.CQueries.defs (F := Bits)) (onTc (τ := Cert.CQueries.τ) (Cert.CQueries.main (F := Bits))) ⟨m, fun _ => 0, g⟩ (fun r => (∀ c : Dev Cert.CQueries.nD,
      r.2.mem ((c.tc : Thread Cert.CQueries.nD Cert.CQueries.τ).loc Cert.CQueries.main_arg0) = m ((c.tc : Thread Cert.CQueries.nD Cert.CQueries.τ).loc Cert.CQueries.main_arg0)
      ∧ r.2.mem ((c.tc : Thread Cert.CQueries.nD Cert.CQueries.τ).loc Cert.CQueries.main_arg1) = m ((c.tc : Thread Cert.CQueries.nD Cert.CQueries.τ).loc Cert.CQueries.main_arg1))
      ∧ r.2.sem = fun _ => 0)

def quiescent_CQueriesIdeal [hCQueriesIdeal : Cert.CQueriesIdeal.Facts] : Prop :=
  ∀ (m : (ℓ : Loc Cert.CQueriesIdeal.nD Cert.CQueriesIdeal.τ Cert.CQueriesIdeal.sig) → Buf (Elt Ideal) ℓ) (g : Dev Cert.CQueriesIdeal.nD → PrngReg), Pre_CQueriesIdeal m →
    θ_run (Cert.CQueriesIdeal.defs (F := Ideal)) (onTc (τ := Cert.CQueriesIdeal.τ) (Cert.CQueriesIdeal.main (F := Ideal))) ⟨m, fun _ => 0, g⟩ (fun r => (∀ c : Dev Cert.CQueriesIdeal.nD,
      r.2.mem ((c.tc : Thread Cert.CQueriesIdeal.nD Cert.CQueriesIdeal.τ).loc Cert.CQueriesIdeal.main_arg0) = m ((c.tc : Thread Cert.CQueriesIdeal.nD Cert.CQueriesIdeal.τ).loc Cert.CQueriesIdeal.main_arg0)
      ∧ r.2.mem ((c.tc : Thread Cert.CQueriesIdeal.nD Cert.CQueriesIdeal.τ).loc Cert.CQueriesIdeal.main_arg1) = m ((c.tc : Thread Cert.CQueriesIdeal.nD Cert.CQueriesIdeal.τ).loc Cert.CQueriesIdeal.main_arg1))
      ∧ r.2.sem = fun _ => 0)

def quiescent_RefCQueriesIdeal [hRefCQueriesIdeal : Cert.RefCQueriesIdeal.Facts] : Prop :=
  ∀ (m : (ℓ : Loc Cert.RefCQueriesIdeal.nD Cert.RefCQueriesIdeal.τ Cert.RefCQueriesIdeal.sig) → Buf (Elt Ideal) ℓ) (g : Dev Cert.RefCQueriesIdeal.nD → PrngReg), Pre_RefCQueriesIdeal m →
    θ_run (Cert.RefCQueriesIdeal.defs (F := Ideal)) (onTc (τ := Cert.RefCQueriesIdeal.τ) (Cert.RefCQueriesIdeal.main (F := Ideal))) ⟨m, fun _ => 0, g⟩ (fun r => (∀ c : Dev Cert.RefCQueriesIdeal.nD,
      r.2.mem ((c.tc : Thread Cert.RefCQueriesIdeal.nD Cert.RefCQueriesIdeal.τ).loc Cert.RefCQueriesIdeal.main_arg0) = m ((c.tc : Thread Cert.RefCQueriesIdeal.nD Cert.RefCQueriesIdeal.τ).loc Cert.RefCQueriesIdeal.main_arg0)
      ∧ r.2.mem ((c.tc : Thread Cert.RefCQueriesIdeal.nD Cert.RefCQueriesIdeal.τ).loc Cert.RefCQueriesIdeal.main_arg1) = m ((c.tc : Thread Cert.RefCQueriesIdeal.nD Cert.RefCQueriesIdeal.τ).loc Cert.RefCQueriesIdeal.main_arg1))
      ∧ r.2.sem = fun _ => 0)

def quiescent_AQueries [hAQueries : Cert.AQueries.Facts] : Prop :=
  ∀ (m : (ℓ : Loc Cert.AQueries.nD Cert.AQueries.τ Cert.AQueries.sig) → Buf (Elt Bits) ℓ) (g : Dev Cert.AQueries.nD → PrngReg), Pre_AQueries m →
    θ_run (Cert.AQueries.defs (F := Bits)) (onTc (τ := Cert.AQueries.τ) (Cert.AQueries.main (F := Bits))) ⟨m, fun _ => 0, g⟩ (fun r => (∀ c : Dev Cert.AQueries.nD,
      r.2.mem ((c.tc : Thread Cert.AQueries.nD Cert.AQueries.τ).loc Cert.AQueries.main_arg0) = m ((c.tc : Thread Cert.AQueries.nD Cert.AQueries.τ).loc Cert.AQueries.main_arg0)
      ∧ r.2.mem ((c.tc : Thread Cert.AQueries.nD Cert.AQueries.τ).loc Cert.AQueries.main_arg1) = m ((c.tc : Thread Cert.AQueries.nD Cert.AQueries.τ).loc Cert.AQueries.main_arg1)
      ∧ r.2.mem ((c.tc : Thread Cert.AQueries.nD Cert.AQueries.τ).loc Cert.AQueries.main_arg2) = m ((c.tc : Thread Cert.AQueries.nD Cert.AQueries.τ).loc Cert.AQueries.main_arg2))
      ∧ r.2.sem = fun _ => 0)

def quiescent_AQueriesIdeal [hAQueriesIdeal : Cert.AQueriesIdeal.Facts] : Prop :=
  ∀ (m : (ℓ : Loc Cert.AQueriesIdeal.nD Cert.AQueriesIdeal.τ Cert.AQueriesIdeal.sig) → Buf (Elt Ideal) ℓ) (g : Dev Cert.AQueriesIdeal.nD → PrngReg), Pre_AQueriesIdeal m →
    θ_run (Cert.AQueriesIdeal.defs (F := Ideal)) (onTc (τ := Cert.AQueriesIdeal.τ) (Cert.AQueriesIdeal.main (F := Ideal))) ⟨m, fun _ => 0, g⟩ (fun r => (∀ c : Dev Cert.AQueriesIdeal.nD,
      r.2.mem ((c.tc : Thread Cert.AQueriesIdeal.nD Cert.AQueriesIdeal.τ).loc Cert.AQueriesIdeal.main_arg0) = m ((c.tc : Thread Cert.AQueriesIdeal.nD Cert.AQueriesIdeal.τ).loc Cert.AQueriesIdeal.main_arg0)
      ∧ r.2.mem ((c.tc : Thread Cert.AQueriesIdeal.nD Cert.AQueriesIdeal.τ).loc Cert.AQueriesIdeal.main_arg1) = m ((c.tc : Thread Cert.AQueriesIdeal.nD Cert.AQueriesIdeal.τ).loc Cert.AQueriesIdeal.main_arg1)
      ∧ r.2.mem ((c.tc : Thread Cert.AQueriesIdeal.nD Cert.AQueriesIdeal.τ).loc Cert.AQueriesIdeal.main_arg2) = m ((c.tc : Thread Cert.AQueriesIdeal.nD Cert.AQueriesIdeal.τ).loc Cert.AQueriesIdeal.main_arg2))
      ∧ r.2.sem = fun _ => 0)

def quiescent_RefAQueriesIdeal [hRefAQueriesIdeal : Cert.RefAQueriesIdeal.Facts] : Prop :=
  ∀ (m : (ℓ : Loc Cert.RefAQueriesIdeal.nD Cert.RefAQueriesIdeal.τ Cert.RefAQueriesIdeal.sig) → Buf (Elt Ideal) ℓ) (g : Dev Cert.RefAQueriesIdeal.nD → PrngReg), Pre_RefAQueriesIdeal m →
    θ_run (Cert.RefAQueriesIdeal.defs (F := Ideal)) (onTc (τ := Cert.RefAQueriesIdeal.τ) (Cert.RefAQueriesIdeal.main (F := Ideal))) ⟨m, fun _ => 0, g⟩ (fun r => (∀ c : Dev Cert.RefAQueriesIdeal.nD,
      r.2.mem ((c.tc : Thread Cert.RefAQueriesIdeal.nD Cert.RefAQueriesIdeal.τ).loc Cert.RefAQueriesIdeal.main_arg0) = m ((c.tc : Thread Cert.RefAQueriesIdeal.nD Cert.RefAQueriesIdeal.τ).loc Cert.RefAQueriesIdeal.main_arg0)
      ∧ r.2.mem ((c.tc : Thread Cert.RefAQueriesIdeal.nD Cert.RefAQueriesIdeal.τ).loc Cert.RefAQueriesIdeal.main_arg1) = m ((c.tc : Thread Cert.RefAQueriesIdeal.nD Cert.RefAQueriesIdeal.τ).loc Cert.RefAQueriesIdeal.main_arg1)
      ∧ r.2.mem ((c.tc : Thread Cert.RefAQueriesIdeal.nD Cert.RefAQueriesIdeal.τ).loc Cert.RefAQueriesIdeal.main_arg2) = m ((c.tc : Thread Cert.RefAQueriesIdeal.nD Cert.RefAQueriesIdeal.τ).loc Cert.RefAQueriesIdeal.main_arg2))
      ∧ r.2.sem = fun _ => 0)

def quiescent_AKeys [hAKeys : Cert.AKeys.Facts] : Prop :=
  ∀ (m : (ℓ : Loc Cert.AKeys.nD Cert.AKeys.τ Cert.AKeys.sig) → Buf (Elt Bits) ℓ) (g : Dev Cert.AKeys.nD → PrngReg), Pre_AKeys m →
    θ_run (Cert.AKeys.defs (F := Bits)) (onTc (τ := Cert.AKeys.τ) (Cert.AKeys.main (F := Bits))) ⟨m, fun _ => 0, g⟩ (fun r => (∀ c : Dev Cert.AKeys.nD,
      r.2.mem ((c.tc : Thread Cert.AKeys.nD Cert.AKeys.τ).loc Cert.AKeys.main_arg0) = m ((c.tc : Thread Cert.AKeys.nD Cert.AKeys.τ).loc Cert.AKeys.main_arg0)
      ∧ r.2.mem ((c.tc : Thread Cert.AKeys.nD Cert.AKeys.τ).loc Cert.AKeys.main_arg1) = m ((c.tc : Thread Cert.AKeys.nD Cert.AKeys.τ).loc Cert.AKeys.main_arg1)
      ∧ r.2.mem ((c.tc : Thread Cert.AKeys.nD Cert.AKeys.τ).loc Cert.AKeys.main_arg2) = m ((c.tc : Thread Cert.AKeys.nD Cert.AKeys.τ).loc Cert.AKeys.main_arg2))
      ∧ r.2.sem = fun _ => 0)

def quiescent_AKeysIdeal [hAKeysIdeal : Cert.AKeysIdeal.Facts] : Prop :=
  ∀ (m : (ℓ : Loc Cert.AKeysIdeal.nD Cert.AKeysIdeal.τ Cert.AKeysIdeal.sig) → Buf (Elt Ideal) ℓ) (g : Dev Cert.AKeysIdeal.nD → PrngReg), Pre_AKeysIdeal m →
    θ_run (Cert.AKeysIdeal.defs (F := Ideal)) (onTc (τ := Cert.AKeysIdeal.τ) (Cert.AKeysIdeal.main (F := Ideal))) ⟨m, fun _ => 0, g⟩ (fun r => (∀ c : Dev Cert.AKeysIdeal.nD,
      r.2.mem ((c.tc : Thread Cert.AKeysIdeal.nD Cert.AKeysIdeal.τ).loc Cert.AKeysIdeal.main_arg0) = m ((c.tc : Thread Cert.AKeysIdeal.nD Cert.AKeysIdeal.τ).loc Cert.AKeysIdeal.main_arg0)
      ∧ r.2.mem ((c.tc : Thread Cert.AKeysIdeal.nD Cert.AKeysIdeal.τ).loc Cert.AKeysIdeal.main_arg1) = m ((c.tc : Thread Cert.AKeysIdeal.nD Cert.AKeysIdeal.τ).loc Cert.AKeysIdeal.main_arg1)
      ∧ r.2.mem ((c.tc : Thread Cert.AKeysIdeal.nD Cert.AKeysIdeal.τ).loc Cert.AKeysIdeal.main_arg2) = m ((c.tc : Thread Cert.AKeysIdeal.nD Cert.AKeysIdeal.τ).loc Cert.AKeysIdeal.main_arg2))
      ∧ r.2.sem = fun _ => 0)

def quiescent_RefAKeysIdeal [hRefAKeysIdeal : Cert.RefAKeysIdeal.Facts] : Prop :=
  ∀ (m : (ℓ : Loc Cert.RefAKeysIdeal.nD Cert.RefAKeysIdeal.τ Cert.RefAKeysIdeal.sig) → Buf (Elt Ideal) ℓ) (g : Dev Cert.RefAKeysIdeal.nD → PrngReg), Pre_RefAKeysIdeal m →
    θ_run (Cert.RefAKeysIdeal.defs (F := Ideal)) (onTc (τ := Cert.RefAKeysIdeal.τ) (Cert.RefAKeysIdeal.main (F := Ideal))) ⟨m, fun _ => 0, g⟩ (fun r => (∀ c : Dev Cert.RefAKeysIdeal.nD,
      r.2.mem ((c.tc : Thread Cert.RefAKeysIdeal.nD Cert.RefAKeysIdeal.τ).loc Cert.RefAKeysIdeal.main_arg0) = m ((c.tc : Thread Cert.RefAKeysIdeal.nD Cert.RefAKeysIdeal.τ).loc Cert.RefAKeysIdeal.main_arg0)
      ∧ r.2.mem ((c.tc : Thread Cert.RefAKeysIdeal.nD Cert.RefAKeysIdeal.τ).loc Cert.RefAKeysIdeal.main_arg1) = m ((c.tc : Thread Cert.RefAKeysIdeal.nD Cert.RefAKeysIdeal.τ).loc Cert.RefAKeysIdeal.main_arg1)
      ∧ r.2.mem ((c.tc : Thread Cert.RefAKeysIdeal.nD Cert.RefAKeysIdeal.τ).loc Cert.RefAKeysIdeal.main_arg2) = m ((c.tc : Thread Cert.RefAKeysIdeal.nD Cert.RefAKeysIdeal.τ).loc Cert.RefAKeysIdeal.main_arg2))
      ∧ r.2.sem = fun _ => 0)

def quiescent_AValues [hAValues : Cert.AValues.Facts] : Prop :=
  ∀ (m : (ℓ : Loc Cert.AValues.nD Cert.AValues.τ Cert.AValues.sig) → Buf (Elt Bits) ℓ) (g : Dev Cert.AValues.nD → PrngReg), Pre_AValues m →
    θ_run (Cert.AValues.defs (F := Bits)) (onTc (τ := Cert.AValues.τ) (Cert.AValues.main (F := Bits))) ⟨m, fun _ => 0, g⟩ (fun r => (∀ c : Dev Cert.AValues.nD,
      r.2.mem ((c.tc : Thread Cert.AValues.nD Cert.AValues.τ).loc Cert.AValues.main_arg0) = m ((c.tc : Thread Cert.AValues.nD Cert.AValues.τ).loc Cert.AValues.main_arg0)
      ∧ r.2.mem ((c.tc : Thread Cert.AValues.nD Cert.AValues.τ).loc Cert.AValues.main_arg1) = m ((c.tc : Thread Cert.AValues.nD Cert.AValues.τ).loc Cert.AValues.main_arg1))
      ∧ r.2.sem = fun _ => 0)

def quiescent_AValuesIdeal [hAValuesIdeal : Cert.AValuesIdeal.Facts] : Prop :=
  ∀ (m : (ℓ : Loc Cert.AValuesIdeal.nD Cert.AValuesIdeal.τ Cert.AValuesIdeal.sig) → Buf (Elt Ideal) ℓ) (g : Dev Cert.AValuesIdeal.nD → PrngReg), Pre_AValuesIdeal m →
    θ_run (Cert.AValuesIdeal.defs (F := Ideal)) (onTc (τ := Cert.AValuesIdeal.τ) (Cert.AValuesIdeal.main (F := Ideal))) ⟨m, fun _ => 0, g⟩ (fun r => (∀ c : Dev Cert.AValuesIdeal.nD,
      r.2.mem ((c.tc : Thread Cert.AValuesIdeal.nD Cert.AValuesIdeal.τ).loc Cert.AValuesIdeal.main_arg0) = m ((c.tc : Thread Cert.AValuesIdeal.nD Cert.AValuesIdeal.τ).loc Cert.AValuesIdeal.main_arg0)
      ∧ r.2.mem ((c.tc : Thread Cert.AValuesIdeal.nD Cert.AValuesIdeal.τ).loc Cert.AValuesIdeal.main_arg1) = m ((c.tc : Thread Cert.AValuesIdeal.nD Cert.AValuesIdeal.τ).loc Cert.AValuesIdeal.main_arg1))
      ∧ r.2.sem = fun _ => 0)

def quiescent_RefAValuesIdeal [hRefAValuesIdeal : Cert.RefAValuesIdeal.Facts] : Prop :=
  ∀ (m : (ℓ : Loc Cert.RefAValuesIdeal.nD Cert.RefAValuesIdeal.τ Cert.RefAValuesIdeal.sig) → Buf (Elt Ideal) ℓ) (g : Dev Cert.RefAValuesIdeal.nD → PrngReg), Pre_RefAValuesIdeal m →
    θ_run (Cert.RefAValuesIdeal.defs (F := Ideal)) (onTc (τ := Cert.RefAValuesIdeal.τ) (Cert.RefAValuesIdeal.main (F := Ideal))) ⟨m, fun _ => 0, g⟩ (fun r => (∀ c : Dev Cert.RefAValuesIdeal.nD,
      r.2.mem ((c.tc : Thread Cert.RefAValuesIdeal.nD Cert.RefAValuesIdeal.τ).loc Cert.RefAValuesIdeal.main_arg0) = m ((c.tc : Thread Cert.RefAValuesIdeal.nD Cert.RefAValuesIdeal.τ).loc Cert.RefAValuesIdeal.main_arg0)
      ∧ r.2.mem ((c.tc : Thread Cert.RefAValuesIdeal.nD Cert.RefAValuesIdeal.τ).loc Cert.RefAValuesIdeal.main_arg1) = m ((c.tc : Thread Cert.RefAValuesIdeal.nD Cert.RefAValuesIdeal.τ).loc Cert.RefAValuesIdeal.main_arg1))
      ∧ r.2.sem = fun _ => 0)

def quiescent_BInputs [hBInputs : Cert.BInputs.Facts] : Prop :=
  ∀ (m : (ℓ : Loc Cert.BInputs.nD Cert.BInputs.τ Cert.BInputs.sig) → Buf (Elt Bits) ℓ) (g : Dev Cert.BInputs.nD → PrngReg), Pre_BInputs m →
    θ_run (Cert.BInputs.defs (F := Bits)) (onTc (τ := Cert.BInputs.τ) (Cert.BInputs.main (F := Bits))) ⟨m, fun _ => 0, g⟩ (fun r => (∀ c : Dev Cert.BInputs.nD,
      r.2.mem ((c.tc : Thread Cert.BInputs.nD Cert.BInputs.τ).loc Cert.BInputs.main_arg0) = m ((c.tc : Thread Cert.BInputs.nD Cert.BInputs.τ).loc Cert.BInputs.main_arg0)
      ∧ r.2.mem ((c.tc : Thread Cert.BInputs.nD Cert.BInputs.τ).loc Cert.BInputs.main_arg1) = m ((c.tc : Thread Cert.BInputs.nD Cert.BInputs.τ).loc Cert.BInputs.main_arg1))
      ∧ r.2.sem = fun _ => 0)

def quiescent_BInputsIdeal [hBInputsIdeal : Cert.BInputsIdeal.Facts] : Prop :=
  ∀ (m : (ℓ : Loc Cert.BInputsIdeal.nD Cert.BInputsIdeal.τ Cert.BInputsIdeal.sig) → Buf (Elt Ideal) ℓ) (g : Dev Cert.BInputsIdeal.nD → PrngReg), Pre_BInputsIdeal m →
    θ_run (Cert.BInputsIdeal.defs (F := Ideal)) (onTc (τ := Cert.BInputsIdeal.τ) (Cert.BInputsIdeal.main (F := Ideal))) ⟨m, fun _ => 0, g⟩ (fun r => (∀ c : Dev Cert.BInputsIdeal.nD,
      r.2.mem ((c.tc : Thread Cert.BInputsIdeal.nD Cert.BInputsIdeal.τ).loc Cert.BInputsIdeal.main_arg0) = m ((c.tc : Thread Cert.BInputsIdeal.nD Cert.BInputsIdeal.τ).loc Cert.BInputsIdeal.main_arg0)
      ∧ r.2.mem ((c.tc : Thread Cert.BInputsIdeal.nD Cert.BInputsIdeal.τ).loc Cert.BInputsIdeal.main_arg1) = m ((c.tc : Thread Cert.BInputsIdeal.nD Cert.BInputsIdeal.τ).loc Cert.BInputsIdeal.main_arg1))
      ∧ r.2.sem = fun _ => 0)

def quiescent_RefBInputsIdeal [hRefBInputsIdeal : Cert.RefBInputsIdeal.Facts] : Prop :=
  ∀ (m : (ℓ : Loc Cert.RefBInputsIdeal.nD Cert.RefBInputsIdeal.τ Cert.RefBInputsIdeal.sig) → Buf (Elt Ideal) ℓ) (g : Dev Cert.RefBInputsIdeal.nD → PrngReg), Pre_RefBInputsIdeal m →
    θ_run (Cert.RefBInputsIdeal.defs (F := Ideal)) (onTc (τ := Cert.RefBInputsIdeal.τ) (Cert.RefBInputsIdeal.main (F := Ideal))) ⟨m, fun _ => 0, g⟩ (fun r => (∀ c : Dev Cert.RefBInputsIdeal.nD,
      r.2.mem ((c.tc : Thread Cert.RefBInputsIdeal.nD Cert.RefBInputsIdeal.τ).loc Cert.RefBInputsIdeal.main_arg0) = m ((c.tc : Thread Cert.RefBInputsIdeal.nD Cert.RefBInputsIdeal.τ).loc Cert.RefBInputsIdeal.main_arg0)
      ∧ r.2.mem ((c.tc : Thread Cert.RefBInputsIdeal.nD Cert.RefBInputsIdeal.τ).loc Cert.RefBInputsIdeal.main_arg1) = m ((c.tc : Thread Cert.RefBInputsIdeal.nD Cert.RefBInputsIdeal.τ).loc Cert.RefBInputsIdeal.main_arg1))
      ∧ r.2.sem = fun _ => 0)

def quiescent_AOutput [hAOutput : Cert.AOutput.Facts] : Prop :=
  ∀ (m : (ℓ : Loc Cert.AOutput.nD Cert.AOutput.τ Cert.AOutput.sig) → Buf (Elt Bits) ℓ) (g : Dev Cert.AOutput.nD → PrngReg), Pre_AOutput m →
    θ_run (Cert.AOutput.defs (F := Bits)) (onTc (τ := Cert.AOutput.τ) (Cert.AOutput.main (F := Bits))) ⟨m, fun _ => 0, g⟩ (fun r => (∀ c : Dev Cert.AOutput.nD,
      r.2.mem ((c.tc : Thread Cert.AOutput.nD Cert.AOutput.τ).loc Cert.AOutput.main_arg0) = m ((c.tc : Thread Cert.AOutput.nD Cert.AOutput.τ).loc Cert.AOutput.main_arg0)
      ∧ r.2.mem ((c.tc : Thread Cert.AOutput.nD Cert.AOutput.τ).loc Cert.AOutput.main_arg1) = m ((c.tc : Thread Cert.AOutput.nD Cert.AOutput.τ).loc Cert.AOutput.main_arg1)
      ∧ r.2.mem ((c.tc : Thread Cert.AOutput.nD Cert.AOutput.τ).loc Cert.AOutput.main_arg2) = m ((c.tc : Thread Cert.AOutput.nD Cert.AOutput.τ).loc Cert.AOutput.main_arg2)
      ∧ r.2.mem ((c.tc : Thread Cert.AOutput.nD Cert.AOutput.τ).loc Cert.AOutput.main_arg3) = m ((c.tc : Thread Cert.AOutput.nD Cert.AOutput.τ).loc Cert.AOutput.main_arg3))
      ∧ r.2.sem = fun _ => 0)

def quiescent_AOutputIdeal [hAOutputIdeal : Cert.AOutputIdeal.Facts] : Prop :=
  ∀ (m : (ℓ : Loc Cert.AOutputIdeal.nD Cert.AOutputIdeal.τ Cert.AOutputIdeal.sig) → Buf (Elt Ideal) ℓ) (g : Dev Cert.AOutputIdeal.nD → PrngReg), Pre_AOutputIdeal m →
    θ_run (Cert.AOutputIdeal.defs (F := Ideal)) (onTc (τ := Cert.AOutputIdeal.τ) (Cert.AOutputIdeal.main (F := Ideal))) ⟨m, fun _ => 0, g⟩ (fun r => (∀ c : Dev Cert.AOutputIdeal.nD,
      r.2.mem ((c.tc : Thread Cert.AOutputIdeal.nD Cert.AOutputIdeal.τ).loc Cert.AOutputIdeal.main_arg0) = m ((c.tc : Thread Cert.AOutputIdeal.nD Cert.AOutputIdeal.τ).loc Cert.AOutputIdeal.main_arg0)
      ∧ r.2.mem ((c.tc : Thread Cert.AOutputIdeal.nD Cert.AOutputIdeal.τ).loc Cert.AOutputIdeal.main_arg1) = m ((c.tc : Thread Cert.AOutputIdeal.nD Cert.AOutputIdeal.τ).loc Cert.AOutputIdeal.main_arg1)
      ∧ r.2.mem ((c.tc : Thread Cert.AOutputIdeal.nD Cert.AOutputIdeal.τ).loc Cert.AOutputIdeal.main_arg2) = m ((c.tc : Thread Cert.AOutputIdeal.nD Cert.AOutputIdeal.τ).loc Cert.AOutputIdeal.main_arg2)
      ∧ r.2.mem ((c.tc : Thread Cert.AOutputIdeal.nD Cert.AOutputIdeal.τ).loc Cert.AOutputIdeal.main_arg3) = m ((c.tc : Thread Cert.AOutputIdeal.nD Cert.AOutputIdeal.τ).loc Cert.AOutputIdeal.main_arg3))
      ∧ r.2.sem = fun _ => 0)

def quiescent_RefAOutputIdeal [hRefAOutputIdeal : Cert.RefAOutputIdeal.Facts] : Prop :=
  ∀ (m : (ℓ : Loc Cert.RefAOutputIdeal.nD Cert.RefAOutputIdeal.τ Cert.RefAOutputIdeal.sig) → Buf (Elt Ideal) ℓ) (g : Dev Cert.RefAOutputIdeal.nD → PrngReg), Pre_RefAOutputIdeal m →
    θ_run (Cert.RefAOutputIdeal.defs (F := Ideal)) (onTc (τ := Cert.RefAOutputIdeal.τ) (Cert.RefAOutputIdeal.main (F := Ideal))) ⟨m, fun _ => 0, g⟩ (fun r => (∀ c : Dev Cert.RefAOutputIdeal.nD,
      r.2.mem ((c.tc : Thread Cert.RefAOutputIdeal.nD Cert.RefAOutputIdeal.τ).loc Cert.RefAOutputIdeal.main_arg0) = m ((c.tc : Thread Cert.RefAOutputIdeal.nD Cert.RefAOutputIdeal.τ).loc Cert.RefAOutputIdeal.main_arg0)
      ∧ r.2.mem ((c.tc : Thread Cert.RefAOutputIdeal.nD Cert.RefAOutputIdeal.τ).loc Cert.RefAOutputIdeal.main_arg1) = m ((c.tc : Thread Cert.RefAOutputIdeal.nD Cert.RefAOutputIdeal.τ).loc Cert.RefAOutputIdeal.main_arg1)
      ∧ r.2.mem ((c.tc : Thread Cert.RefAOutputIdeal.nD Cert.RefAOutputIdeal.τ).loc Cert.RefAOutputIdeal.main_arg2) = m ((c.tc : Thread Cert.RefAOutputIdeal.nD Cert.RefAOutputIdeal.τ).loc Cert.RefAOutputIdeal.main_arg2)
      ∧ r.2.mem ((c.tc : Thread Cert.RefAOutputIdeal.nD Cert.RefAOutputIdeal.τ).loc Cert.RefAOutputIdeal.main_arg3) = m ((c.tc : Thread Cert.RefAOutputIdeal.nD Cert.RefAOutputIdeal.τ).loc Cert.RefAOutputIdeal.main_arg3))
      ∧ r.2.sem = fun _ => 0)

def quiescent_COutput [hCOutput : Cert.COutput.Facts] : Prop :=
  ∀ (m : (ℓ : Loc Cert.COutput.nD Cert.COutput.τ Cert.COutput.sig) → Buf (Elt Bits) ℓ) (g : Dev Cert.COutput.nD → PrngReg), Pre_COutput m →
    θ_run (Cert.COutput.defs (F := Bits)) (onTc (τ := Cert.COutput.τ) (Cert.COutput.main (F := Bits))) ⟨m, fun _ => 0, g⟩ (fun r => (∀ c : Dev Cert.COutput.nD,
      r.2.mem ((c.tc : Thread Cert.COutput.nD Cert.COutput.τ).loc Cert.COutput.main_arg0) = m ((c.tc : Thread Cert.COutput.nD Cert.COutput.τ).loc Cert.COutput.main_arg0)
      ∧ r.2.mem ((c.tc : Thread Cert.COutput.nD Cert.COutput.τ).loc Cert.COutput.main_arg1) = m ((c.tc : Thread Cert.COutput.nD Cert.COutput.τ).loc Cert.COutput.main_arg1)
      ∧ r.2.mem ((c.tc : Thread Cert.COutput.nD Cert.COutput.τ).loc Cert.COutput.main_arg2) = m ((c.tc : Thread Cert.COutput.nD Cert.COutput.τ).loc Cert.COutput.main_arg2))
      ∧ r.2.sem = fun _ => 0)

def quiescent_COutputIdeal [hCOutputIdeal : Cert.COutputIdeal.Facts] : Prop :=
  ∀ (m : (ℓ : Loc Cert.COutputIdeal.nD Cert.COutputIdeal.τ Cert.COutputIdeal.sig) → Buf (Elt Ideal) ℓ) (g : Dev Cert.COutputIdeal.nD → PrngReg), Pre_COutputIdeal m →
    θ_run (Cert.COutputIdeal.defs (F := Ideal)) (onTc (τ := Cert.COutputIdeal.τ) (Cert.COutputIdeal.main (F := Ideal))) ⟨m, fun _ => 0, g⟩ (fun r => (∀ c : Dev Cert.COutputIdeal.nD,
      r.2.mem ((c.tc : Thread Cert.COutputIdeal.nD Cert.COutputIdeal.τ).loc Cert.COutputIdeal.main_arg0) = m ((c.tc : Thread Cert.COutputIdeal.nD Cert.COutputIdeal.τ).loc Cert.COutputIdeal.main_arg0)
      ∧ r.2.mem ((c.tc : Thread Cert.COutputIdeal.nD Cert.COutputIdeal.τ).loc Cert.COutputIdeal.main_arg1) = m ((c.tc : Thread Cert.COutputIdeal.nD Cert.COutputIdeal.τ).loc Cert.COutputIdeal.main_arg1)
      ∧ r.2.mem ((c.tc : Thread Cert.COutputIdeal.nD Cert.COutputIdeal.τ).loc Cert.COutputIdeal.main_arg2) = m ((c.tc : Thread Cert.COutputIdeal.nD Cert.COutputIdeal.τ).loc Cert.COutputIdeal.main_arg2))
      ∧ r.2.sem = fun _ => 0)

def quiescent_RefCOutputIdeal [hRefCOutputIdeal : Cert.RefCOutputIdeal.Facts] : Prop :=
  ∀ (m : (ℓ : Loc Cert.RefCOutputIdeal.nD Cert.RefCOutputIdeal.τ Cert.RefCOutputIdeal.sig) → Buf (Elt Ideal) ℓ) (g : Dev Cert.RefCOutputIdeal.nD → PrngReg), Pre_RefCOutputIdeal m →
    θ_run (Cert.RefCOutputIdeal.defs (F := Ideal)) (onTc (τ := Cert.RefCOutputIdeal.τ) (Cert.RefCOutputIdeal.main (F := Ideal))) ⟨m, fun _ => 0, g⟩ (fun r => (∀ c : Dev Cert.RefCOutputIdeal.nD,
      r.2.mem ((c.tc : Thread Cert.RefCOutputIdeal.nD Cert.RefCOutputIdeal.τ).loc Cert.RefCOutputIdeal.main_arg0) = m ((c.tc : Thread Cert.RefCOutputIdeal.nD Cert.RefCOutputIdeal.τ).loc Cert.RefCOutputIdeal.main_arg0)
      ∧ r.2.mem ((c.tc : Thread Cert.RefCOutputIdeal.nD Cert.RefCOutputIdeal.τ).loc Cert.RefCOutputIdeal.main_arg1) = m ((c.tc : Thread Cert.RefCOutputIdeal.nD Cert.RefCOutputIdeal.τ).loc Cert.RefCOutputIdeal.main_arg1)
      ∧ r.2.mem ((c.tc : Thread Cert.RefCOutputIdeal.nD Cert.RefCOutputIdeal.τ).loc Cert.RefCOutputIdeal.main_arg2) = m ((c.tc : Thread Cert.RefCOutputIdeal.nD Cert.RefCOutputIdeal.τ).loc Cert.RefCOutputIdeal.main_arg2))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ r.2.sem = fun _ => 0)

def quiescent_RefScoresIdeal [hRefScoresIdeal : Cert.RefScoresIdeal.Facts] : Prop :=
  ∀ (m : (ℓ : Loc Cert.RefScoresIdeal.nD Cert.RefScoresIdeal.τ Cert.RefScoresIdeal.sig) → Buf (Elt Ideal) ℓ) (g : Dev Cert.RefScoresIdeal.nD → PrngReg), Pre_RefScoresIdeal m →
    θ_run (Cert.RefScoresIdeal.defs (F := Ideal)) (onTc (τ := Cert.RefScoresIdeal.τ) (Cert.RefScoresIdeal.main (F := Ideal))) ⟨m, fun _ => 0, g⟩ (fun r => (∀ c : Dev Cert.RefScoresIdeal.nD,
      r.2.mem ((c.tc : Thread Cert.RefScoresIdeal.nD Cert.RefScoresIdeal.τ).loc Cert.RefScoresIdeal.main_arg0) = m ((c.tc : Thread Cert.RefScoresIdeal.nD Cert.RefScoresIdeal.τ).loc Cert.RefScoresIdeal.main_arg0)
      ∧ r.2.mem ((c.tc : Thread Cert.RefScoresIdeal.nD Cert.RefScoresIdeal.τ).loc Cert.RefScoresIdeal.main_arg1) = m ((c.tc : Thread Cert.RefScoresIdeal.nD Cert.RefScoresIdeal.τ).loc Cert.RefScoresIdeal.main_arg1)
      ∧ r.2.mem ((c.tc : Thread Cert.RefScoresIdeal.nD Cert.RefScoresIdeal.τ).loc Cert.RefScoresIdeal.main_arg2) = m ((c.tc : Thread Cert.RefScoresIdeal.nD Cert.RefScoresIdeal.τ).loc Cert.RefScoresIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_RefNormIdeal [hRefNormIdeal : Cert.RefNormIdeal.Facts] : Prop :=
  ∀ (m : (ℓ : Loc Cert.RefNormIdeal.nD Cert.RefNormIdeal.τ Cert.RefNormIdeal.sig) → Buf (Elt Ideal) ℓ) (g : Dev Cert.RefNormIdeal.nD → PrngReg), Pre_RefNormIdeal m →
    θ_run (Cert.RefNormIdeal.defs (F := Ideal)) (onTc (τ := Cert.RefNormIdeal.τ) (Cert.RefNormIdeal.main (F := Ideal))) ⟨m, fun _ => 0, g⟩ (fun r => (∀ c : Dev Cert.RefNormIdeal.nD,
      r.2.mem ((c.tc : Thread Cert.RefNormIdeal.nD Cert.RefNormIdeal.τ).loc Cert.RefNormIdeal.main_arg0) = m ((c.tc : Thread Cert.RefNormIdeal.nD Cert.RefNormIdeal.τ).loc Cert.RefNormIdeal.main_arg0)
      ∧ r.2.mem ((c.tc : Thread Cert.RefNormIdeal.nD Cert.RefNormIdeal.τ).loc Cert.RefNormIdeal.main_arg1) = m ((c.tc : Thread Cert.RefNormIdeal.nD Cert.RefNormIdeal.τ).loc Cert.RefNormIdeal.main_arg1))
      ∧ r.2.sem = fun _ => 0)

def quiescent_CKeysSample [hCKeysSample : Cert.CKeysSample.Facts] : Prop :=
  ∀ (m : (ℓ : Loc Cert.CKeysSample.nD Cert.CKeysSample.τ Cert.CKeysSample.sig) → Buf (Elt Bits) ℓ) (g : Dev Cert.CKeysSample.nD → PrngReg), Pre_CKeysSample m →
    θ_run (Cert.CKeysSample.defs (F := Bits)) (onTc (τ := Cert.CKeysSample.τ) (Cert.CKeysSample.main (F := Bits))) ⟨m, fun _ => 0, g⟩ (fun r => (∀ c : Dev Cert.CKeysSample.nD,
      r.2.mem ((c.tc : Thread Cert.CKeysSample.nD Cert.CKeysSample.τ).loc Cert.CKeysSample.main_arg0) = m ((c.tc : Thread Cert.CKeysSample.nD Cert.CKeysSample.τ).loc Cert.CKeysSample.main_arg0)
      ∧ r.2.mem ((c.tc : Thread Cert.CKeysSample.nD Cert.CKeysSample.τ).loc Cert.CKeysSample.main_arg1) = m ((c.tc : Thread Cert.CKeysSample.nD Cert.CKeysSample.τ).loc Cert.CKeysSample.main_arg1))
      ∧ r.2.sem = fun _ => 0)

def quiescent_CKeysSampleIdeal [hCKeysSampleIdeal : Cert.CKeysSampleIdeal.Facts] : Prop :=
  ∀ (m : (ℓ : Loc Cert.CKeysSampleIdeal.nD Cert.CKeysSampleIdeal.τ Cert.CKeysSampleIdeal.sig) → Buf (Elt Ideal) ℓ) (g : Dev Cert.CKeysSampleIdeal.nD → PrngReg), Pre_CKeysSampleIdeal m →
    θ_run (Cert.CKeysSampleIdeal.defs (F := Ideal)) (onTc (τ := Cert.CKeysSampleIdeal.τ) (Cert.CKeysSampleIdeal.main (F := Ideal))) ⟨m, fun _ => 0, g⟩ (fun r => (∀ c : Dev Cert.CKeysSampleIdeal.nD,
      r.2.mem ((c.tc : Thread Cert.CKeysSampleIdeal.nD Cert.CKeysSampleIdeal.τ).loc Cert.CKeysSampleIdeal.main_arg0) = m ((c.tc : Thread Cert.CKeysSampleIdeal.nD Cert.CKeysSampleIdeal.τ).loc Cert.CKeysSampleIdeal.main_arg0)
      ∧ r.2.mem ((c.tc : Thread Cert.CKeysSampleIdeal.nD Cert.CKeysSampleIdeal.τ).loc Cert.CKeysSampleIdeal.main_arg1) = m ((c.tc : Thread Cert.CKeysSampleIdeal.nD Cert.CKeysSampleIdeal.τ).loc Cert.CKeysSampleIdeal.main_arg1))
      ∧ r.2.sem = fun _ => 0)

def quiescent_RefCKeysSampleIdeal [hRefCKeysSampleIdeal : Cert.RefCKeysSampleIdeal.Facts] : Prop :=
  ∀ (m : (ℓ : Loc Cert.RefCKeysSampleIdeal.nD Cert.RefCKeysSampleIdeal.τ Cert.RefCKeysSampleIdeal.sig) → Buf (Elt Ideal) ℓ) (g : Dev Cert.RefCKeysSampleIdeal.nD → PrngReg), Pre_RefCKeysSampleIdeal m →
    θ_run (Cert.RefCKeysSampleIdeal.defs (F := Ideal)) (onTc (τ := Cert.RefCKeysSampleIdeal.τ) (Cert.RefCKeysSampleIdeal.main (F := Ideal))) ⟨m, fun _ => 0, g⟩ (fun r => (∀ c : Dev Cert.RefCKeysSampleIdeal.nD,
      r.2.mem ((c.tc : Thread Cert.RefCKeysSampleIdeal.nD Cert.RefCKeysSampleIdeal.τ).loc Cert.RefCKeysSampleIdeal.main_arg0) = m ((c.tc : Thread Cert.RefCKeysSampleIdeal.nD Cert.RefCKeysSampleIdeal.τ).loc Cert.RefCKeysSampleIdeal.main_arg0)
      ∧ r.2.mem ((c.tc : Thread Cert.RefCKeysSampleIdeal.nD Cert.RefCKeysSampleIdeal.τ).loc Cert.RefCKeysSampleIdeal.main_arg1) = m ((c.tc : Thread Cert.RefCKeysSampleIdeal.nD Cert.RefCKeysSampleIdeal.τ).loc Cert.RefCKeysSampleIdeal.main_arg1))
      ∧ r.2.sem = fun _ => 0)

def quiescent_CValuesSample [hCValuesSample : Cert.CValuesSample.Facts] : Prop :=
  ∀ (m : (ℓ : Loc Cert.CValuesSample.nD Cert.CValuesSample.τ Cert.CValuesSample.sig) → Buf (Elt Bits) ℓ) (g : Dev Cert.CValuesSample.nD → PrngReg), Pre_CValuesSample m →
    θ_run (Cert.CValuesSample.defs (F := Bits)) (onTc (τ := Cert.CValuesSample.τ) (Cert.CValuesSample.main (F := Bits))) ⟨m, fun _ => 0, g⟩ (fun r => (∀ c : Dev Cert.CValuesSample.nD,
      r.2.mem ((c.tc : Thread Cert.CValuesSample.nD Cert.CValuesSample.τ).loc Cert.CValuesSample.main_arg0) = m ((c.tc : Thread Cert.CValuesSample.nD Cert.CValuesSample.τ).loc Cert.CValuesSample.main_arg0)
      ∧ r.2.mem ((c.tc : Thread Cert.CValuesSample.nD Cert.CValuesSample.τ).loc Cert.CValuesSample.main_arg1) = m ((c.tc : Thread Cert.CValuesSample.nD Cert.CValuesSample.τ).loc Cert.CValuesSample.main_arg1))
      ∧ r.2.sem = fun _ => 0)

def quiescent_CValuesSampleIdeal [hCValuesSampleIdeal : Cert.CValuesSampleIdeal.Facts] : Prop :=
  ∀ (m : (ℓ : Loc Cert.CValuesSampleIdeal.nD Cert.CValuesSampleIdeal.τ Cert.CValuesSampleIdeal.sig) → Buf (Elt Ideal) ℓ) (g : Dev Cert.CValuesSampleIdeal.nD → PrngReg), Pre_CValuesSampleIdeal m →
    θ_run (Cert.CValuesSampleIdeal.defs (F := Ideal)) (onTc (τ := Cert.CValuesSampleIdeal.τ) (Cert.CValuesSampleIdeal.main (F := Ideal))) ⟨m, fun _ => 0, g⟩ (fun r => (∀ c : Dev Cert.CValuesSampleIdeal.nD,
      r.2.mem ((c.tc : Thread Cert.CValuesSampleIdeal.nD Cert.CValuesSampleIdeal.τ).loc Cert.CValuesSampleIdeal.main_arg0) = m ((c.tc : Thread Cert.CValuesSampleIdeal.nD Cert.CValuesSampleIdeal.τ).loc Cert.CValuesSampleIdeal.main_arg0)
      ∧ r.2.mem ((c.tc : Thread Cert.CValuesSampleIdeal.nD Cert.CValuesSampleIdeal.τ).loc Cert.CValuesSampleIdeal.main_arg1) = m ((c.tc : Thread Cert.CValuesSampleIdeal.nD Cert.CValuesSampleIdeal.τ).loc Cert.CValuesSampleIdeal.main_arg1))
      ∧ r.2.sem = fun _ => 0)

def quiescent_RefCValuesSampleIdeal [hRefCValuesSampleIdeal : Cert.RefCValuesSampleIdeal.Facts] : Prop :=
  ∀ (m : (ℓ : Loc Cert.RefCValuesSampleIdeal.nD Cert.RefCValuesSampleIdeal.τ Cert.RefCValuesSampleIdeal.sig) → Buf (Elt Ideal) ℓ) (g : Dev Cert.RefCValuesSampleIdeal.nD → PrngReg), Pre_RefCValuesSampleIdeal m →
    θ_run (Cert.RefCValuesSampleIdeal.defs (F := Ideal)) (onTc (τ := Cert.RefCValuesSampleIdeal.τ) (Cert.RefCValuesSampleIdeal.main (F := Ideal))) ⟨m, fun _ => 0, g⟩ (fun r => (∀ c : Dev Cert.RefCValuesSampleIdeal.nD,
      r.2.mem ((c.tc : Thread Cert.RefCValuesSampleIdeal.nD Cert.RefCValuesSampleIdeal.τ).loc Cert.RefCValuesSampleIdeal.main_arg0) = m ((c.tc : Thread Cert.RefCValuesSampleIdeal.nD Cert.RefCValuesSampleIdeal.τ).loc Cert.RefCValuesSampleIdeal.main_arg0)
      ∧ r.2.mem ((c.tc : Thread Cert.RefCValuesSampleIdeal.nD Cert.RefCValuesSampleIdeal.τ).loc Cert.RefCValuesSampleIdeal.main_arg1) = m ((c.tc : Thread Cert.RefCValuesSampleIdeal.nD Cert.RefCValuesSampleIdeal.τ).loc Cert.RefCValuesSampleIdeal.main_arg1))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ r.2.sem = fun _ => 0)

def quiescent_RefFirstIdeal [hRefFirstIdeal : Cert.RefFirstIdeal.Facts] : Prop :=
  ∀ (m : (ℓ : Loc Cert.RefFirstIdeal.nD Cert.RefFirstIdeal.τ Cert.RefFirstIdeal.sig) → Buf (Elt Ideal) ℓ) (g : Dev Cert.RefFirstIdeal.nD → PrngReg), Pre_RefFirstIdeal m →
    θ_run (Cert.RefFirstIdeal.defs (F := Ideal)) (onTc (τ := Cert.RefFirstIdeal.τ) (Cert.RefFirstIdeal.main (F := Ideal))) ⟨m, fun _ => 0, g⟩ (fun r => (∀ c : Dev Cert.RefFirstIdeal.nD,
      r.2.mem ((c.tc : Thread Cert.RefFirstIdeal.nD Cert.RefFirstIdeal.τ).loc Cert.RefFirstIdeal.main_arg0) = m ((c.tc : Thread Cert.RefFirstIdeal.nD Cert.RefFirstIdeal.τ).loc Cert.RefFirstIdeal.main_arg0)
      ∧ r.2.mem ((c.tc : Thread Cert.RefFirstIdeal.nD Cert.RefFirstIdeal.τ).loc Cert.RefFirstIdeal.main_arg1) = m ((c.tc : Thread Cert.RefFirstIdeal.nD Cert.RefFirstIdeal.τ).loc Cert.RefFirstIdeal.main_arg1)
      ∧ r.2.mem ((c.tc : Thread Cert.RefFirstIdeal.nD Cert.RefFirstIdeal.τ).loc Cert.RefFirstIdeal.main_arg2) = m ((c.tc : Thread Cert.RefFirstIdeal.nD Cert.RefFirstIdeal.τ).loc Cert.RefFirstIdeal.main_arg2)
      ∧ r.2.mem ((c.tc : Thread Cert.RefFirstIdeal.nD Cert.RefFirstIdeal.τ).loc Cert.RefFirstIdeal.main_arg3) = m ((c.tc : Thread Cert.RefFirstIdeal.nD Cert.RefFirstIdeal.τ).loc Cert.RefFirstIdeal.main_arg3)
      ∧ r.2.mem ((c.tc : Thread Cert.RefFirstIdeal.nD Cert.RefFirstIdeal.τ).loc Cert.RefFirstIdeal.main_arg4) = m ((c.tc : Thread Cert.RefFirstIdeal.nD Cert.RefFirstIdeal.τ).loc Cert.RefFirstIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_CKeys_CKeysIdeal : Prop :=
  True

def algebraic_CKeysIdeal_RefCKeysIdeal [hCKeysIdeal : Cert.CKeysIdeal.Facts] [hRefCKeysIdeal : Cert.RefCKeysIdeal.Facts] : Prop :=
  ∀ (m : (ℓ : Loc Cert.CKeysIdeal.nD Cert.CKeysIdeal.τ Cert.CKeysIdeal.sig) → Buf (Elt Ideal) ℓ) (g : Dev Cert.CKeysIdeal.nD → PrngReg)
    (m' : (ℓ : Loc Cert.RefCKeysIdeal.nD Cert.RefCKeysIdeal.τ Cert.RefCKeysIdeal.sig) → Buf (Elt Ideal) ℓ) (g' : Dev Cert.RefCKeysIdeal.nD → PrngReg), Pre_CKeysIdeal m →
    (∀ c : Dev Cert.CKeysIdeal.nD,
      m' ((c.tc : Thread Cert.RefCKeysIdeal.nD Cert.RefCKeysIdeal.τ).loc Cert.RefCKeysIdeal.main_arg0) = m ((c.tc : Thread Cert.CKeysIdeal.nD Cert.CKeysIdeal.τ).loc Cert.CKeysIdeal.main_arg0)
      ∧ m' ((c.tc : Thread Cert.RefCKeysIdeal.nD Cert.RefCKeysIdeal.τ).loc Cert.RefCKeysIdeal.main_arg1) = m ((c.tc : Thread Cert.CKeysIdeal.nD Cert.CKeysIdeal.τ).loc Cert.CKeysIdeal.main_arg1)) →
    ∃ (v0 : (c : Dev Cert.CKeysIdeal.nD) → Buf (Elt Ideal) ((c.tc : Thread Cert.CKeysIdeal.nD Cert.CKeysIdeal.τ).loc Cert.CKeysIdeal.main_v1_0)) (v1 : (c : Dev Cert.CKeysIdeal.nD) → Buf (Elt Ideal) ((c.tc : Thread Cert.CKeysIdeal.nD Cert.CKeysIdeal.τ).loc Cert.CKeysIdeal.main_v1_1)),
      θ_run (Cert.CKeysIdeal.defs (F := Ideal)) (onTc (τ := Cert.CKeysIdeal.τ) (Cert.CKeysIdeal.main (F := Ideal))) ⟨m, fun _ => 0, g⟩ (fun r => ∀ c : Dev Cert.CKeysIdeal.nD,
          r.2.mem ((c.tc : Thread Cert.CKeysIdeal.nD Cert.CKeysIdeal.τ).loc Cert.CKeysIdeal.main_v1_0) = v0 c
          ∧ r.2.mem ((c.tc : Thread Cert.CKeysIdeal.nD Cert.CKeysIdeal.τ).loc Cert.CKeysIdeal.main_v1_1) = v1 c
          ∧ r.2.mem ((c.tc : Thread Cert.CKeysIdeal.nD Cert.CKeysIdeal.τ).loc Cert.CKeysIdeal.main_arg0) = m ((c.tc : Thread Cert.CKeysIdeal.nD Cert.CKeysIdeal.τ).loc Cert.CKeysIdeal.main_arg0)
          ∧ r.2.mem ((c.tc : Thread Cert.CKeysIdeal.nD Cert.CKeysIdeal.τ).loc Cert.CKeysIdeal.main_arg1) = m ((c.tc : Thread Cert.CKeysIdeal.nD Cert.CKeysIdeal.τ).loc Cert.CKeysIdeal.main_arg1))
      ∧ θ_run (Cert.RefCKeysIdeal.defs (F := Ideal)) (onTc (τ := Cert.RefCKeysIdeal.τ) (Cert.RefCKeysIdeal.main (F := Ideal))) ⟨m', fun _ => 0, g'⟩ (fun r => ∀ c : Dev Cert.RefCKeysIdeal.nD,
          r.2.mem ((c.tc : Thread Cert.RefCKeysIdeal.nD Cert.RefCKeysIdeal.τ).loc Cert.RefCKeysIdeal.main_v5) = v0 c
          ∧ r.2.mem ((c.tc : Thread Cert.RefCKeysIdeal.nD Cert.RefCKeysIdeal.τ).loc Cert.RefCKeysIdeal.main_v6) = v1 c
          ∧ r.2.mem ((c.tc : Thread Cert.RefCKeysIdeal.nD Cert.RefCKeysIdeal.τ).loc Cert.RefCKeysIdeal.main_arg0) = m' ((c.tc : Thread Cert.RefCKeysIdeal.nD Cert.RefCKeysIdeal.τ).loc Cert.RefCKeysIdeal.main_arg0)
          ∧ r.2.mem ((c.tc : Thread Cert.RefCKeysIdeal.nD Cert.RefCKeysIdeal.τ).loc Cert.RefCKeysIdeal.main_arg1) = m' ((c.tc : Thread Cert.RefCKeysIdeal.nD Cert.RefCKeysIdeal.τ).loc Cert.RefCKeysIdeal.main_arg1))

def preserves_CValues_CValuesIdeal : Prop :=
  True

def algebraic_CValuesIdeal_RefCValuesIdeal [hCValuesIdeal : Cert.CValuesIdeal.Facts] [hRefCValuesIdeal : Cert.RefCValuesIdeal.Facts] : Prop :=
  ∀ (m : (ℓ : Loc Cert.CValuesIdeal.nD Cert.CValuesIdeal.τ Cert.CValuesIdeal.sig) → Buf (Elt Ideal) ℓ) (g : Dev Cert.CValuesIdeal.nD → PrngReg)
    (m' : (ℓ : Loc Cert.RefCValuesIdeal.nD Cert.RefCValuesIdeal.τ Cert.RefCValuesIdeal.sig) → Buf (Elt Ideal) ℓ) (g' : Dev Cert.RefCValuesIdeal.nD → PrngReg), Pre_CValuesIdeal m →
    (∀ c : Dev Cert.CValuesIdeal.nD,
      m' ((c.tc : Thread Cert.RefCValuesIdeal.nD Cert.RefCValuesIdeal.τ).loc Cert.RefCValuesIdeal.main_arg0) = m ((c.tc : Thread Cert.CValuesIdeal.nD Cert.CValuesIdeal.τ).loc Cert.CValuesIdeal.main_arg0)
      ∧ m' ((c.tc : Thread Cert.RefCValuesIdeal.nD Cert.RefCValuesIdeal.τ).loc Cert.RefCValuesIdeal.main_arg1) = m ((c.tc : Thread Cert.CValuesIdeal.nD Cert.CValuesIdeal.τ).loc Cert.CValuesIdeal.main_arg1)) →
    ∃ (v0 : (c : Dev Cert.CValuesIdeal.nD) → Buf (Elt Ideal) ((c.tc : Thread Cert.CValuesIdeal.nD Cert.CValuesIdeal.τ).loc Cert.CValuesIdeal.main_v1_0)) (v1 : (c : Dev Cert.CValuesIdeal.nD) → Buf (Elt Ideal) ((c.tc : Thread Cert.CValuesIdeal.nD Cert.CValuesIdeal.τ).loc Cert.CValuesIdeal.main_v1_1)),
      θ_run (Cert.CValuesIdeal.defs (F := Ideal)) (onTc (τ := Cert.CValuesIdeal.τ) (Cert.CValuesIdeal.main (F := Ideal))) ⟨m, fun _ => 0, g⟩ (fun r => ∀ c : Dev Cert.CValuesIdeal.nD,
          r.2.mem ((c.tc : Thread Cert.CValuesIdeal.nD Cert.CValuesIdeal.τ).loc Cert.CValuesIdeal.main_v1_0) = v0 c
          ∧ r.2.mem ((c.tc : Thread Cert.CValuesIdeal.nD Cert.CValuesIdeal.τ).loc Cert.CValuesIdeal.main_v1_1) = v1 c
          ∧ r.2.mem ((c.tc : Thread Cert.CValuesIdeal.nD Cert.CValuesIdeal.τ).loc Cert.CValuesIdeal.main_arg0) = m ((c.tc : Thread Cert.CValuesIdeal.nD Cert.CValuesIdeal.τ).loc Cert.CValuesIdeal.main_arg0)
          ∧ r.2.mem ((c.tc : Thread Cert.CValuesIdeal.nD Cert.CValuesIdeal.τ).loc Cert.CValuesIdeal.main_arg1) = m ((c.tc : Thread Cert.CValuesIdeal.nD Cert.CValuesIdeal.τ).loc Cert.CValuesIdeal.main_arg1))
      ∧ θ_run (Cert.RefCValuesIdeal.defs (F := Ideal)) (onTc (τ := Cert.RefCValuesIdeal.τ) (Cert.RefCValuesIdeal.main (F := Ideal))) ⟨m', fun _ => 0, g'⟩ (fun r => ∀ c : Dev Cert.RefCValuesIdeal.nD,
          r.2.mem ((c.tc : Thread Cert.RefCValuesIdeal.nD Cert.RefCValuesIdeal.τ).loc Cert.RefCValuesIdeal.main_v5) = v0 c
          ∧ r.2.mem ((c.tc : Thread Cert.RefCValuesIdeal.nD Cert.RefCValuesIdeal.τ).loc Cert.RefCValuesIdeal.main_v6) = v1 c
          ∧ r.2.mem ((c.tc : Thread Cert.RefCValuesIdeal.nD Cert.RefCValuesIdeal.τ).loc Cert.RefCValuesIdeal.main_arg0) = m' ((c.tc : Thread Cert.RefCValuesIdeal.nD Cert.RefCValuesIdeal.τ).loc Cert.RefCValuesIdeal.main_arg0)
          ∧ r.2.mem ((c.tc : Thread Cert.RefCValuesIdeal.nD Cert.RefCValuesIdeal.τ).loc Cert.RefCValuesIdeal.main_arg1) = m' ((c.tc : Thread Cert.RefCValuesIdeal.nD Cert.RefCValuesIdeal.τ).loc Cert.RefCValuesIdeal.main_arg1))

def preserves_CQueries_CQueriesIdeal : Prop :=
  True

def algebraic_CQueriesIdeal_RefCQueriesIdeal [hCQueriesIdeal : Cert.CQueriesIdeal.Facts] [hRefCQueriesIdeal : Cert.RefCQueriesIdeal.Facts] : Prop :=
  ∀ (m : (ℓ : Loc Cert.CQueriesIdeal.nD Cert.CQueriesIdeal.τ Cert.CQueriesIdeal.sig) → Buf (Elt Ideal) ℓ) (g : Dev Cert.CQueriesIdeal.nD → PrngReg)
    (m' : (ℓ : Loc Cert.RefCQueriesIdeal.nD Cert.RefCQueriesIdeal.τ Cert.RefCQueriesIdeal.sig) → Buf (Elt Ideal) ℓ) (g' : Dev Cert.RefCQueriesIdeal.nD → PrngReg), Pre_CQueriesIdeal m →
    (∀ c : Dev Cert.CQueriesIdeal.nD,
      m' ((c.tc : Thread Cert.RefCQueriesIdeal.nD Cert.RefCQueriesIdeal.τ).loc Cert.RefCQueriesIdeal.main_arg0) = m ((c.tc : Thread Cert.CQueriesIdeal.nD Cert.CQueriesIdeal.τ).loc Cert.CQueriesIdeal.main_arg0)
      ∧ m' ((c.tc : Thread Cert.RefCQueriesIdeal.nD Cert.RefCQueriesIdeal.τ).loc Cert.RefCQueriesIdeal.main_arg1) = m ((c.tc : Thread Cert.CQueriesIdeal.nD Cert.CQueriesIdeal.τ).loc Cert.CQueriesIdeal.main_arg1)) →
    ∃ (v0 : (c : Dev Cert.CQueriesIdeal.nD) → Buf (Elt Ideal) ((c.tc : Thread Cert.CQueriesIdeal.nD Cert.CQueriesIdeal.τ).loc Cert.CQueriesIdeal.main_v1)),
      θ_run (Cert.CQueriesIdeal.defs (F := Ideal)) (onTc (τ := Cert.CQueriesIdeal.τ) (Cert.CQueriesIdeal.main (F := Ideal))) ⟨m, fun _ => 0, g⟩ (fun r => ∀ c : Dev Cert.CQueriesIdeal.nD,
          r.2.mem ((c.tc : Thread Cert.CQueriesIdeal.nD Cert.CQueriesIdeal.τ).loc Cert.CQueriesIdeal.main_v1) = v0 c
          ∧ r.2.mem ((c.tc : Thread Cert.CQueriesIdeal.nD Cert.CQueriesIdeal.τ).loc Cert.CQueriesIdeal.main_arg0) = m ((c.tc : Thread Cert.CQueriesIdeal.nD Cert.CQueriesIdeal.τ).loc Cert.CQueriesIdeal.main_arg0)
          ∧ r.2.mem ((c.tc : Thread Cert.CQueriesIdeal.nD Cert.CQueriesIdeal.τ).loc Cert.CQueriesIdeal.main_arg1) = m ((c.tc : Thread Cert.CQueriesIdeal.nD Cert.CQueriesIdeal.τ).loc Cert.CQueriesIdeal.main_arg1))
      ∧ θ_run (Cert.RefCQueriesIdeal.defs (F := Ideal)) (onTc (τ := Cert.RefCQueriesIdeal.τ) (Cert.RefCQueriesIdeal.main (F := Ideal))) ⟨m', fun _ => 0, g'⟩ (fun r => ∀ c : Dev Cert.RefCQueriesIdeal.nD,
          r.2.mem ((c.tc : Thread Cert.RefCQueriesIdeal.nD Cert.RefCQueriesIdeal.τ).loc Cert.RefCQueriesIdeal.main_v4) = v0 c
          ∧ r.2.mem ((c.tc : Thread Cert.RefCQueriesIdeal.nD Cert.RefCQueriesIdeal.τ).loc Cert.RefCQueriesIdeal.main_arg0) = m' ((c.tc : Thread Cert.RefCQueriesIdeal.nD Cert.RefCQueriesIdeal.τ).loc Cert.RefCQueriesIdeal.main_arg0)
          ∧ r.2.mem ((c.tc : Thread Cert.RefCQueriesIdeal.nD Cert.RefCQueriesIdeal.τ).loc Cert.RefCQueriesIdeal.main_arg1) = m' ((c.tc : Thread Cert.RefCQueriesIdeal.nD Cert.RefCQueriesIdeal.τ).loc Cert.RefCQueriesIdeal.main_arg1))

def preserves_AQueries_AQueriesIdeal : Prop :=
  True

def algebraic_AQueriesIdeal_RefAQueriesIdeal [hAQueriesIdeal : Cert.AQueriesIdeal.Facts] [hRefAQueriesIdeal : Cert.RefAQueriesIdeal.Facts] : Prop :=
  ∀ (m : (ℓ : Loc Cert.AQueriesIdeal.nD Cert.AQueriesIdeal.τ Cert.AQueriesIdeal.sig) → Buf (Elt Ideal) ℓ) (g : Dev Cert.AQueriesIdeal.nD → PrngReg)
    (m' : (ℓ : Loc Cert.RefAQueriesIdeal.nD Cert.RefAQueriesIdeal.τ Cert.RefAQueriesIdeal.sig) → Buf (Elt Ideal) ℓ) (g' : Dev Cert.RefAQueriesIdeal.nD → PrngReg), Pre_AQueriesIdeal m →
    (∀ c : Dev Cert.AQueriesIdeal.nD,
      m' ((c.tc : Thread Cert.RefAQueriesIdeal.nD Cert.RefAQueriesIdeal.τ).loc Cert.RefAQueriesIdeal.main_arg0) = m ((c.tc : Thread Cert.AQueriesIdeal.nD Cert.AQueriesIdeal.τ).loc Cert.AQueriesIdeal.main_arg0)
      ∧ m' ((c.tc : Thread Cert.RefAQueriesIdeal.nD Cert.RefAQueriesIdeal.τ).loc Cert.RefAQueriesIdeal.main_arg1) = m ((c.tc : Thread Cert.AQueriesIdeal.nD Cert.AQueriesIdeal.τ).loc Cert.AQueriesIdeal.main_arg1)
      ∧ m' ((c.tc : Thread Cert.RefAQueriesIdeal.nD Cert.RefAQueriesIdeal.τ).loc Cert.RefAQueriesIdeal.main_arg2) = m ((c.tc : Thread Cert.AQueriesIdeal.nD Cert.AQueriesIdeal.τ).loc Cert.AQueriesIdeal.main_arg2)) →
    ∃ (v0 : (c : Dev Cert.AQueriesIdeal.nD) → Buf (Elt Ideal) ((c.tc : Thread Cert.AQueriesIdeal.nD Cert.AQueriesIdeal.τ).loc Cert.AQueriesIdeal.main_v3)),
      θ_run (Cert.AQueriesIdeal.defs (F := Ideal)) (onTc (τ := Cert.AQueriesIdeal.τ) (Cert.AQueriesIdeal.main (F := Ideal))) ⟨m, fun _ => 0, g⟩ (fun r => ∀ c : Dev Cert.AQueriesIdeal.nD,
          r.2.mem ((c.tc : Thread Cert.AQueriesIdeal.nD Cert.AQueriesIdeal.τ).loc Cert.AQueriesIdeal.main_v3) = v0 c
          ∧ r.2.mem ((c.tc : Thread Cert.AQueriesIdeal.nD Cert.AQueriesIdeal.τ).loc Cert.AQueriesIdeal.main_arg0) = m ((c.tc : Thread Cert.AQueriesIdeal.nD Cert.AQueriesIdeal.τ).loc Cert.AQueriesIdeal.main_arg0)
          ∧ r.2.mem ((c.tc : Thread Cert.AQueriesIdeal.nD Cert.AQueriesIdeal.τ).loc Cert.AQueriesIdeal.main_arg1) = m ((c.tc : Thread Cert.AQueriesIdeal.nD Cert.AQueriesIdeal.τ).loc Cert.AQueriesIdeal.main_arg1)
          ∧ r.2.mem ((c.tc : Thread Cert.AQueriesIdeal.nD Cert.AQueriesIdeal.τ).loc Cert.AQueriesIdeal.main_arg2) = m ((c.tc : Thread Cert.AQueriesIdeal.nD Cert.AQueriesIdeal.τ).loc Cert.AQueriesIdeal.main_arg2))
      ∧ θ_run (Cert.RefAQueriesIdeal.defs (F := Ideal)) (onTc (τ := Cert.RefAQueriesIdeal.τ) (Cert.RefAQueriesIdeal.main (F := Ideal))) ⟨m', fun _ => 0, g'⟩ (fun r => ∀ c : Dev Cert.RefAQueriesIdeal.nD,
          r.2.mem ((c.tc : Thread Cert.RefAQueriesIdeal.nD Cert.RefAQueriesIdeal.τ).loc Cert.RefAQueriesIdeal.main_v20) = v0 c
          ∧ r.2.mem ((c.tc : Thread Cert.RefAQueriesIdeal.nD Cert.RefAQueriesIdeal.τ).loc Cert.RefAQueriesIdeal.main_arg0) = m' ((c.tc : Thread Cert.RefAQueriesIdeal.nD Cert.RefAQueriesIdeal.τ).loc Cert.RefAQueriesIdeal.main_arg0)
          ∧ r.2.mem ((c.tc : Thread Cert.RefAQueriesIdeal.nD Cert.RefAQueriesIdeal.τ).loc Cert.RefAQueriesIdeal.main_arg1) = m' ((c.tc : Thread Cert.RefAQueriesIdeal.nD Cert.RefAQueriesIdeal.τ).loc Cert.RefAQueriesIdeal.main_arg1)
          ∧ r.2.mem ((c.tc : Thread Cert.RefAQueriesIdeal.nD Cert.RefAQueriesIdeal.τ).loc Cert.RefAQueriesIdeal.main_arg2) = m' ((c.tc : Thread Cert.RefAQueriesIdeal.nD Cert.RefAQueriesIdeal.τ).loc Cert.RefAQueriesIdeal.main_arg2))

def preserves_AKeys_AKeysIdeal : Prop :=
  True

def algebraic_AKeysIdeal_RefAKeysIdeal [hAKeysIdeal : Cert.AKeysIdeal.Facts] [hRefAKeysIdeal : Cert.RefAKeysIdeal.Facts] : Prop :=
  ∀ (m : (ℓ : Loc Cert.AKeysIdeal.nD Cert.AKeysIdeal.τ Cert.AKeysIdeal.sig) → Buf (Elt Ideal) ℓ) (g : Dev Cert.AKeysIdeal.nD → PrngReg)
    (m' : (ℓ : Loc Cert.RefAKeysIdeal.nD Cert.RefAKeysIdeal.τ Cert.RefAKeysIdeal.sig) → Buf (Elt Ideal) ℓ) (g' : Dev Cert.RefAKeysIdeal.nD → PrngReg), Pre_AKeysIdeal m →
    (∀ c : Dev Cert.AKeysIdeal.nD,
      m' ((c.tc : Thread Cert.RefAKeysIdeal.nD Cert.RefAKeysIdeal.τ).loc Cert.RefAKeysIdeal.main_arg0) = m ((c.tc : Thread Cert.AKeysIdeal.nD Cert.AKeysIdeal.τ).loc Cert.AKeysIdeal.main_arg0)
      ∧ m' ((c.tc : Thread Cert.RefAKeysIdeal.nD Cert.RefAKeysIdeal.τ).loc Cert.RefAKeysIdeal.main_arg1) = m ((c.tc : Thread Cert.AKeysIdeal.nD Cert.AKeysIdeal.τ).loc Cert.AKeysIdeal.main_arg1)
      ∧ m' ((c.tc : Thread Cert.RefAKeysIdeal.nD Cert.RefAKeysIdeal.τ).loc Cert.RefAKeysIdeal.main_arg2) = m ((c.tc : Thread Cert.AKeysIdeal.nD Cert.AKeysIdeal.τ).loc Cert.AKeysIdeal.main_arg2)) →
    ∃ (v0 : (c : Dev Cert.AKeysIdeal.nD) → Buf (Elt Ideal) ((c.tc : Thread Cert.AKeysIdeal.nD Cert.AKeysIdeal.τ).loc Cert.AKeysIdeal.main_v3)),
      θ_run (Cert.AKeysIdeal.defs (F := Ideal)) (onTc (τ := Cert.AKeysIdeal.τ) (Cert.AKeysIdeal.main (F := Ideal))) ⟨m, fun _ => 0, g⟩ (fun r => ∀ c : Dev Cert.AKeysIdeal.nD,
          r.2.mem ((c.tc : Thread Cert.AKeysIdeal.nD Cert.AKeysIdeal.τ).loc Cert.AKeysIdeal.main_v3) = v0 c
          ∧ r.2.mem ((c.tc : Thread Cert.AKeysIdeal.nD Cert.AKeysIdeal.τ).loc Cert.AKeysIdeal.main_arg0) = m ((c.tc : Thread Cert.AKeysIdeal.nD Cert.AKeysIdeal.τ).loc Cert.AKeysIdeal.main_arg0)
          ∧ r.2.mem ((c.tc : Thread Cert.AKeysIdeal.nD Cert.AKeysIdeal.τ).loc Cert.AKeysIdeal.main_arg1) = m ((c.tc : Thread Cert.AKeysIdeal.nD Cert.AKeysIdeal.τ).loc Cert.AKeysIdeal.main_arg1)
          ∧ r.2.mem ((c.tc : Thread Cert.AKeysIdeal.nD Cert.AKeysIdeal.τ).loc Cert.AKeysIdeal.main_arg2) = m ((c.tc : Thread Cert.AKeysIdeal.nD Cert.AKeysIdeal.τ).loc Cert.AKeysIdeal.main_arg2))
      ∧ θ_run (Cert.RefAKeysIdeal.defs (F := Ideal)) (onTc (τ := Cert.RefAKeysIdeal.τ) (Cert.RefAKeysIdeal.main (F := Ideal))) ⟨m', fun _ => 0, g'⟩ (fun r => ∀ c : Dev Cert.RefAKeysIdeal.nD,
          r.2.mem ((c.tc : Thread Cert.RefAKeysIdeal.nD Cert.RefAKeysIdeal.τ).loc Cert.RefAKeysIdeal.main_v19) = v0 c
          ∧ r.2.mem ((c.tc : Thread Cert.RefAKeysIdeal.nD Cert.RefAKeysIdeal.τ).loc Cert.RefAKeysIdeal.main_arg0) = m' ((c.tc : Thread Cert.RefAKeysIdeal.nD Cert.RefAKeysIdeal.τ).loc Cert.RefAKeysIdeal.main_arg0)
          ∧ r.2.mem ((c.tc : Thread Cert.RefAKeysIdeal.nD Cert.RefAKeysIdeal.τ).loc Cert.RefAKeysIdeal.main_arg1) = m' ((c.tc : Thread Cert.RefAKeysIdeal.nD Cert.RefAKeysIdeal.τ).loc Cert.RefAKeysIdeal.main_arg1)
          ∧ r.2.mem ((c.tc : Thread Cert.RefAKeysIdeal.nD Cert.RefAKeysIdeal.τ).loc Cert.RefAKeysIdeal.main_arg2) = m' ((c.tc : Thread Cert.RefAKeysIdeal.nD Cert.RefAKeysIdeal.τ).loc Cert.RefAKeysIdeal.main_arg2))

def preserves_AValues_AValuesIdeal : Prop :=
  True

def algebraic_AValuesIdeal_RefAValuesIdeal [hAValuesIdeal : Cert.AValuesIdeal.Facts] [hRefAValuesIdeal : Cert.RefAValuesIdeal.Facts] : Prop :=
  ∀ (m : (ℓ : Loc Cert.AValuesIdeal.nD Cert.AValuesIdeal.τ Cert.AValuesIdeal.sig) → Buf (Elt Ideal) ℓ) (g : Dev Cert.AValuesIdeal.nD → PrngReg)
    (m' : (ℓ : Loc Cert.RefAValuesIdeal.nD Cert.RefAValuesIdeal.τ Cert.RefAValuesIdeal.sig) → Buf (Elt Ideal) ℓ) (g' : Dev Cert.RefAValuesIdeal.nD → PrngReg), Pre_AValuesIdeal m →
    (∀ c : Dev Cert.AValuesIdeal.nD,
      m' ((c.tc : Thread Cert.RefAValuesIdeal.nD Cert.RefAValuesIdeal.τ).loc Cert.RefAValuesIdeal.main_arg0) = m ((c.tc : Thread Cert.AValuesIdeal.nD Cert.AValuesIdeal.τ).loc Cert.AValuesIdeal.main_arg0)
      ∧ m' ((c.tc : Thread Cert.RefAValuesIdeal.nD Cert.RefAValuesIdeal.τ).loc Cert.RefAValuesIdeal.main_arg1) = m ((c.tc : Thread Cert.AValuesIdeal.nD Cert.AValuesIdeal.τ).loc Cert.AValuesIdeal.main_arg1)) →
    ∃ (v0 : (c : Dev Cert.AValuesIdeal.nD) → Buf (Elt Ideal) ((c.tc : Thread Cert.AValuesIdeal.nD Cert.AValuesIdeal.τ).loc Cert.AValuesIdeal.main_v1)),
      θ_run (Cert.AValuesIdeal.defs (F := Ideal)) (onTc (τ := Cert.AValuesIdeal.τ) (Cert.AValuesIdeal.main (F := Ideal))) ⟨m, fun _ => 0, g⟩ (fun r => ∀ c : Dev Cert.AValuesIdeal.nD,
          r.2.mem ((c.tc : Thread Cert.AValuesIdeal.nD Cert.AValuesIdeal.τ).loc Cert.AValuesIdeal.main_v1) = v0 c
          ∧ r.2.mem ((c.tc : Thread Cert.AValuesIdeal.nD Cert.AValuesIdeal.τ).loc Cert.AValuesIdeal.main_arg0) = m ((c.tc : Thread Cert.AValuesIdeal.nD Cert.AValuesIdeal.τ).loc Cert.AValuesIdeal.main_arg0)
          ∧ r.2.mem ((c.tc : Thread Cert.AValuesIdeal.nD Cert.AValuesIdeal.τ).loc Cert.AValuesIdeal.main_arg1) = m ((c.tc : Thread Cert.AValuesIdeal.nD Cert.AValuesIdeal.τ).loc Cert.AValuesIdeal.main_arg1))
      ∧ θ_run (Cert.RefAValuesIdeal.defs (F := Ideal)) (onTc (τ := Cert.RefAValuesIdeal.τ) (Cert.RefAValuesIdeal.main (F := Ideal))) ⟨m', fun _ => 0, g'⟩ (fun r => ∀ c : Dev Cert.RefAValuesIdeal.nD,
          r.2.mem ((c.tc : Thread Cert.RefAValuesIdeal.nD Cert.RefAValuesIdeal.τ).loc Cert.RefAValuesIdeal.main_v3) = v0 c
          ∧ r.2.mem ((c.tc : Thread Cert.RefAValuesIdeal.nD Cert.RefAValuesIdeal.τ).loc Cert.RefAValuesIdeal.main_arg0) = m' ((c.tc : Thread Cert.RefAValuesIdeal.nD Cert.RefAValuesIdeal.τ).loc Cert.RefAValuesIdeal.main_arg0)
          ∧ r.2.mem ((c.tc : Thread Cert.RefAValuesIdeal.nD Cert.RefAValuesIdeal.τ).loc Cert.RefAValuesIdeal.main_arg1) = m' ((c.tc : Thread Cert.RefAValuesIdeal.nD Cert.RefAValuesIdeal.τ).loc Cert.RefAValuesIdeal.main_arg1))

def preserves_BInputs_BInputsIdeal : Prop :=
  True

def algebraic_BInputsIdeal_RefBInputsIdeal [hBInputsIdeal : Cert.BInputsIdeal.Facts] [hRefBInputsIdeal : Cert.RefBInputsIdeal.Facts] : Prop :=
  ∀ (m : (ℓ : Loc Cert.BInputsIdeal.nD Cert.BInputsIdeal.τ Cert.BInputsIdeal.sig) → Buf (Elt Ideal) ℓ) (g : Dev Cert.BInputsIdeal.nD → PrngReg)
    (m' : (ℓ : Loc Cert.RefBInputsIdeal.nD Cert.RefBInputsIdeal.τ Cert.RefBInputsIdeal.sig) → Buf (Elt Ideal) ℓ) (g' : Dev Cert.RefBInputsIdeal.nD → PrngReg), Pre_BInputsIdeal m →
    (∀ c : Dev Cert.BInputsIdeal.nD,
      m' ((c.tc : Thread Cert.RefBInputsIdeal.nD Cert.RefBInputsIdeal.τ).loc Cert.RefBInputsIdeal.main_arg0) = m ((c.tc : Thread Cert.BInputsIdeal.nD Cert.BInputsIdeal.τ).loc Cert.BInputsIdeal.main_arg0)
      ∧ m' ((c.tc : Thread Cert.RefBInputsIdeal.nD Cert.RefBInputsIdeal.τ).loc Cert.RefBInputsIdeal.main_arg1) = m ((c.tc : Thread Cert.BInputsIdeal.nD Cert.BInputsIdeal.τ).loc Cert.BInputsIdeal.main_arg1)) →
    ∃ (v0 : (c : Dev Cert.BInputsIdeal.nD) → Buf (Elt Ideal) ((c.tc : Thread Cert.BInputsIdeal.nD Cert.BInputsIdeal.τ).loc Cert.BInputsIdeal.main_v1)),
      θ_run (Cert.BInputsIdeal.defs (F := Ideal)) (onTc (τ := Cert.BInputsIdeal.τ) (Cert.BInputsIdeal.main (F := Ideal))) ⟨m, fun _ => 0, g⟩ (fun r => ∀ c : Dev Cert.BInputsIdeal.nD,
          r.2.mem ((c.tc : Thread Cert.BInputsIdeal.nD Cert.BInputsIdeal.τ).loc Cert.BInputsIdeal.main_v1) = v0 c
          ∧ r.2.mem ((c.tc : Thread Cert.BInputsIdeal.nD Cert.BInputsIdeal.τ).loc Cert.BInputsIdeal.main_arg0) = m ((c.tc : Thread Cert.BInputsIdeal.nD Cert.BInputsIdeal.τ).loc Cert.BInputsIdeal.main_arg0)
          ∧ r.2.mem ((c.tc : Thread Cert.BInputsIdeal.nD Cert.BInputsIdeal.τ).loc Cert.BInputsIdeal.main_arg1) = m ((c.tc : Thread Cert.BInputsIdeal.nD Cert.BInputsIdeal.τ).loc Cert.BInputsIdeal.main_arg1))
      ∧ θ_run (Cert.RefBInputsIdeal.defs (F := Ideal)) (onTc (τ := Cert.RefBInputsIdeal.τ) (Cert.RefBInputsIdeal.main (F := Ideal))) ⟨m', fun _ => 0, g'⟩ (fun r => ∀ c : Dev Cert.RefBInputsIdeal.nD,
          r.2.mem ((c.tc : Thread Cert.RefBInputsIdeal.nD Cert.RefBInputsIdeal.τ).loc Cert.RefBInputsIdeal.main_v3) = v0 c
          ∧ r.2.mem ((c.tc : Thread Cert.RefBInputsIdeal.nD Cert.RefBInputsIdeal.τ).loc Cert.RefBInputsIdeal.main_arg0) = m' ((c.tc : Thread Cert.RefBInputsIdeal.nD Cert.RefBInputsIdeal.τ).loc Cert.RefBInputsIdeal.main_arg0)
          ∧ r.2.mem ((c.tc : Thread Cert.RefBInputsIdeal.nD Cert.RefBInputsIdeal.τ).loc Cert.RefBInputsIdeal.main_arg1) = m' ((c.tc : Thread Cert.RefBInputsIdeal.nD Cert.RefBInputsIdeal.τ).loc Cert.RefBInputsIdeal.main_arg1))

def preserves_AOutput_AOutputIdeal : Prop :=
  True

def algebraic_AOutputIdeal_RefAOutputIdeal [hAOutputIdeal : Cert.AOutputIdeal.Facts] [hRefAOutputIdeal : Cert.RefAOutputIdeal.Facts] : Prop :=
  ∀ (m : (ℓ : Loc Cert.AOutputIdeal.nD Cert.AOutputIdeal.τ Cert.AOutputIdeal.sig) → Buf (Elt Ideal) ℓ) (g : Dev Cert.AOutputIdeal.nD → PrngReg)
    (m' : (ℓ : Loc Cert.RefAOutputIdeal.nD Cert.RefAOutputIdeal.τ Cert.RefAOutputIdeal.sig) → Buf (Elt Ideal) ℓ) (g' : Dev Cert.RefAOutputIdeal.nD → PrngReg), Pre_AOutputIdeal m →
    (∀ c : Dev Cert.AOutputIdeal.nD,
      m' ((c.tc : Thread Cert.RefAOutputIdeal.nD Cert.RefAOutputIdeal.τ).loc Cert.RefAOutputIdeal.main_arg0) = m ((c.tc : Thread Cert.AOutputIdeal.nD Cert.AOutputIdeal.τ).loc Cert.AOutputIdeal.main_arg0)
      ∧ m' ((c.tc : Thread Cert.RefAOutputIdeal.nD Cert.RefAOutputIdeal.τ).loc Cert.RefAOutputIdeal.main_arg1) = m ((c.tc : Thread Cert.AOutputIdeal.nD Cert.AOutputIdeal.τ).loc Cert.AOutputIdeal.main_arg1)
      ∧ m' ((c.tc : Thread Cert.RefAOutputIdeal.nD Cert.RefAOutputIdeal.τ).loc Cert.RefAOutputIdeal.main_arg2) = m ((c.tc : Thread Cert.AOutputIdeal.nD Cert.AOutputIdeal.τ).loc Cert.AOutputIdeal.main_arg2)
      ∧ m' ((c.tc : Thread Cert.RefAOutputIdeal.nD Cert.RefAOutputIdeal.τ).loc Cert.RefAOutputIdeal.main_arg3) = m ((c.tc : Thread Cert.AOutputIdeal.nD Cert.AOutputIdeal.τ).loc Cert.AOutputIdeal.main_arg3)) →
    ∃ (v0 : (c : Dev Cert.AOutputIdeal.nD) → Buf (Elt Ideal) ((c.tc : Thread Cert.AOutputIdeal.nD Cert.AOutputIdeal.τ).loc Cert.AOutputIdeal.main_v1)),
      θ_run (Cert.AOutputIdeal.defs (F := Ideal)) (onTc (τ := Cert.AOutputIdeal.τ) (Cert.AOutputIdeal.main (F := Ideal))) ⟨m, fun _ => 0, g⟩ (fun r => ∀ c : Dev Cert.AOutputIdeal.nD,
          r.2.mem ((c.tc : Thread Cert.AOutputIdeal.nD Cert.AOutputIdeal.τ).loc Cert.AOutputIdeal.main_v1) = v0 c
          ∧ r.2.mem ((c.tc : Thread Cert.AOutputIdeal.nD Cert.AOutputIdeal.τ).loc Cert.AOutputIdeal.main_arg0) = m ((c.tc : Thread Cert.AOutputIdeal.nD Cert.AOutputIdeal.τ).loc Cert.AOutputIdeal.main_arg0)
          ∧ r.2.mem ((c.tc : Thread Cert.AOutputIdeal.nD Cert.AOutputIdeal.τ).loc Cert.AOutputIdeal.main_arg1) = m ((c.tc : Thread Cert.AOutputIdeal.nD Cert.AOutputIdeal.τ).loc Cert.AOutputIdeal.main_arg1)
          ∧ r.2.mem ((c.tc : Thread Cert.AOutputIdeal.nD Cert.AOutputIdeal.τ).loc Cert.AOutputIdeal.main_arg2) = m ((c.tc : Thread Cert.AOutputIdeal.nD Cert.AOutputIdeal.τ).loc Cert.AOutputIdeal.main_arg2)
          ∧ r.2.mem ((c.tc : Thread Cert.AOutputIdeal.nD Cert.AOutputIdeal.τ).loc Cert.AOutputIdeal.main_arg3) = m ((c.tc : Thread Cert.AOutputIdeal.nD Cert.AOutputIdeal.τ).loc Cert.AOutputIdeal.main_arg3))
      ∧ θ_run (Cert.RefAOutputIdeal.defs (F := Ideal)) (onTc (τ := Cert.RefAOutputIdeal.τ) (Cert.RefAOutputIdeal.main (F := Ideal))) ⟨m', fun _ => 0, g'⟩ (fun r => ∀ c : Dev Cert.RefAOutputIdeal.nD,
          r.2.mem ((c.tc : Thread Cert.RefAOutputIdeal.nD Cert.RefAOutputIdeal.τ).loc Cert.RefAOutputIdeal.main_v5) = v0 c
          ∧ r.2.mem ((c.tc : Thread Cert.RefAOutputIdeal.nD Cert.RefAOutputIdeal.τ).loc Cert.RefAOutputIdeal.main_arg0) = m' ((c.tc : Thread Cert.RefAOutputIdeal.nD Cert.RefAOutputIdeal.τ).loc Cert.RefAOutputIdeal.main_arg0)
          ∧ r.2.mem ((c.tc : Thread Cert.RefAOutputIdeal.nD Cert.RefAOutputIdeal.τ).loc Cert.RefAOutputIdeal.main_arg1) = m' ((c.tc : Thread Cert.RefAOutputIdeal.nD Cert.RefAOutputIdeal.τ).loc Cert.RefAOutputIdeal.main_arg1)
          ∧ r.2.mem ((c.tc : Thread Cert.RefAOutputIdeal.nD Cert.RefAOutputIdeal.τ).loc Cert.RefAOutputIdeal.main_arg2) = m' ((c.tc : Thread Cert.RefAOutputIdeal.nD Cert.RefAOutputIdeal.τ).loc Cert.RefAOutputIdeal.main_arg2)
          ∧ r.2.mem ((c.tc : Thread Cert.RefAOutputIdeal.nD Cert.RefAOutputIdeal.τ).loc Cert.RefAOutputIdeal.main_arg3) = m' ((c.tc : Thread Cert.RefAOutputIdeal.nD Cert.RefAOutputIdeal.τ).loc Cert.RefAOutputIdeal.main_arg3))

def preserves_COutput_COutputIdeal : Prop :=
  True

def algebraic_COutputIdeal_RefCOutputIdeal [hCOutputIdeal : Cert.COutputIdeal.Facts] [hRefCOutputIdeal : Cert.RefCOutputIdeal.Facts] : Prop :=
  ∀ (m : (ℓ : Loc Cert.COutputIdeal.nD Cert.COutputIdeal.τ Cert.COutputIdeal.sig) → Buf (Elt Ideal) ℓ) (g : Dev Cert.COutputIdeal.nD → PrngReg)
    (m' : (ℓ : Loc Cert.RefCOutputIdeal.nD Cert.RefCOutputIdeal.τ Cert.RefCOutputIdeal.sig) → Buf (Elt Ideal) ℓ) (g' : Dev Cert.RefCOutputIdeal.nD → PrngReg), Pre_COutputIdeal m →
    (∀ c : Dev Cert.COutputIdeal.nD,
      m' ((c.tc : Thread Cert.RefCOutputIdeal.nD Cert.RefCOutputIdeal.τ).loc Cert.RefCOutputIdeal.main_arg0) = m ((c.tc : Thread Cert.COutputIdeal.nD Cert.COutputIdeal.τ).loc Cert.COutputIdeal.main_arg0)
      ∧ m' ((c.tc : Thread Cert.RefCOutputIdeal.nD Cert.RefCOutputIdeal.τ).loc Cert.RefCOutputIdeal.main_arg1) = m ((c.tc : Thread Cert.COutputIdeal.nD Cert.COutputIdeal.τ).loc Cert.COutputIdeal.main_arg1)
      ∧ m' ((c.tc : Thread Cert.RefCOutputIdeal.nD Cert.RefCOutputIdeal.τ).loc Cert.RefCOutputIdeal.main_arg2) = m ((c.tc : Thread Cert.COutputIdeal.nD Cert.COutputIdeal.τ).loc Cert.COutputIdeal.main_arg2)) →
    ∃ (v0 : (c : Dev Cert.COutputIdeal.nD) → Buf (Elt Ideal) ((c.tc : Thread Cert.COutputIdeal.nD Cert.COutputIdeal.τ).loc Cert.COutputIdeal.main_v1)),
      θ_run (Cert.COutputIdeal.defs (F := Ideal)) (onTc (τ := Cert.COutputIdeal.τ) (Cert.COutputIdeal.main (F := Ideal))) ⟨m, fun _ => 0, g⟩ (fun r => ∀ c : Dev Cert.COutputIdeal.nD,
          r.2.mem ((c.tc : Thread Cert.COutputIdeal.nD Cert.COutputIdeal.τ).loc Cert.COutputIdeal.main_v1) = v0 c
          ∧ r.2.mem ((c.tc : Thread Cert.COutputIdeal.nD Cert.COutputIdeal.τ).loc Cert.COutputIdeal.main_arg0) = m ((c.tc : Thread Cert.COutputIdeal.nD Cert.COutputIdeal.τ).loc Cert.COutputIdeal.main_arg0)
          ∧ r.2.mem ((c.tc : Thread Cert.COutputIdeal.nD Cert.COutputIdeal.τ).loc Cert.COutputIdeal.main_arg1) = m ((c.tc : Thread Cert.COutputIdeal.nD Cert.COutputIdeal.τ).loc Cert.COutputIdeal.main_arg1)
          ∧ r.2.mem ((c.tc : Thread Cert.COutputIdeal.nD Cert.COutputIdeal.τ).loc Cert.COutputIdeal.main_arg2) = m ((c.tc : Thread Cert.COutputIdeal.nD Cert.COutputIdeal.τ).loc Cert.COutputIdeal.main_arg2))
      ∧ θ_run (Cert.RefCOutputIdeal.defs (F := Ideal)) (onTc (τ := Cert.RefCOutputIdeal.τ) (Cert.RefCOutputIdeal.main (F := Ideal))) ⟨m', fun _ => 0, g'⟩ (fun r => ∀ c : Dev Cert.RefCOutputIdeal.nD,
          r.2.mem ((c.tc : Thread Cert.RefCOutputIdeal.nD Cert.RefCOutputIdeal.τ).loc Cert.RefCOutputIdeal.main_v3) = v0 c
          ∧ r.2.mem ((c.tc : Thread Cert.RefCOutputIdeal.nD Cert.RefCOutputIdeal.τ).loc Cert.RefCOutputIdeal.main_arg0) = m' ((c.tc : Thread Cert.RefCOutputIdeal.nD Cert.RefCOutputIdeal.τ).loc Cert.RefCOutputIdeal.main_arg0)
          ∧ r.2.mem ((c.tc : Thread Cert.RefCOutputIdeal.nD Cert.RefCOutputIdeal.τ).loc Cert.RefCOutputIdeal.main_arg1) = m' ((c.tc : Thread Cert.RefCOutputIdeal.nD Cert.RefCOutputIdeal.τ).loc Cert.RefCOutputIdeal.main_arg1)
          ∧ r.2.mem ((c.tc : Thread Cert.RefCOutputIdeal.nD Cert.RefCOutputIdeal.τ).loc Cert.RefCOutputIdeal.main_arg2) = m' ((c.tc : Thread Cert.RefCOutputIdeal.nD Cert.RefCOutputIdeal.τ).loc Cert.RefCOutputIdeal.main_arg2))

def preserves_Scores_ScoresIdeal : Prop :=
  True

def algebraic_ScoresIdeal_RefScoresIdeal [hScoresIdeal : Cert.ScoresIdeal.Facts] [hRefScoresIdeal : Cert.RefScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.RefScoresIdeal.nD Cert.RefScoresIdeal.τ Cert.RefScoresIdeal.sig) → Buf (Elt Ideal) ℓ) (g' : Dev Cert.RefScoresIdeal.nD → PrngReg), Pre_ScoresIdeal m →
    (∀ c : Dev Cert.ScoresIdeal.nD,
      m' ((c.tc : Thread Cert.RefScoresIdeal.nD Cert.RefScoresIdeal.τ).loc Cert.RefScoresIdeal.main_arg0) = m ((c.tc : Thread Cert.ScoresIdeal.nD Cert.ScoresIdeal.τ).loc Cert.ScoresIdeal.main_arg0)
      ∧ m' ((c.tc : Thread Cert.RefScoresIdeal.nD Cert.RefScoresIdeal.τ).loc Cert.RefScoresIdeal.main_arg1) = m ((c.tc : Thread Cert.ScoresIdeal.nD Cert.ScoresIdeal.τ).loc Cert.ScoresIdeal.main_arg1)
      ∧ m' ((c.tc : Thread Cert.RefScoresIdeal.nD Cert.RefScoresIdeal.τ).loc Cert.RefScoresIdeal.main_arg2) = m ((c.tc : Thread Cert.ScoresIdeal.nD Cert.ScoresIdeal.τ).loc Cert.ScoresIdeal.main_arg2)) →
    ∃ (v0 : (c : Dev Cert.ScoresIdeal.nD) → Buf (Elt Ideal) ((c.tc : Thread Cert.ScoresIdeal.nD Cert.ScoresIdeal.τ).loc Cert.ScoresIdeal.main_v3)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v3) = v0 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2))
      ∧ θ_run (Cert.RefScoresIdeal.defs (F := Ideal)) (onTc (τ := Cert.RefScoresIdeal.τ) (Cert.RefScoresIdeal.main (F := Ideal))) ⟨m', fun _ => 0, g'⟩ (fun r => ∀ c : Dev Cert.RefScoresIdeal.nD,
          r.2.mem ((c.tc : Thread Cert.RefScoresIdeal.nD Cert.RefScoresIdeal.τ).loc Cert.RefScoresIdeal.main_v10) = v0 c
          ∧ r.2.mem ((c.tc : Thread Cert.RefScoresIdeal.nD Cert.RefScoresIdeal.τ).loc Cert.RefScoresIdeal.main_arg0) = m' ((c.tc : Thread Cert.RefScoresIdeal.nD Cert.RefScoresIdeal.τ).loc Cert.RefScoresIdeal.main_arg0)
          ∧ r.2.mem ((c.tc : Thread Cert.RefScoresIdeal.nD Cert.RefScoresIdeal.τ).loc Cert.RefScoresIdeal.main_arg1) = m' ((c.tc : Thread Cert.RefScoresIdeal.nD Cert.RefScoresIdeal.τ).loc Cert.RefScoresIdeal.main_arg1)
          ∧ r.2.mem ((c.tc : Thread Cert.RefScoresIdeal.nD Cert.RefScoresIdeal.τ).loc Cert.RefScoresIdeal.main_arg2) = m' ((c.tc : Thread Cert.RefScoresIdeal.nD Cert.RefScoresIdeal.τ).loc Cert.RefScoresIdeal.main_arg2))

def preserves_Norm_NormIdeal : Prop :=
  True

def algebraic_NormIdeal_RefNormIdeal [hNormIdeal : Cert.NormIdeal.Facts] [hRefNormIdeal : Cert.RefNormIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.RefNormIdeal.nD Cert.RefNormIdeal.τ Cert.RefNormIdeal.sig) → Buf (Elt Ideal) ℓ) (g' : Dev Cert.RefNormIdeal.nD → PrngReg), Pre_NormIdeal m →
    (∀ c : Dev Cert.NormIdeal.nD,
      m' ((c.tc : Thread Cert.RefNormIdeal.nD Cert.RefNormIdeal.τ).loc Cert.RefNormIdeal.main_arg0) = m ((c.tc : Thread Cert.NormIdeal.nD Cert.NormIdeal.τ).loc Cert.NormIdeal.main_arg0)
      ∧ m' ((c.tc : Thread Cert.RefNormIdeal.nD Cert.RefNormIdeal.τ).loc Cert.RefNormIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v3)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v3) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.RefNormIdeal.defs (F := Ideal)) (onTc (τ := Cert.RefNormIdeal.τ) (Cert.RefNormIdeal.main (F := Ideal))) ⟨m', fun _ => 0, g'⟩ (fun r => ∀ c : Dev Cert.RefNormIdeal.nD,
          r.2.mem ((c.tc : Thread Cert.RefNormIdeal.nD Cert.RefNormIdeal.τ).loc Cert.RefNormIdeal.main_v15) = v0 c
          ∧ r.2.mem ((c.tc : Thread Cert.RefNormIdeal.nD Cert.RefNormIdeal.τ).loc Cert.RefNormIdeal.main_arg0) = m' ((c.tc : Thread Cert.RefNormIdeal.nD Cert.RefNormIdeal.τ).loc Cert.RefNormIdeal.main_arg0)
          ∧ r.2.mem ((c.tc : Thread Cert.RefNormIdeal.nD Cert.RefNormIdeal.τ).loc Cert.RefNormIdeal.main_arg1) = m' ((c.tc : Thread Cert.RefNormIdeal.nD Cert.RefNormIdeal.τ).loc Cert.RefNormIdeal.main_arg1))

def preserves_CKeysSample_CKeysSampleIdeal : Prop :=
  True

def algebraic_CKeysSampleIdeal_RefCKeysSampleIdeal [hCKeysSampleIdeal : Cert.CKeysSampleIdeal.Facts] [hRefCKeysSampleIdeal : Cert.RefCKeysSampleIdeal.Facts] : Prop :=
  ∀ (m : (ℓ : Loc Cert.CKeysSampleIdeal.nD Cert.CKeysSampleIdeal.τ Cert.CKeysSampleIdeal.sig) → Buf (Elt Ideal) ℓ) (g : Dev Cert.CKeysSampleIdeal.nD → PrngReg)
    (m' : (ℓ : Loc Cert.RefCKeysSampleIdeal.nD Cert.RefCKeysSampleIdeal.τ Cert.RefCKeysSampleIdeal.sig) → Buf (Elt Ideal) ℓ) (g' : Dev Cert.RefCKeysSampleIdeal.nD → PrngReg), Pre_CKeysSampleIdeal m →
    (∀ c : Dev Cert.CKeysSampleIdeal.nD,
      m' ((c.tc : Thread Cert.RefCKeysSampleIdeal.nD Cert.RefCKeysSampleIdeal.τ).loc Cert.RefCKeysSampleIdeal.main_arg0) = m ((c.tc : Thread Cert.CKeysSampleIdeal.nD Cert.CKeysSampleIdeal.τ).loc Cert.CKeysSampleIdeal.main_arg0)
      ∧ m' ((c.tc : Thread Cert.RefCKeysSampleIdeal.nD Cert.RefCKeysSampleIdeal.τ).loc Cert.RefCKeysSampleIdeal.main_arg1) = m ((c.tc : Thread Cert.CKeysSampleIdeal.nD Cert.CKeysSampleIdeal.τ).loc Cert.CKeysSampleIdeal.main_arg1)) →
    ∃ (v0 : (c : Dev Cert.CKeysSampleIdeal.nD) → Buf (Elt Ideal) ((c.tc : Thread Cert.CKeysSampleIdeal.nD Cert.CKeysSampleIdeal.τ).loc Cert.CKeysSampleIdeal.main_v1_0)) (v1 : (c : Dev Cert.CKeysSampleIdeal.nD) → Buf (Elt Ideal) ((c.tc : Thread Cert.CKeysSampleIdeal.nD Cert.CKeysSampleIdeal.τ).loc Cert.CKeysSampleIdeal.main_v1_1)),
      θ_run (Cert.CKeysSampleIdeal.defs (F := Ideal)) (onTc (τ := Cert.CKeysSampleIdeal.τ) (Cert.CKeysSampleIdeal.main (F := Ideal))) ⟨m, fun _ => 0, g⟩ (fun r => ∀ c : Dev Cert.CKeysSampleIdeal.nD,
          r.2.mem ((c.tc : Thread Cert.CKeysSampleIdeal.nD Cert.CKeysSampleIdeal.τ).loc Cert.CKeysSampleIdeal.main_v1_0) = v0 c
          ∧ r.2.mem ((c.tc : Thread Cert.CKeysSampleIdeal.nD Cert.CKeysSampleIdeal.τ).loc Cert.CKeysSampleIdeal.main_v1_1) = v1 c
          ∧ r.2.mem ((c.tc : Thread Cert.CKeysSampleIdeal.nD Cert.CKeysSampleIdeal.τ).loc Cert.CKeysSampleIdeal.main_arg0) = m ((c.tc : Thread Cert.CKeysSampleIdeal.nD Cert.CKeysSampleIdeal.τ).loc Cert.CKeysSampleIdeal.main_arg0)
          ∧ r.2.mem ((c.tc : Thread Cert.CKeysSampleIdeal.nD Cert.CKeysSampleIdeal.τ).loc Cert.CKeysSampleIdeal.main_arg1) = m ((c.tc : Thread Cert.CKeysSampleIdeal.nD Cert.CKeysSampleIdeal.τ).loc Cert.CKeysSampleIdeal.main_arg1))
      ∧ θ_run (Cert.RefCKeysSampleIdeal.defs (F := Ideal)) (onTc (τ := Cert.RefCKeysSampleIdeal.τ) (Cert.RefCKeysSampleIdeal.main (F := Ideal))) ⟨m', fun _ => 0, g'⟩ (fun r => ∀ c : Dev Cert.RefCKeysSampleIdeal.nD,
          r.2.mem ((c.tc : Thread Cert.RefCKeysSampleIdeal.nD Cert.RefCKeysSampleIdeal.τ).loc Cert.RefCKeysSampleIdeal.main_v5) = v0 c
          ∧ r.2.mem ((c.tc : Thread Cert.RefCKeysSampleIdeal.nD Cert.RefCKeysSampleIdeal.τ).loc Cert.RefCKeysSampleIdeal.main_v6) = v1 c
          ∧ r.2.mem ((c.tc : Thread Cert.RefCKeysSampleIdeal.nD Cert.RefCKeysSampleIdeal.τ).loc Cert.RefCKeysSampleIdeal.main_arg0) = m' ((c.tc : Thread Cert.RefCKeysSampleIdeal.nD Cert.RefCKeysSampleIdeal.τ).loc Cert.RefCKeysSampleIdeal.main_arg0)
          ∧ r.2.mem ((c.tc : Thread Cert.RefCKeysSampleIdeal.nD Cert.RefCKeysSampleIdeal.τ).loc Cert.RefCKeysSampleIdeal.main_arg1) = m' ((c.tc : Thread Cert.RefCKeysSampleIdeal.nD Cert.RefCKeysSampleIdeal.τ).loc Cert.RefCKeysSampleIdeal.main_arg1))

def preserves_CValuesSample_CValuesSampleIdeal : Prop :=
  True

def algebraic_CValuesSampleIdeal_RefCValuesSampleIdeal [hCValuesSampleIdeal : Cert.CValuesSampleIdeal.Facts] [hRefCValuesSampleIdeal : Cert.RefCValuesSampleIdeal.Facts] : Prop :=
  ∀ (m : (ℓ : Loc Cert.CValuesSampleIdeal.nD Cert.CValuesSampleIdeal.τ Cert.CValuesSampleIdeal.sig) → Buf (Elt Ideal) ℓ) (g : Dev Cert.CValuesSampleIdeal.nD → PrngReg)
    (m' : (ℓ : Loc Cert.RefCValuesSampleIdeal.nD Cert.RefCValuesSampleIdeal.τ Cert.RefCValuesSampleIdeal.sig) → Buf (Elt Ideal) ℓ) (g' : Dev Cert.RefCValuesSampleIdeal.nD → PrngReg), Pre_CValuesSampleIdeal m →
    (∀ c : Dev Cert.CValuesSampleIdeal.nD,
      m' ((c.tc : Thread Cert.RefCValuesSampleIdeal.nD Cert.RefCValuesSampleIdeal.τ).loc Cert.RefCValuesSampleIdeal.main_arg0) = m ((c.tc : Thread Cert.CValuesSampleIdeal.nD Cert.CValuesSampleIdeal.τ).loc Cert.CValuesSampleIdeal.main_arg0)
      ∧ m' ((c.tc : Thread Cert.RefCValuesSampleIdeal.nD Cert.RefCValuesSampleIdeal.τ).loc Cert.RefCValuesSampleIdeal.main_arg1) = m ((c.tc : Thread Cert.CValuesSampleIdeal.nD Cert.CValuesSampleIdeal.τ).loc Cert.CValuesSampleIdeal.main_arg1)) →
    ∃ (v0 : (c : Dev Cert.CValuesSampleIdeal.nD) → Buf (Elt Ideal) ((c.tc : Thread Cert.CValuesSampleIdeal.nD Cert.CValuesSampleIdeal.τ).loc Cert.CValuesSampleIdeal.main_v1_0)) (v1 : (c : Dev Cert.CValuesSampleIdeal.nD) → Buf (Elt Ideal) ((c.tc : Thread Cert.CValuesSampleIdeal.nD Cert.CValuesSampleIdeal.τ).loc Cert.CValuesSampleIdeal.main_v1_1)),
      θ_run (Cert.CValuesSampleIdeal.defs (F := Ideal)) (onTc (τ := Cert.CValuesSampleIdeal.τ) (Cert.CValuesSampleIdeal.main (F := Ideal))) ⟨m, fun _ => 0, g⟩ (fun r => ∀ c : Dev Cert.CValuesSampleIdeal.nD,
          r.2.mem ((c.tc : Thread Cert.CValuesSampleIdeal.nD Cert.CValuesSampleIdeal.τ).loc Cert.CValuesSampleIdeal.main_v1_0) = v0 c
          ∧ r.2.mem ((c.tc : Thread Cert.CValuesSampleIdeal.nD Cert.CValuesSampleIdeal.τ).loc Cert.CValuesSampleIdeal.main_v1_1) = v1 c
          ∧ r.2.mem ((c.tc : Thread Cert.CValuesSampleIdeal.nD Cert.CValuesSampleIdeal.τ).loc Cert.CValuesSampleIdeal.main_arg0) = m ((c.tc : Thread Cert.CValuesSampleIdeal.nD Cert.CValuesSampleIdeal.τ).loc Cert.CValuesSampleIdeal.main_arg0)
          ∧ r.2.mem ((c.tc : Thread Cert.CValuesSampleIdeal.nD Cert.CValuesSampleIdeal.τ).loc Cert.CValuesSampleIdeal.main_arg1) = m ((c.tc : Thread Cert.CValuesSampleIdeal.nD Cert.CValuesSampleIdeal.τ).loc Cert.CValuesSampleIdeal.main_arg1))
      ∧ θ_run (Cert.RefCValuesSampleIdeal.defs (F := Ideal)) (onTc (τ := Cert.RefCValuesSampleIdeal.τ) (Cert.RefCValuesSampleIdeal.main (F := Ideal))) ⟨m', fun _ => 0, g'⟩ (fun r => ∀ c : Dev Cert.RefCValuesSampleIdeal.nD,
          r.2.mem ((c.tc : Thread Cert.RefCValuesSampleIdeal.nD Cert.RefCValuesSampleIdeal.τ).loc Cert.RefCValuesSampleIdeal.main_v5) = v0 c
          ∧ r.2.mem ((c.tc : Thread Cert.RefCValuesSampleIdeal.nD Cert.RefCValuesSampleIdeal.τ).loc Cert.RefCValuesSampleIdeal.main_v6) = v1 c
          ∧ r.2.mem ((c.tc : Thread Cert.RefCValuesSampleIdeal.nD Cert.RefCValuesSampleIdeal.τ).loc Cert.RefCValuesSampleIdeal.main_arg0) = m' ((c.tc : Thread Cert.RefCValuesSampleIdeal.nD Cert.RefCValuesSampleIdeal.τ).loc Cert.RefCValuesSampleIdeal.main_arg0)
          ∧ r.2.mem ((c.tc : Thread Cert.RefCValuesSampleIdeal.nD Cert.RefCValuesSampleIdeal.τ).loc Cert.RefCValuesSampleIdeal.main_arg1) = m' ((c.tc : Thread Cert.RefCValuesSampleIdeal.nD Cert.RefCValuesSampleIdeal.τ).loc Cert.RefCValuesSampleIdeal.main_arg1))

def preserves_First_FirstIdeal : Prop :=
  True

def algebraic_FirstIdeal_RefFirstIdeal [hFirstIdeal : Cert.FirstIdeal.Facts] [hRefFirstIdeal : Cert.RefFirstIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.RefFirstIdeal.nD Cert.RefFirstIdeal.τ Cert.RefFirstIdeal.sig) → Buf (Elt Ideal) ℓ) (g' : Dev Cert.RefFirstIdeal.nD → PrngReg), Pre_FirstIdeal m →
    (∀ c : Dev Cert.FirstIdeal.nD,
      m' ((c.tc : Thread Cert.RefFirstIdeal.nD Cert.RefFirstIdeal.τ).loc Cert.RefFirstIdeal.main_arg0) = m ((c.tc : Thread Cert.FirstIdeal.nD Cert.FirstIdeal.τ).loc Cert.FirstIdeal.main_arg0)
      ∧ m' ((c.tc : Thread Cert.RefFirstIdeal.nD Cert.RefFirstIdeal.τ).loc Cert.RefFirstIdeal.main_arg1) = m ((c.tc : Thread Cert.FirstIdeal.nD Cert.FirstIdeal.τ).loc Cert.FirstIdeal.main_arg1)
      ∧ m' ((c.tc : Thread Cert.RefFirstIdeal.nD Cert.RefFirstIdeal.τ).loc Cert.RefFirstIdeal.main_arg2) = m ((c.tc : Thread Cert.FirstIdeal.nD Cert.FirstIdeal.τ).loc Cert.FirstIdeal.main_arg2)
      ∧ m' ((c.tc : Thread Cert.RefFirstIdeal.nD Cert.RefFirstIdeal.τ).loc Cert.RefFirstIdeal.main_arg3) = m ((c.tc : Thread Cert.FirstIdeal.nD Cert.FirstIdeal.τ).loc Cert.FirstIdeal.main_arg3)
      ∧ m' ((c.tc : Thread Cert.RefFirstIdeal.nD Cert.RefFirstIdeal.τ).loc Cert.RefFirstIdeal.main_arg4) = m ((c.tc : Thread Cert.FirstIdeal.nD Cert.FirstIdeal.τ).loc Cert.FirstIdeal.main_arg4)) →
    ∃ (v0 : (c : Dev Cert.FirstIdeal.nD) → Buf (Elt Ideal) ((c.tc : Thread Cert.FirstIdeal.nD Cert.FirstIdeal.τ).loc Cert.FirstIdeal.main_v10)) (v1 : (c : Dev Cert.FirstIdeal.nD) → Buf (Elt Ideal) ((c.tc : Thread Cert.FirstIdeal.nD Cert.FirstIdeal.τ).loc Cert.FirstIdeal.main_v11)) (v2 : (c : Dev Cert.FirstIdeal.nD) → Buf (Elt Ideal) ((c.tc : Thread Cert.FirstIdeal.nD Cert.FirstIdeal.τ).loc Cert.FirstIdeal.main_v12)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v10) = v0 c
          ∧ r.2.mem ((c.tc : Thread Cert.FirstIdeal.nD Cert.FirstIdeal.τ).loc Cert.FirstIdeal.main_v11) = v1 c
          ∧ r.2.mem ((c.tc : Thread Cert.FirstIdeal.nD Cert.FirstIdeal.τ).loc Cert.FirstIdeal.main_v12) = v2 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4))
      ∧ θ_run (Cert.RefFirstIdeal.defs (F := Ideal)) (onTc (τ := Cert.RefFirstIdeal.τ) (Cert.RefFirstIdeal.main (F := Ideal))) ⟨m', fun _ => 0, g'⟩ (fun r => ∀ c : Dev Cert.RefFirstIdeal.nD,
          r.2.mem ((c.tc : Thread Cert.RefFirstIdeal.nD Cert.RefFirstIdeal.τ).loc Cert.RefFirstIdeal.main_v76) = v0 c
          ∧ r.2.mem ((c.tc : Thread Cert.RefFirstIdeal.nD Cert.RefFirstIdeal.τ).loc Cert.RefFirstIdeal.main_v77) = v1 c
          ∧ r.2.mem ((c.tc : Thread Cert.RefFirstIdeal.nD Cert.RefFirstIdeal.τ).loc Cert.RefFirstIdeal.main_v78) = v2 c
          ∧ r.2.mem ((c.tc : Thread Cert.RefFirstIdeal.nD Cert.RefFirstIdeal.τ).loc Cert.RefFirstIdeal.main_arg0) = m' ((c.tc : Thread Cert.RefFirstIdeal.nD Cert.RefFirstIdeal.τ).loc Cert.RefFirstIdeal.main_arg0)
          ∧ r.2.mem ((c.tc : Thread Cert.RefFirstIdeal.nD Cert.RefFirstIdeal.τ).loc Cert.RefFirstIdeal.main_arg1) = m' ((c.tc : Thread Cert.RefFirstIdeal.nD Cert.RefFirstIdeal.τ).loc Cert.RefFirstIdeal.main_arg1)
          ∧ r.2.mem ((c.tc : Thread Cert.RefFirstIdeal.nD Cert.RefFirstIdeal.τ).loc Cert.RefFirstIdeal.main_arg2) = m' ((c.tc : Thread Cert.RefFirstIdeal.nD Cert.RefFirstIdeal.τ).loc Cert.RefFirstIdeal.main_arg2)
          ∧ r.2.mem ((c.tc : Thread Cert.RefFirstIdeal.nD Cert.RefFirstIdeal.τ).loc Cert.RefFirstIdeal.main_arg3) = m' ((c.tc : Thread Cert.RefFirstIdeal.nD Cert.RefFirstIdeal.τ).loc Cert.RefFirstIdeal.main_arg3)
          ∧ r.2.mem ((c.tc : Thread Cert.RefFirstIdeal.nD Cert.RefFirstIdeal.τ).loc Cert.RefFirstIdeal.main_arg4) = m' ((c.tc : Thread Cert.RefFirstIdeal.nD Cert.RefFirstIdeal.τ).loc Cert.RefFirstIdeal.main_arg4))

def Claim : Prop :=
  ∃ (hKernel : Cert.Kernel.Facts) (hKernelIdeal : Cert.KernelIdeal.Facts) (hReferenceIdeal : Cert.ReferenceIdeal.Facts) (hCKeys : Cert.CKeys.Facts) (hCKeysIdeal : Cert.CKeysIdeal.Facts) (hRefCKeysIdeal : Cert.RefCKeysIdeal.Facts) (hCValues : Cert.CValues.Facts) (hCValuesIdeal : Cert.CValuesIdeal.Facts) (hRefCValuesIdeal : Cert.RefCValuesIdeal.Facts) (hCQueries : Cert.CQueries.Facts) (hCQueriesIdeal : Cert.CQueriesIdeal.Facts) (hRefCQueriesIdeal : Cert.RefCQueriesIdeal.Facts) (hAQueries : Cert.AQueries.Facts) (hAQueriesIdeal : Cert.AQueriesIdeal.Facts) (hRefAQueriesIdeal : Cert.RefAQueriesIdeal.Facts) (hAKeys : Cert.AKeys.Facts) (hAKeysIdeal : Cert.AKeysIdeal.Facts) (hRefAKeysIdeal : Cert.RefAKeysIdeal.Facts) (hAValues : Cert.AValues.Facts) (hAValuesIdeal : Cert.AValuesIdeal.Facts) (hRefAValuesIdeal : Cert.RefAValuesIdeal.Facts) (hBInputs : Cert.BInputs.Facts) (hBInputsIdeal : Cert.BInputsIdeal.Facts) (hRefBInputsIdeal : Cert.RefBInputsIdeal.Facts) (hAOutput : Cert.AOutput.Facts) (hAOutputIdeal : Cert.AOutputIdeal.Facts) (hRefAOutputIdeal : Cert.RefAOutputIdeal.Facts) (hCOutput : Cert.COutput.Facts) (hCOutputIdeal : Cert.COutputIdeal.Facts) (hRefCOutputIdeal : Cert.RefCOutputIdeal.Facts) (hScores : Cert.Scores.Facts) (hScoresIdeal : Cert.ScoresIdeal.Facts) (hRefScoresIdeal : Cert.RefScoresIdeal.Facts) (hNorm : Cert.Norm.Facts) (hNormIdeal : Cert.NormIdeal.Facts) (hRefNormIdeal : Cert.RefNormIdeal.Facts) (hCKeysSample : Cert.CKeysSample.Facts) (hCKeysSampleIdeal : Cert.CKeysSampleIdeal.Facts) (hRefCKeysSampleIdeal : Cert.RefCKeysSampleIdeal.Facts) (hCValuesSample : Cert.CValuesSample.Facts) (hCValuesSampleIdeal : Cert.CValuesSampleIdeal.Facts) (hRefCValuesSampleIdeal : Cert.RefCValuesSampleIdeal.Facts) (hFirst : Cert.First.Facts) (hFirstIdeal : Cert.FirstIdeal.Facts) (hRefFirstIdeal : Cert.RefFirstIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_CKeys (hCKeys := hCKeys)
    ∧ quiescent_CKeysIdeal (hCKeysIdeal := hCKeysIdeal)
    ∧ quiescent_RefCKeysIdeal (hRefCKeysIdeal := hRefCKeysIdeal)
    ∧ quiescent_CValues (hCValues := hCValues)
    ∧ quiescent_CValuesIdeal (hCValuesIdeal := hCValuesIdeal)
    ∧ quiescent_RefCValuesIdeal (hRefCValuesIdeal := hRefCValuesIdeal)
    ∧ quiescent_CQueries (hCQueries := hCQueries)
    ∧ quiescent_CQueriesIdeal (hCQueriesIdeal := hCQueriesIdeal)
    ∧ quiescent_RefCQueriesIdeal (hRefCQueriesIdeal := hRefCQueriesIdeal)
    ∧ quiescent_AQueries (hAQueries := hAQueries)
    ∧ quiescent_AQueriesIdeal (hAQueriesIdeal := hAQueriesIdeal)
    ∧ quiescent_RefAQueriesIdeal (hRefAQueriesIdeal := hRefAQueriesIdeal)
    ∧ quiescent_AKeys (hAKeys := hAKeys)
    ∧ quiescent_AKeysIdeal (hAKeysIdeal := hAKeysIdeal)
    ∧ quiescent_RefAKeysIdeal (hRefAKeysIdeal := hRefAKeysIdeal)
    ∧ quiescent_AValues (hAValues := hAValues)
    ∧ quiescent_AValuesIdeal (hAValuesIdeal := hAValuesIdeal)
    ∧ quiescent_RefAValuesIdeal (hRefAValuesIdeal := hRefAValuesIdeal)
    ∧ quiescent_BInputs (hBInputs := hBInputs)
    ∧ quiescent_BInputsIdeal (hBInputsIdeal := hBInputsIdeal)
    ∧ quiescent_RefBInputsIdeal (hRefBInputsIdeal := hRefBInputsIdeal)
    ∧ quiescent_AOutput (hAOutput := hAOutput)
    ∧ quiescent_AOutputIdeal (hAOutputIdeal := hAOutputIdeal)
    ∧ quiescent_RefAOutputIdeal (hRefAOutputIdeal := hRefAOutputIdeal)
    ∧ quiescent_COutput (hCOutput := hCOutput)
    ∧ quiescent_COutputIdeal (hCOutputIdeal := hCOutputIdeal)
    ∧ quiescent_RefCOutputIdeal (hRefCOutputIdeal := hRefCOutputIdeal)
    ∧ quiescent_Scores (hScores := hScores)
    ∧ quiescent_ScoresIdeal (hScoresIdeal := hScoresIdeal)
    ∧ quiescent_RefScoresIdeal (hRefScoresIdeal := hRefScoresIdeal)
    ∧ quiescent_Norm (hNorm := hNorm)
    ∧ quiescent_NormIdeal (hNormIdeal := hNormIdeal)
    ∧ quiescent_RefNormIdeal (hRefNormIdeal := hRefNormIdeal)
    ∧ quiescent_CKeysSample (hCKeysSample := hCKeysSample)
    ∧ quiescent_CKeysSampleIdeal (hCKeysSampleIdeal := hCKeysSampleIdeal)
    ∧ quiescent_RefCKeysSampleIdeal (hRefCKeysSampleIdeal := hRefCKeysSampleIdeal)
    ∧ quiescent_CValuesSample (hCValuesSample := hCValuesSample)
    ∧ quiescent_CValuesSampleIdeal (hCValuesSampleIdeal := hCValuesSampleIdeal)
    ∧ quiescent_RefCValuesSampleIdeal (hRefCValuesSampleIdeal := hRefCValuesSampleIdeal)
    ∧ quiescent_First (hFirst := hFirst)
    ∧ quiescent_FirstIdeal (hFirstIdeal := hFirstIdeal)
    ∧ quiescent_RefFirstIdeal (hRefFirstIdeal := hRefFirstIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_CKeys_CKeysIdeal
    ∧ algebraic_CKeysIdeal_RefCKeysIdeal (hCKeysIdeal := hCKeysIdeal) (hRefCKeysIdeal := hRefCKeysIdeal)
    ∧ preserves_CValues_CValuesIdeal
    ∧ algebraic_CValuesIdeal_RefCValuesIdeal (hCValuesIdeal := hCValuesIdeal) (hRefCValuesIdeal := hRefCValuesIdeal)
    ∧ preserves_CQueries_CQueriesIdeal
    ∧ algebraic_CQueriesIdeal_RefCQueriesIdeal (hCQueriesIdeal := hCQueriesIdeal) (hRefCQueriesIdeal := hRefCQueriesIdeal)
    ∧ preserves_AQueries_AQueriesIdeal
    ∧ algebraic_AQueriesIdeal_RefAQueriesIdeal (hAQueriesIdeal := hAQueriesIdeal) (hRefAQueriesIdeal := hRefAQueriesIdeal)
    ∧ preserves_AKeys_AKeysIdeal
    ∧ algebraic_AKeysIdeal_RefAKeysIdeal (hAKeysIdeal := hAKeysIdeal) (hRefAKeysIdeal := hRefAKeysIdeal)
    ∧ preserves_AValues_AValuesIdeal
    ∧ algebraic_AValuesIdeal_RefAValuesIdeal (hAValuesIdeal := hAValuesIdeal) (hRefAValuesIdeal := hRefAValuesIdeal)
    ∧ preserves_BInputs_BInputsIdeal
    ∧ algebraic_BInputsIdeal_RefBInputsIdeal (hBInputsIdeal := hBInputsIdeal) (hRefBInputsIdeal := hRefBInputsIdeal)
    ∧ preserves_AOutput_AOutputIdeal
    ∧ algebraic_AOutputIdeal_RefAOutputIdeal (hAOutputIdeal := hAOutputIdeal) (hRefAOutputIdeal := hRefAOutputIdeal)
    ∧ preserves_COutput_COutputIdeal
    ∧ algebraic_COutputIdeal_RefCOutputIdeal (hCOutputIdeal := hCOutputIdeal) (hRefCOutputIdeal := hRefCOutputIdeal)
    ∧ preserves_Scores_ScoresIdeal
    ∧ algebraic_ScoresIdeal_RefScoresIdeal (hScoresIdeal := hScoresIdeal) (hRefScoresIdeal := hRefScoresIdeal)
    ∧ preserves_Norm_NormIdeal
    ∧ algebraic_NormIdeal_RefNormIdeal (hNormIdeal := hNormIdeal) (hRefNormIdeal := hRefNormIdeal)
    ∧ preserves_CKeysSample_CKeysSampleIdeal
    ∧ algebraic_CKeysSampleIdeal_RefCKeysSampleIdeal (hCKeysSampleIdeal := hCKeysSampleIdeal) (hRefCKeysSampleIdeal := hRefCKeysSampleIdeal)
    ∧ preserves_CValuesSample_CValuesSampleIdeal
    ∧ algebraic_CValuesSampleIdeal_RefCValuesSampleIdeal (hCValuesSampleIdeal := hCValuesSampleIdeal) (hRefCValuesSampleIdeal := hRefCValuesSampleIdeal)
    ∧ preserves_First_FirstIdeal
    ∧ algebraic_FirstIdeal_RefFirstIdeal (hFirstIdeal := hFirstIdeal) (hRefFirstIdeal := hRefFirstIdeal)
-- ==== Pre_finite_scores.lean ====
abbrev S10240x2048 : Shape := ⟨2, ![10240, 2048]⟩
abbrev S1x16x257 : Shape := ⟨3, ![1, 16, 257]⟩
abbrev S_ : Shape := ⟨0, ![]⟩

class Facts : Prop where
  bitsLt_bf16_f32 : FTy.bits .bf16 < FTy.bits .f32
  bcast_S_S10240x2048 : S_.BroadcastsInDim S10240x2048 (![] : Fin 0 → Fin S10240x2048.rank)
  reducesTo_S10240x2048_S_d0_1 : S10240x2048.ReducesTo [0, 1] S_
  h_S_ : 0 < S_.numel
  bcast_S_S1x16x257 : S_.BroadcastsInDim S1x16x257 (![] : Fin 0 → Fin S1x16x257.rank)
  reducesTo_S1x16x257_S_d0_1_2 : S1x16x257.ReducesTo [0, 1, 2] S_

variable [Facts]

def fn {F : FTy → Type} [FloatOps F] (main_arg0 : FVec F S10240x2048 .bf16) (main_arg1 : FVec F S10240x2048 .f32) (main_arg2 : FVec F S10240x2048 .f32) (main_arg3 : FVec F S1x16x257 .f32) : IVec S_ 1 :=
  let main_v0 : FVec F S10240x2048 .f32 := (extf .f32 · bitsLt_bf16_f32) main_arg0
  let main_v1 : FVec F S10240x2048 .f32 := Host.absf main_v0
  let main_cst : FVec F S_ .f32 := constant S_ .f32 0x7F800000#32
  let main_v2 : FVec F S10240x2048 .f32 := broadcastInDim S10240x2048 ![] bcast_S_S10240x2048 main_cst
  let main_v3 : IVec S10240x2048 1 := cmpf .olt main_v1 main_v2
  let main_c : IVec S_ 1 := constantI S_ 1 1#1
  let main_v4 : IVec S_ 1 := (fun x v => Host.reduce IntOp.andi x v reducesTo_S10240x2048_S_d0_1 h_S_) main_v3 main_c
  let main_v5 : FVec F S10240x2048 .f32 := Host.absf main_arg1
  let main_cst_0 : FVec F S_ .f32 := constant S_ .f32 0x7F800000#32
  let main_v6 : FVec F S10240x2048 .f32 := broadcastInDim S10240x2048 ![] bcast_S_S10240x2048 main_cst_0
  let main_v7 : IVec S10240x2048 1 := cmpf .olt main_v5 main_v6
  let main_c_1 : IVec S_ 1 := constantI S_ 1 1#1
  let main_v8 : IVec S_ 1 := (fun x v => Host.reduce IntOp.andi x v reducesTo_S10240x2048_S_d0_1 h_S_) main_v7 main_c_1
  let main_v9 : IVec S_ 1 := andi main_v4 main_v8
  let main_v10 : FVec F S1x16x257 .f32 := Host.absf main_arg3
  let main_cst_2 : FVec F S_ .f32 := constant S_ .f32 0x7F800000#32
  let main_v11 : FVec F S1x16x257 .f32 := broadcastInDim S1x16x257 ![] bcast_S_S1x16x257 main_cst_2
  let main_v12 : IVec S1x16x257 1 := cmpf .olt main_v10 main_v11
  let main_c_3 : IVec S_ 1 := constantI S_ 1 1#1
  let main_v13 : IVec S_ 1 := (fun x v => Host.reduce IntOp.andi x v reducesTo_S1x16x257_S_d0_1_2 h_S_) main_v12 main_c_3
  let main_v14 : IVec S_ 1 := andi main_v9 main_v13
  main_v14
-- ==== Kernel.lean ====
abbrev S10240x2048 : Shape := ⟨2, ![10240, 2048]⟩
abbrev S1x16x257 : Shape := ⟨3, ![1, 16, 257]⟩
abbrev S_ : Shape := ⟨0, ![]⟩
abbrev S16x257 : Shape := ⟨2, ![16, 257]⟩
abbrev S512 : Shape := ⟨1, ![512]⟩
abbrev S1024 : Shape := ⟨1, ![1024]⟩
abbrev S1 : Shape := ⟨1, ![1]⟩
abbrev S1535 : Shape := ⟨1, ![1535]⟩
abbrev S1535x1 : Shape := ⟨2, ![1535, 1]⟩
abbrev S16x1535 : Shape := ⟨2, ![16, 1535]⟩
abbrev S16x1537 : Shape := ⟨2, ![16, 1537]⟩
abbrev S1x16x1x1537 : Shape := ⟨4, ![1, 16, 1, 1537]⟩
abbrev S1x16x512x1537 : Shape := ⟨4, ![1, 16, 512, 1537]⟩
abbrev S16x786944 : Shape := ⟨2, ![16, 786944]⟩
abbrev S16x786432 : Shape := ⟨2, ![16, 786432]⟩
abbrev S16x512x1536 : Shape := ⟨3, ![16, 512, 1536]⟩
abbrev S16x512x1024 : Shape := ⟨3, ![16, 512, 1024]⟩
abbrev S512x1 : Shape := ⟨2, ![512, 1]⟩
abbrev S1x1024 : Shape := ⟨2, ![1, 1024]⟩
abbrev S512x1024 : Shape := ⟨2, ![512, 1024]⟩
abbrev S1x512x1024 : Shape := ⟨3, ![1, 512, 1024]⟩
abbrev S512x128 : Shape := ⟨2, ![512, 128]⟩
abbrev S256x128 : Shape := ⟨2, ![256, 128]⟩
abbrev S1x256x512 : Shape := ⟨3, ![1, 256, 512]⟩
abbrev S256x512 : Shape := ⟨2, ![256, 512]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩

abbrev nBuf : Space → Nat
  | .hbm => 105
  | .vmem => 14
  | .smem => 0
  | _ => 0

abbrev bufTy : (tb : Table) → Fin (tcTables nBuf tb) → BufTy
  | .hbm, ⟨0, _⟩ => ⟨S10240x2048, .bf16⟩
  | .hbm, ⟨1, _⟩ => ⟨S10240x2048, .f32⟩
  | .hbm, ⟨2, _⟩ => ⟨S10240x2048, .f32⟩
  | .hbm, ⟨3, _⟩ => ⟨S1x16x257, .f32⟩
  | .hbm, ⟨4, _⟩ => ⟨S_, .bf16⟩
  | .hbm, ⟨5, _⟩ => ⟨S10240x2048, .bf16⟩
  | .hbm, ⟨6, _⟩ => ⟨S16x257, .f32⟩
  | .hbm, ⟨7, _⟩ => ⟨S512, .i32⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S1024, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S1535, .i32⟩
  | .hbm, ⟨18, _⟩ => ⟨S1535, .i32⟩
  | .hbm, ⟨19, _⟩ => ⟨S1535, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S1535, .i32⟩
  | .hbm, ⟨24, _⟩ => ⟨S1535, .i32⟩
  | .hbm, ⟨25, _⟩ => ⟨S_, .i32⟩
  | .hbm, ⟨26, _⟩ => ⟨S1535, .i32⟩
  | .hbm, ⟨27, _⟩ => ⟨S1535, .i32⟩
  | .hbm, ⟨28, _⟩ => ⟨S_, .i32⟩
  | .hbm, ⟨29, _⟩ => ⟨S1535, .i32⟩
  | .hbm, ⟨30, _⟩ => ⟨S1535, .i32⟩
  | .hbm, ⟨31, _⟩ => ⟨S_, .i32⟩
  | .hbm, ⟨32, _⟩ => ⟨S1535, .i32⟩
  | .hbm, ⟨33, _⟩ => ⟨S1535, .i1⟩
  | .hbm, ⟨34, _⟩ => ⟨S_, .i32⟩
  | .hbm, ⟨35, _⟩ => ⟨S1535, .i32⟩
  | .hbm, ⟨36, _⟩ => ⟨S1535, .i32⟩
  | .hbm, ⟨37, _⟩ => ⟨S1535, .i32⟩
  | .hbm, ⟨38, _⟩ => ⟨S1535x1, .i32⟩
  | .hbm, ⟨39, _⟩ => ⟨S16x1535, .f32⟩
  | .hbm, ⟨40, _⟩ => ⟨S16x1535, .f32⟩
  | .hbm, ⟨41, _⟩ => ⟨S_, .i32⟩
  | .hbm, ⟨42, _⟩ => ⟨S_, .f32⟩
  | .hbm, ⟨43, _⟩ => ⟨S16x1537, .f32⟩
  | .hbm, ⟨44, _⟩ => ⟨S1x16x1x1537, .f32⟩
  | .hbm, ⟨45, _⟩ => ⟨S1x16x512x1537, .f32⟩
  | .hbm, ⟨46, _⟩ => ⟨S16x786944, .f32⟩
  | .hbm, ⟨47, _⟩ => ⟨S16x786432, .f32⟩
  | .hbm, ⟨48, _⟩ => ⟨S16x512x1536, .f32⟩
  | .hbm, ⟨49, _⟩ => ⟨S16x512x1024, .f32⟩
  | .hbm, ⟨50, _⟩ => ⟨S512x1, .i32⟩
  | .hbm, ⟨51, _⟩ => ⟨S_, .i32⟩
  | .hbm, ⟨52, _⟩ => ⟨S_, .i32⟩
  | .hbm, ⟨53, _⟩ => ⟨S512x1, .i32⟩
  | .hbm, ⟨54, _⟩ => ⟨S512x1, .i32⟩
  | .hbm, ⟨55, _⟩ => ⟨S512x1, .i32⟩
  | .hbm, ⟨56, _⟩ => ⟨S_, .i32⟩
  | .hbm, ⟨57, _⟩ => ⟨S512x1, .i32⟩
  | .hbm, ⟨58, _⟩ => ⟨S512x1, .i1⟩
  | .hbm, ⟨59, _⟩ => ⟨S512x1, .i32⟩
  | .hbm, ⟨60, _⟩ => ⟨S512x1, .i32⟩
  | .hbm, ⟨61, _⟩ => ⟨S_, .i32⟩
  | .hbm, ⟨62, _⟩ => ⟨S512x1, .i32⟩
  | .hbm, ⟨63, _⟩ => ⟨S512x1, .i1⟩
  | .hbm, ⟨64, _⟩ => ⟨S512x1, .i1⟩
  | .hbm, ⟨65, _⟩ => ⟨S_, .i32⟩
  | .hbm, ⟨66, _⟩ => ⟨S512x1, .i32⟩
  | .hbm, ⟨67, _⟩ => ⟨S512x1, .i32⟩
  | .hbm, ⟨68, _⟩ => ⟨S512x1, .i32⟩
  | .hbm, ⟨69, _⟩ => ⟨S1x1024, .i32⟩
  | .hbm, ⟨70, _⟩ => ⟨S_, .i32⟩
  | .hbm, ⟨71, _⟩ => ⟨S_, .i32⟩
  | .hbm, ⟨72, _⟩ => ⟨S1x1024, .i32⟩
  | .hbm, ⟨73, _⟩ => ⟨S1x1024, .i32⟩
  | .hbm, ⟨74, _⟩ => ⟨S1x1024, .i32⟩
  | .hbm, ⟨75, _⟩ => ⟨S_, .i32⟩
  | .hbm, ⟨76, _⟩ => ⟨S1x1024, .i32⟩
  | .hbm, ⟨77, _⟩ => ⟨S1x1024, .i1⟩
  | .hbm, ⟨78, _⟩ => ⟨S1x1024, .i32⟩
  | .hbm, ⟨79, _⟩ => ⟨S1x1024, .i32⟩
  | .hbm, ⟨80, _⟩ => ⟨S_, .i32⟩
  | .hbm, ⟨81, _⟩ => ⟨S1x1024, .i32⟩
  | .hbm, ⟨82, _⟩ => ⟨S1x1024, .i1⟩
  | .hbm, ⟨83, _⟩ => ⟨S1x1024, .i1⟩
  | .hbm, ⟨84, _⟩ => ⟨S_, .i32⟩
  | .hbm, ⟨85, _⟩ => ⟨S1x1024, .i32⟩
  | .hbm, ⟨86, _⟩ => ⟨S1x1024, .i32⟩
  | .hbm, ⟨87, _⟩ => ⟨S1x1024, .i32⟩
  | .hbm, ⟨88, _⟩ => ⟨S512x1024, .i32⟩
  | .hbm, ⟨89, _⟩ => ⟨S512x1024, .i32⟩
  | .hbm, ⟨90, _⟩ => ⟨S512x1024, .i1⟩
  | .hbm, ⟨91, _⟩ => ⟨S_, .i32⟩
  | .hbm, ⟨92, _⟩ => ⟨S512x1, .i32⟩
  | .hbm, ⟨93, _⟩ => ⟨S512x1, .i32⟩
  | .hbm, ⟨94, _⟩ => ⟨S512x1024, .i32⟩
  | .hbm, ⟨95, _⟩ => ⟨S512x1024, .i32⟩
  | .hbm, ⟨96, _⟩ => ⟨S512x1024, .i1⟩
  | .hbm, ⟨97, _⟩ => ⟨S512x1024, .i1⟩
  | .hbm, ⟨98, _⟩ => ⟨S1x512x1024, .i1⟩
  | .hbm, ⟨99, _⟩ => ⟨S_, .f32⟩
  | .hbm, ⟨100, _⟩ => ⟨S_, .f32⟩
  | .hbm, ⟨101, _⟩ => ⟨S16x512x1024, .i1⟩
  | .hbm, ⟨102, _⟩ => ⟨S16x512x1024, .f32⟩
  | .hbm, ⟨103, _⟩ => ⟨S16x512x1024, .f32⟩
  | .hbm, ⟨104, _⟩ => ⟨S10240x2048, .bf16⟩
  | .local _ .vmem, ⟨0, _⟩ => ⟨S512x128, .bf16⟩
  | .local _ .vmem, ⟨1, _⟩ => ⟨S512x128, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x512x1024, .f32⟩
  | .local _ .vmem, ⟨11, _⟩ => ⟨S1x512x1024, .f32⟩
  | .local _ .vmem, ⟨12, _⟩ => ⟨S512x128, .bf16⟩
  | .local _ .vmem, ⟨13, _⟩ => ⟨S512x128, .bf16⟩
  | _, _ => ⟨S10240x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_0 : Ref sig .tc := ⟨.hbm, 20, rfl⟩
abbrev main_c_1 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_5 : Ref sig .tc := ⟨.hbm, 41, rfl⟩
abbrev main_call1_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v33 : Ref sig .tc := ⟨.hbm, 68, rfl⟩
abbrev main_v34 : Ref sig .tc := ⟨.hbm, 69, rfl⟩
abbrev main_c_7 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_c : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_c_0 : Ref sig .tc := ⟨.hbm, 84, rfl⟩
abbrev main_call3_v12 : Ref sig .tc := ⟨.hbm, 85, rfl⟩
abbrev main_call3_v13 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_c_8 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_cst_9 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_v46 : Ref sig .tc := ⟨.hbm, 103, rfl⟩
abbrev main_v47 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S10240x2048 : Shape := ⟨2, ![10240, 2048]⟩
abbrev S1x16x257 : Shape := ⟨3, ![1, 16, 257]⟩
abbrev S8192 : Shape := ⟨1, ![8192]⟩
abbrev S8192x2048 : Shape := ⟨2, ![8192, 2048]⟩
abbrev S1x8192x16x128 : Shape := ⟨4, ![1, 8192, 16, 128]⟩
abbrev S16x257 : Shape := ⟨2, ![16, 257]⟩
abbrev S1x16x8192x8192 : Shape := ⟨4, ![1, 16, 8192, 8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S8192x8192x1 : Shape := ⟨3, ![8192, 8192, 1]⟩
abbrev S16x8192x8192 : Shape := ⟨3, ![16, 8192, 8192]⟩
abbrev S1x16x8192 : Shape := ⟨3, ![1, 16, 8192]⟩
abbrev S1x16x8192x1 : Shape := ⟨4, ![1, 16, 8192, 1]⟩
abbrev S1x16x128x8192 : Shape := ⟨4, ![1, 16, 128, 8192]⟩

abbrev nBuf : Space → Nat
  | .hbm => 124
  | .vmem => 0
  | .smem => 0
  | _ => 0

abbrev bufTy : (tb : Table) → Fin (tcTables nBuf tb) → BufTy
  | .hbm, ⟨0, _⟩ => ⟨S10240x2048, .bf16⟩
  | .hbm, ⟨1, _⟩ => ⟨S10240x2048, .f32⟩
  | .hbm, ⟨2, _⟩ => ⟨S10240x2048, .f32⟩
  | .hbm, ⟨3, _⟩ => ⟨S1x16x257, .f32⟩
  | .hbm, ⟨4, _⟩ => ⟨S8192, .i32⟩
  | .hbm, ⟨5, _⟩ => ⟨S8192x2048, .bf16⟩
  | .hbm, ⟨6, _⟩ => ⟨S8192x2048, .f32⟩
  | .hbm, ⟨7, _⟩ => ⟨S1x8192x16x128, .f32⟩
  | .hbm, ⟨8, _⟩ => ⟨S8192x2048, .f32⟩
  | .hbm, ⟨9, _⟩ => ⟨S1x8192x16x128, .f32⟩
  | .hbm, ⟨10, _⟩ => ⟨S8192x2048, .f32⟩
  | .hbm, ⟨11, _⟩ => ⟨S1x8192x16x128, .f32⟩
  | .hbm, ⟨12, _⟩ => ⟨S16x257, .f32⟩
  | .hbm, ⟨13, _⟩ => ⟨S1x16x8192x8192, .f32⟩
  | .hbm, ⟨14, _⟩ => ⟨S_, .f32⟩
  | .hbm, ⟨15, _⟩ => ⟨S1x16x8192x8192, .f32⟩
  | .hbm, ⟨16, _⟩ => ⟨S1x16x8192x8192, .f32⟩
  | .hbm, ⟨17, _⟩ => ⟨S8192x1, .i32⟩
  | .hbm, ⟨18, _⟩ => ⟨S1x8192, .i32⟩
  | .hbm, ⟨19, _⟩ => ⟨S8192x8192, .i32⟩
  | .hbm, ⟨20, _⟩ => ⟨S8192x8192, .i32⟩
  | .hbm, ⟨21, _⟩ => ⟨S8192x8192, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S8192x8192, .i32⟩
  | .hbm, ⟨26, _⟩ => ⟨S8192x8192, .i32⟩
  | .hbm, ⟨27, _⟩ => ⟨S_, .i32⟩
  | .hbm, ⟨28, _⟩ => ⟨S8192x8192, .i32⟩
  | .hbm, ⟨29, _⟩ => ⟨S8192x8192, .i32⟩
  | .hbm, ⟨30, _⟩ => ⟨S_, .i32⟩
  | .hbm, ⟨31, _⟩ => ⟨S8192x8192, .i32⟩
  | .hbm, ⟨32, _⟩ => ⟨S8192x8192, .i32⟩
  | .hbm, ⟨33, _⟩ => ⟨S_, .i32⟩
  | .hbm, ⟨34, _⟩ => ⟨S8192x8192, .i32⟩
  | .hbm, ⟨35, _⟩ => ⟨S8192x8192, .i1⟩
  | .hbm, ⟨36, _⟩ => ⟨S_, .i32⟩
  | .hbm, ⟨37, _⟩ => ⟨S8192x8192, .i32⟩
  | .hbm, ⟨38, _⟩ => ⟨S8192x8192, .i32⟩
  | .hbm, ⟨39, _⟩ => ⟨S8192x8192, .i32⟩
  | .hbm, ⟨40, _⟩ => ⟨S8192x8192x1, .i32⟩
  | .hbm, ⟨41, _⟩ => ⟨S16x8192x8192, .f32⟩
  | .hbm, ⟨42, _⟩ => ⟨S1x16x8192x8192, .f32⟩
  | .hbm, ⟨43, _⟩ => ⟨S1x16x8192x8192, .f32⟩
  | .hbm, ⟨44, _⟩ => ⟨S8192x1, .i32⟩
  | .hbm, ⟨45, _⟩ => ⟨S_, .i32⟩
  | .hbm, ⟨46, _⟩ => ⟨S_, .i32⟩
  | .hbm, ⟨47, _⟩ => ⟨S8192x1, .i32⟩
  | .hbm, ⟨48, _⟩ => ⟨S8192x1, .i32⟩
  | .hbm, ⟨49, _⟩ => ⟨S8192x1, .i32⟩
  | .hbm, ⟨50, _⟩ => ⟨S_, .i32⟩
  | .hbm, ⟨51, _⟩ => ⟨S8192x1, .i32⟩
  | .hbm, ⟨52, _⟩ => ⟨S8192x1, .i1⟩
  | .hbm, ⟨53, _⟩ => ⟨S8192x1, .i32⟩
  | .hbm, ⟨54, _⟩ => ⟨S8192x1, .i32⟩
  | .hbm, ⟨55, _⟩ => ⟨S_, .i32⟩
  | .hbm, ⟨56, _⟩ => ⟨S8192x1, .i32⟩
  | .hbm, ⟨57, _⟩ => ⟨S8192x1, .i1⟩
  | .hbm, ⟨58, _⟩ => ⟨S8192x1, .i1⟩
  | .hbm, ⟨59, _⟩ => ⟨S_, .i32⟩
  | .hbm, ⟨60, _⟩ => ⟨S8192x1, .i32⟩
  | .hbm, ⟨61, _⟩ => ⟨S8192x1, .i32⟩
  | .hbm, ⟨62, _⟩ => ⟨S8192x1, .i32⟩
  | .hbm, ⟨63, _⟩ => ⟨S1x8192, .i32⟩
  | .hbm, ⟨64, _⟩ => ⟨S_, .i32⟩
  | .hbm, ⟨65, _⟩ => ⟨S_, .i32⟩
  | .hbm, ⟨66, _⟩ => ⟨S1x8192, .i32⟩
  | .hbm, ⟨67, _⟩ => ⟨S1x8192, .i32⟩
  | .hbm, ⟨68, _⟩ => ⟨S1x8192, .i32⟩
  | .hbm, ⟨69, _⟩ => ⟨S_, .i32⟩
  | .hbm, ⟨70, _⟩ => ⟨S1x8192, .i32⟩
  | .hbm, ⟨71, _⟩ => ⟨S1x8192, .i1⟩
  | .hbm, ⟨72, _⟩ => ⟨S1x8192, .i32⟩
  | .hbm, ⟨73, _⟩ => ⟨S1x8192, .i32⟩
  | .hbm, ⟨74, _⟩ => ⟨S_, .i32⟩
  | .hbm, ⟨75, _⟩ => ⟨S1x8192, .i32⟩
  | .hbm, ⟨76, _⟩ => ⟨S1x8192, .i1⟩
  | .hbm, ⟨77, _⟩ => ⟨S1x8192, .i1⟩
  | .hbm, ⟨78, _⟩ => ⟨S_, .i32⟩
  | .hbm, ⟨79, _⟩ => ⟨S1x8192, .i32⟩
  | .hbm, ⟨80, _⟩ => ⟨S1x8192, .i32⟩
  | .hbm, ⟨81, _⟩ => ⟨S1x8192, .i32⟩
  | .hbm, ⟨82, _⟩ => ⟨S1x8192, .i32⟩
  | .hbm, ⟨83, _⟩ => ⟨S_, .i32⟩
  | .hbm, ⟨84, _⟩ => ⟨S1x8192, .i32⟩
  | .hbm, ⟨85, _⟩ => ⟨S1x8192, .i1⟩
  | .hbm, ⟨86, _⟩ => ⟨S8192x8192, .i32⟩
  | .hbm, ⟨87, _⟩ => ⟨S8192x8192, .i32⟩
  | .hbm, ⟨88, _⟩ => ⟨S8192x8192, .i1⟩
  | .hbm, ⟨89, _⟩ => ⟨S8192x8192, .i1⟩
  | .hbm, ⟨90, _⟩ => ⟨S8192x8192, .i1⟩
  | .hbm, ⟨91, _⟩ => ⟨S_, .i32⟩
  | .hbm, ⟨92, _⟩ => ⟨S8192x1, .i32⟩
  | .hbm, ⟨93, _⟩ => ⟨S8192x1, .i32⟩
  | .hbm, ⟨94, _⟩ => ⟨S8192x8192, .i32⟩
  | .hbm, ⟨95, _⟩ => ⟨S8192x8192, .i32⟩
  | .hbm, ⟨96, _⟩ => ⟨S8192x8192, .i1⟩
  | .hbm, ⟨97, _⟩ => ⟨S8192x8192, .i1⟩
  | .hbm, ⟨98, _⟩ => ⟨S_, .f32⟩
  | .hbm, ⟨99, _⟩ => ⟨S_, .f32⟩
  | .hbm, ⟨100, _⟩ => ⟨S1x16x8192x8192, .i1⟩
  | .hbm, ⟨101, _⟩ => ⟨S1x16x8192x8192, .f32⟩
  | .hbm, ⟨102, _⟩ => ⟨S1x16x8192x8192, .f32⟩
  | .hbm, ⟨103, _⟩ => ⟨S_, .f32⟩
  | .hbm, ⟨104, _⟩ => ⟨S1x16x8192, .f32⟩
  | .hbm, ⟨105, _⟩ => ⟨S_, .f32⟩
  | .hbm, ⟨106, _⟩ => ⟨S1x16x8192, .f32⟩
  | .hbm, ⟨107, _⟩ => ⟨S1x16x8192, .f32⟩
  | .hbm, ⟨108, _⟩ => ⟨S1x16x8192x1, .f32⟩
  | .hbm, ⟨109, _⟩ => ⟨S1x16x8192x8192, .f32⟩
  | .hbm, ⟨110, _⟩ => ⟨S1x16x8192x8192, .f32⟩
  | .hbm, ⟨111, _⟩ => ⟨S1x16x8192x8192, .f32⟩
  | .hbm, ⟨112, _⟩ => ⟨S_, .f32⟩
  | .hbm, ⟨113, _⟩ => ⟨S1x16x8192, .f32⟩
  | .hbm, ⟨114, _⟩ => ⟨S1x16x8192x1, .f32⟩
  | .hbm, ⟨115, _⟩ => ⟨S1x16x8192x8192, .f32⟩
  | .hbm, ⟨116, _⟩ => ⟨S1x16x8192x8192, .f32⟩
  | .hbm, ⟨117, _⟩ => ⟨S1x16x128x8192, .f32⟩
  | .hbm, ⟨118, _⟩ => ⟨S1x8192x16x128, .f32⟩
  | .hbm, ⟨119, _⟩ => ⟨S8192x2048, .f32⟩
  | .hbm, ⟨120, _⟩ => ⟨S8192x2048, .bf16⟩
  | .hbm, ⟨121, _⟩ => ⟨S_, .i32⟩
  | .hbm, ⟨122, _⟩ => ⟨S_, .bf16⟩
  | .hbm, ⟨123, _⟩ => ⟨S10240x2048, .bf16⟩
  | _, _ => ⟨S10240x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_c_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_c : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_0 : Ref sig .tc := ⟨.hbm, 59, rfl⟩
abbrev main_call1_v12 : Ref sig .tc := ⟨.hbm, 60, rfl⟩
abbrev main_call1_v13 : Ref sig .tc := ⟨.hbm, 61, rfl⟩
abbrev main_v30 : Ref sig .tc := ⟨.hbm, 62, rfl⟩
abbrev main_v31 : Ref sig .tc := ⟨.hbm, 63, rfl⟩
abbrev main_c_5 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_v6 : Ref sig .tc := ⟨.hbm, 71, rfl⟩
abbrev main_call2_v7 : Ref sig .tc := ⟨.hbm, 72, rfl⟩
abbrev main_call2_v8 : Ref sig .tc := ⟨.hbm, 73, rfl⟩
abbrev main_call2_c : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_0 : Ref sig .tc := ⟨.hbm, 78, rfl⟩
abbrev main_call2_v12 : Ref sig .tc := ⟨.hbm, 79, rfl⟩
abbrev main_call2_v13 : Ref sig .tc := ⟨.hbm, 80, rfl⟩
abbrev main_v32 : Ref sig .tc := ⟨.hbm, 81, rfl⟩
abbrev main_v33 : Ref sig .tc := ⟨.hbm, 82, rfl⟩
abbrev main_c_6 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_c_7 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_cst_8 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v47 : Ref sig .tc := ⟨.hbm, 102, rfl⟩
abbrev main_cst_9 : Ref sig .tc := ⟨.hbm, 103, rfl⟩
abbrev main_v48 : Ref sig .tc := ⟨.hbm, 104, rfl⟩
abbrev main_cst_10 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_cst_11 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_c_12 : Ref sig .tc := ⟨.hbm, 121, rfl⟩
abbrev main_call4_v0 : Ref sig .tc := ⟨.hbm, 122, rfl⟩
abbrev main_v63 : Ref sig .tc := ⟨.hbm, 123, rfl⟩

abbrev nD : Nat := 1
abbrev τ : Topo := Topo.v7x

variable {F : FTy → Type} [FloatOps F]
-- ==== CKeys.lean ====
abbrev S10240x4096 : Shape := ⟨2, ![10240, 4096]⟩
abbrev S1x4096x12288 : Shape := ⟨3, ![1, 4096, 12288]⟩
abbrev S8192x4096 : Shape := ⟨2, ![8192, 4096]⟩
abbrev S8192x32x128 : Shape := ⟨3, ![8192, 32, 128]⟩
abbrev S1024x4096 : Shape := ⟨2, ![1024, 4096]⟩
abbrev S1x4096x1024 : Shape := ⟨3, ![1, 4096, 1024]⟩
abbrev S1024x1024 : Shape := ⟨2, ![1024, 1024]⟩
abbrev S1024x8x128 : Shape := ⟨3, ![1024, 8, 128]⟩
abbrev S4096x1024 : Shape := ⟨2, ![4096, 1024]⟩

abbrev nBuf : Space → Nat
  | .hbm => 5
  | .vmem => 8
  | .smem => 0
  | _ => 0

abbrev bufTy : (tb : Table) → Fin (tcTables nBuf tb) → BufTy
  | .hbm, ⟨0, _⟩ => ⟨S10240x4096, .bf16⟩
  | .hbm, ⟨1, _⟩ => ⟨S1x4096x12288, .f32⟩
  | .hbm, ⟨2, _⟩ => ⟨S1x4096x12288, .bf16⟩
  | .hbm, ⟨3, _⟩ => ⟨S8192x4096, .bf16⟩
  | .hbm, ⟨4, _⟩ => ⟨S8192x32x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x8x128, .f32⟩
  | .local _ .vmem, ⟨7, _⟩ => ⟨S1024x8x128, .f32⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefCKeysIdeal.lean ====
abbrev S10240x4096 : Shape := ⟨2, ![10240, 4096]⟩
abbrev S1x4096x12288 : Shape := ⟨3, ![1, 4096, 12288]⟩
abbrev S8192x4096 : Shape := ⟨2, ![8192, 4096]⟩
abbrev S4096x12288 : Shape := ⟨2, ![4096, 12288]⟩
abbrev S8192x12288 : Shape := ⟨2, ![8192, 12288]⟩
abbrev S8192x32x128 : Shape := ⟨3, ![8192, 32, 128]⟩

abbrev nBuf : Space → Nat
  | .hbm => 9
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S1x4096x12288, .f32⟩
  | .hbm, ⟨2, _⟩ => ⟨S8192x4096, .bf16⟩
  | .hbm, ⟨3, _⟩ => ⟨S8192x4096, .f32⟩
  | .hbm, ⟨4, _⟩ => ⟨S4096x12288, .f32⟩
  | .hbm, ⟨5, _⟩ => ⟨S8192x12288, .f32⟩
  | .hbm, ⟨6, _⟩ => ⟨S8192x4096, .f32⟩
  | .hbm, ⟨7, _⟩ => ⟨S8192x4096, .bf16⟩
  | .hbm, ⟨8, _⟩ => ⟨S8192x32x128, .f32⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== CValues.lean ====
abbrev S10240x4096 : Shape := ⟨2, ![10240, 4096]⟩
abbrev S1x4096x12288 : Shape := ⟨3, ![1, 4096, 12288]⟩
abbrev S8192x4096 : Shape := ⟨2, ![8192, 4096]⟩
abbrev S8192x32x128 : Shape := ⟨3, ![8192, 32, 128]⟩
abbrev S1024x4096 : Shape := ⟨2, ![1024, 4096]⟩
abbrev S1x4096x1024 : Shape := ⟨3, ![1, 4096, 1024]⟩
abbrev S1024x1024 : Shape := ⟨2, ![1024, 1024]⟩
abbrev S1024x8x128 : Shape := ⟨3, ![1024, 8, 128]⟩
abbrev S4096x1024 : Shape := ⟨2, ![4096, 1024]⟩

abbrev nBuf : Space → Nat
  | .hbm => 5
  | .vmem => 8
  | .smem => 0
  | _ => 0

abbrev bufTy : (tb : Table) → Fin (tcTables nBuf tb) → BufTy
  | .hbm, ⟨0, _⟩ => ⟨S10240x4096, .bf16⟩
  | .hbm, ⟨1, _⟩ => ⟨S1x4096x12288, .f32⟩
  | .hbm, ⟨2, _⟩ => ⟨S1x4096x12288, .bf16⟩
  | .hbm, ⟨3, _⟩ => ⟨S8192x4096, .bf16⟩
  | .hbm, ⟨4, _⟩ => ⟨S8192x32x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x8x128, .f32⟩
  | .local _ .vmem, ⟨7, _⟩ => ⟨S1024x8x128, .f32⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefCValuesIdeal.lean ====
abbrev S10240x4096 : Shape := ⟨2, ![10240, 4096]⟩
abbrev S1x4096x12288 : Shape := ⟨3, ![1, 4096, 12288]⟩
abbrev S8192x4096 : Shape := ⟨2, ![8192, 4096]⟩
abbrev S4096x12288 : Shape := ⟨2, ![4096, 12288]⟩
abbrev S8192x12288 : Shape := ⟨2, ![8192, 12288]⟩
abbrev S8192x32x128 : Shape := ⟨3, ![8192, 32, 128]⟩

abbrev nBuf : Space → Nat
  | .hbm => 9
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S1x4096x12288, .f32⟩
  | .hbm, ⟨2, _⟩ => ⟨S8192x4096, .bf16⟩
  | .hbm, ⟨3, _⟩ => ⟨S8192x4096, .f32⟩
  | .hbm, ⟨4, _⟩ => ⟨S4096x12288, .f32⟩
  | .hbm, ⟨5, _⟩ => ⟨S8192x12288, .f32⟩
  | .hbm, ⟨6, _⟩ => ⟨S8192x4096, .f32⟩
  | .hbm, ⟨7, _⟩ => ⟨S8192x4096, .bf16⟩
  | .hbm, ⟨8, _⟩ => ⟨S8192x32x128, .f32⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== CQueries.lean ====
abbrev S10240x4096 : Shape := ⟨2, ![10240, 4096]⟩
abbrev S1x4096x12288 : Shape := ⟨3, ![1, 4096, 12288]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S10240x4096, .bf16⟩
  | .hbm, ⟨1, _⟩ => ⟨S1x4096x12288, .f32⟩
  | .hbm, ⟨2, _⟩ => ⟨S1x4096x12288, .bf16⟩
  | .hbm, ⟨3, _⟩ => ⟨S10240x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .bf16⟩
  | .local _ .vmem, ⟨5, _⟩ => ⟨S1024x512, .bf16⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefCQueriesIdeal.lean ====
abbrev S10240x4096 : Shape := ⟨2, ![10240, 4096]⟩
abbrev S1x4096x12288 : Shape := ⟨3, ![1, 4096, 12288]⟩
abbrev S4096x12288 : Shape := ⟨2, ![4096, 12288]⟩
abbrev S10240x12288 : Shape := ⟨2, ![10240, 12288]⟩

abbrev nBuf : Space → Nat
  | .hbm => 7
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S1x4096x12288, .f32⟩
  | .hbm, ⟨2, _⟩ => ⟨S10240x4096, .f32⟩
  | .hbm, ⟨3, _⟩ => ⟨S4096x12288, .f32⟩
  | .hbm, ⟨4, _⟩ => ⟨S10240x12288, .f32⟩
  | .hbm, ⟨5, _⟩ => ⟨S10240x4096, .f32⟩
  | .hbm, ⟨6, _⟩ => ⟨S10240x4096, .bf16⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AQueries.lean ====
abbrev S10240x4096 : Shape := ⟨2, ![10240, 4096]⟩
abbrev S1x4096x8192 : Shape := ⟨3, ![1, 4096, 8192]⟩
abbrev S1x128 : Shape := ⟨2, ![1, 128]⟩
abbrev S128 : Shape := ⟨1, ![128]⟩
abbrev S10240x2048 : Shape := ⟨2, ![10240, 2048]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 7
  | .smem => 0
  | _ => 0

abbrev bufTy : (tb : Table) → Fin (tcTables nBuf tb) → BufTy
  | .hbm, ⟨0, _⟩ => ⟨S10240x4096, .bf16⟩
  | .hbm, ⟨1, _⟩ => ⟨S1x4096x8192, .f32⟩
  | .hbm, ⟨2, _⟩ => ⟨S1x128, .f32⟩
  | .hbm, ⟨3, _⟩ => ⟨S1x4096x8192, .bf16⟩
  | .hbm, ⟨4, _⟩ => ⟨S128, .f32⟩
  | .hbm, ⟨5, _⟩ => ⟨S1x128, .f32⟩
  | .hbm, ⟨6, _⟩ => ⟨S10240x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x128, .f32⟩
  | .local _ .vmem, ⟨5, _⟩ => ⟨S1024x512, .bf16⟩
  | .local _ .vmem, ⟨6, _⟩ => ⟨S1024x512, .bf16⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![10, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefAQueriesIdeal.lean ====
abbrev S10240x4096 : Shape := ⟨2, ![10240, 4096]⟩
abbrev S1x4096x8192 : Shape := ⟨3, ![1, 4096, 8192]⟩
abbrev S1x128 : Shape := ⟨2, ![1, 128]⟩
abbrev S4096x8192 : Shape := ⟨2, ![4096, 8192]⟩
abbrev S10240x8192 : Shape := ⟨2, ![10240, 8192]⟩
abbrev S10240x2048 : Shape := ⟨2, ![10240, 2048]⟩
abbrev S10240x16x128 : Shape := ⟨3, ![10240, 16, 128]⟩
abbrev S128 : Shape := ⟨1, ![128]⟩
abbrev S_ : Shape := ⟨0, ![]⟩
abbrev S10240x16 : Shape := ⟨2, ![10240, 16]⟩
abbrev S10240x16x1 : Shape := ⟨3, ![10240, 16, 1]⟩
abbrev S1x1x128 : Shape := ⟨3, ![1, 1, 128]⟩

abbrev nBuf : Space → Nat
  | .hbm => 27
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S1x4096x8192, .f32⟩
  | .hbm, ⟨2, _⟩ => ⟨S1x128, .f32⟩
  | .hbm, ⟨3, _⟩ => ⟨S10240x4096, .f32⟩
  | .hbm, ⟨4, _⟩ => ⟨S4096x8192, .f32⟩
  | .hbm, ⟨5, _⟩ => ⟨S10240x8192, .f32⟩
  | .hbm, ⟨6, _⟩ => ⟨S10240x2048, .f32⟩
  | .hbm, ⟨7, _⟩ => ⟨S10240x16x128, .f32⟩
  | .hbm, ⟨8, _⟩ => ⟨S128, .f32⟩
  | .hbm, ⟨9, _⟩ => ⟨S10240x16x128, .f32⟩
  | .hbm, ⟨10, _⟩ => ⟨S_, .f32⟩
  | .hbm, ⟨11, _⟩ => ⟨S10240x16, .f32⟩
  | .hbm, ⟨12, _⟩ => ⟨S10240x16x1, .f32⟩
  | .hbm, ⟨13, _⟩ => ⟨S_, .f32⟩
  | .hbm, ⟨14, _⟩ => ⟨S10240x16x1, .f32⟩
  | .hbm, ⟨15, _⟩ => ⟨S10240x16x1, .f32⟩
  | .hbm, ⟨16, _⟩ => ⟨S_, .f32⟩
  | .hbm, ⟨17, _⟩ => ⟨S10240x16x1, .f32⟩
  | .hbm, ⟨18, _⟩ => ⟨S10240x16x1, .f32⟩
  | .hbm, ⟨19, _⟩ => ⟨S10240x16x1, .f32⟩
  | .hbm, ⟨20, _⟩ => ⟨S10240x16x128, .f32⟩
  | .hbm, ⟨21, _⟩ => ⟨S10240x16x128, .f32⟩
  | .hbm, ⟨22, _⟩ => ⟨S1x1x128, .f32⟩
  | .hbm, ⟨23, _⟩ => ⟨S10240x16x128, .f32⟩
  | .hbm, ⟨24, _⟩ => ⟨S10240x16x128, .f32⟩
  | .hbm, ⟨25, _⟩ => ⟨S10240x2048, .f32⟩
  | .hbm, ⟨26, _⟩ => ⟨S10240x2048, .bf16⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== AKeys.lean ====
abbrev S10240x4096 : Shape := ⟨2, ![10240, 4096]⟩
abbrev S1x4096x8192 : Shape := ⟨3, ![1, 4096, 8192]⟩
abbrev S1x128 : Shape := ⟨2, ![1, 128]⟩
abbrev S128 : Shape := ⟨1, ![128]⟩
abbrev S10240x2048 : Shape := ⟨2, ![10240, 2048]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 7
  | .smem => 0
  | _ => 0

abbrev bufTy : (tb : Table) → Fin (tcTables nBuf tb) → BufTy
  | .hbm, ⟨0, _⟩ => ⟨S10240x4096, .bf16⟩
  | .hbm, ⟨1, _⟩ => ⟨S1x4096x8192, .f32⟩
  | .hbm, ⟨2, _⟩ => ⟨S1x128, .f32⟩
  | .hbm, ⟨3, _⟩ => ⟨S1x4096x8192, .bf16⟩
  | .hbm, ⟨4, _⟩ => ⟨S128, .f32⟩
  | .hbm, ⟨5, _⟩ => ⟨S1x128, .f32⟩
  | .hbm, ⟨6, _⟩ => ⟨S10240x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x128, .f32⟩
  | .local _ .vmem, ⟨5, _⟩ => ⟨S1024x512, .f32⟩
  | .local _ .vmem, ⟨6, _⟩ => ⟨S1024x512, .f32⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![10, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  let c0_i32_0 : BitVec 32 := 0#32
  ![c0_i32.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefAKeysIdeal.lean ====
abbrev S10240x4096 : Shape := ⟨2, ![10240, 4096]⟩
abbrev S1x4096x8192 : Shape := ⟨3, ![1, 4096, 8192]⟩
abbrev S1x128 : Shape := ⟨2, ![1, 128]⟩
abbrev S4096x8192 : Shape := ⟨2, ![4096, 8192]⟩
abbrev S10240x8192 : Shape := ⟨2, ![10240, 8192]⟩
abbrev S10240x2048 : Shape := ⟨2, ![10240, 2048]⟩
abbrev S10240x16x128 : Shape := ⟨3, ![10240, 16, 128]⟩
abbrev S128 : Shape := ⟨1, ![128]⟩
abbrev S_ : Shape := ⟨0, ![]⟩
abbrev S10240x16 : Shape := ⟨2, ![10240, 16]⟩
abbrev S10240x16x1 : Shape := ⟨3, ![10240, 16, 1]⟩
abbrev S1x1x128 : Shape := ⟨3, ![1, 1, 128]⟩

abbrev nBuf : Space → Nat
  | .hbm => 26
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S1x4096x8192, .f32⟩
  | .hbm, ⟨2, _⟩ => ⟨S1x128, .f32⟩
  | .hbm, ⟨3, _⟩ => ⟨S10240x4096, .f32⟩
  | .hbm, ⟨4, _⟩ => ⟨S4096x8192, .f32⟩
  | .hbm, ⟨5, _⟩ => ⟨S10240x8192, .f32⟩
  | .hbm, ⟨6, _⟩ => ⟨S10240x2048, .f32⟩
  | .hbm, ⟨7, _⟩ => ⟨S10240x16x128, .f32⟩
  | .hbm, ⟨8, _⟩ => ⟨S128, .f32⟩
  | .hbm, ⟨9, _⟩ => ⟨S10240x16x128, .f32⟩
  | .hbm, ⟨10, _⟩ => ⟨S_, .f32⟩
  | .hbm, ⟨11, _⟩ => ⟨S10240x16, .f32⟩
  | .hbm, ⟨12, _⟩ => ⟨S10240x16x1, .f32⟩
  | .hbm, ⟨13, _⟩ => ⟨S_, .f32⟩
  | .hbm, ⟨14, _⟩ => ⟨S10240x16x1, .f32⟩
  | .hbm, ⟨15, _⟩ => ⟨S10240x16x1, .f32⟩
  | .hbm, ⟨16, _⟩ => ⟨S_, .f32⟩
  | .hbm, ⟨17, _⟩ => ⟨S10240x16x1, .f32⟩
  | .hbm, ⟨18, _⟩ => ⟨S10240x16x1, .f32⟩
  | .hbm, ⟨19, _⟩ => ⟨S10240x16x1, .f32⟩
  | .hbm, ⟨20, _⟩ => ⟨S10240x16x128, .f32⟩
  | .hbm, ⟨21, _⟩ => ⟨S10240x16x128, .f32⟩
  | .hbm, ⟨22, _⟩ => ⟨S1x1x128, .f32⟩
  | .hbm, ⟨23, _⟩ => ⟨S10240x16x128, .f32⟩
  | .hbm, ⟨24, _⟩ => ⟨S10240x16x128, .f32⟩
  | .hbm, ⟨25, _⟩ => ⟨S10240x2048, .f32⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== AValues.lean ====
abbrev S10240x4096 : Shape := ⟨2, ![10240, 4096]⟩
abbrev S1x4096x8192 : Shape := ⟨3, ![1, 4096, 8192]⟩
abbrev S10240x2048 : Shape := ⟨2, ![10240, 2048]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S10240x4096, .bf16⟩
  | .hbm, ⟨1, _⟩ => ⟨S1x4096x8192, .f32⟩
  | .hbm, ⟨2, _⟩ => ⟨S1x4096x8192, .bf16⟩
  | .hbm, ⟨3, _⟩ => ⟨S10240x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c0_i32 : BitVec 32 := 0#32
  let c0_i32_0 : BitVec 32 := 0#32
  ![c0_i32.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefAValuesIdeal.lean ====
abbrev S10240x4096 : Shape := ⟨2, ![10240, 4096]⟩
abbrev S1x4096x8192 : Shape := ⟨3, ![1, 4096, 8192]⟩
abbrev S4096x8192 : Shape := ⟨2, ![4096, 8192]⟩
abbrev S10240x8192 : Shape := ⟨2, ![10240, 8192]⟩
abbrev S10240x2048 : Shape := ⟨2, ![10240, 2048]⟩

abbrev nBuf : Space → Nat
  | .hbm => 6
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S1x4096x8192, .f32⟩
  | .hbm, ⟨2, _⟩ => ⟨S10240x4096, .f32⟩
  | .hbm, ⟨3, _⟩ => ⟨S4096x8192, .f32⟩
  | .hbm, ⟨4, _⟩ => ⟨S10240x8192, .f32⟩
  | .hbm, ⟨5, _⟩ => ⟨S10240x2048, .f32⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BInputs.lean ====
abbrev S10240x4096 : Shape := ⟨2, ![10240, 4096]⟩
abbrev S1x4096x8192 : Shape := ⟨3, ![1, 4096, 8192]⟩
abbrev S10240x2048 : Shape := ⟨2, ![10240, 2048]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 4
  | .vmem => 6
  | .smem => 0
  | _ => 0

abbrev bufTy : (tb : Table) → Fin (tcTables nBuf tb) → BufTy
  | .hbm, ⟨0, _⟩ => ⟨S10240x4096, .bf16⟩
  | .hbm, ⟨1, _⟩ => ⟨S1x4096x8192, .f32⟩
  | .hbm, ⟨2, _⟩ => ⟨S1x4096x8192, .bf16⟩
  | .hbm, ⟨3, _⟩ => ⟨S10240x2048, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c0_i32 : BitVec 32 := 0#32
  let c0_i32_0 : BitVec 32 := 0#32
  ![c0_i32.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefBInputsIdeal.lean ====
abbrev S10240x4096 : Shape := ⟨2, ![10240, 4096]⟩
abbrev S1x4096x8192 : Shape := ⟨3, ![1, 4096, 8192]⟩
abbrev S4096x8192 : Shape := ⟨2, ![4096, 8192]⟩
abbrev S10240x8192 : Shape := ⟨2, ![10240, 8192]⟩
abbrev S10240x2048 : Shape := ⟨2, ![10240, 2048]⟩

abbrev nBuf : Space → Nat
  | .hbm => 6
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S1x4096x8192, .f32⟩
  | .hbm, ⟨2, _⟩ => ⟨S10240x4096, .f32⟩
  | .hbm, ⟨3, _⟩ => ⟨S4096x8192, .f32⟩
  | .hbm, ⟨4, _⟩ => ⟨S10240x8192, .f32⟩
  | .hbm, ⟨5, _⟩ => ⟨S10240x2048, .f32⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AOutput.lean ====
abbrev S10240x2048 : Shape := ⟨2, ![10240, 2048]⟩
abbrev S1x4096x4096 : Shape := ⟨3, ![1, 4096, 4096]⟩
abbrev S10240x4096 : Shape := ⟨2, ![10240, 4096]⟩
abbrev S1024x2048 : Shape := ⟨2, ![1024, 2048]⟩
abbrev S1x4096x512 : Shape := ⟨3, ![1, 4096, 512]⟩
abbrev S1024x512 : Shape := ⟨2, ![1024, 512]⟩
abbrev S1x2048x512 : Shape := ⟨3, ![1, 2048, 512]⟩
abbrev S2048x512 : Shape := ⟨2, ![2048, 512]⟩

abbrev nBuf : Space → Nat
  | .hbm => 6
  | .vmem => 10
  | .smem => 0
  | _ => 0

abbrev bufTy : (tb : Table) → Fin (tcTables nBuf tb) → BufTy
  | .hbm, ⟨0, _⟩ => ⟨S10240x2048, .bf16⟩
  | .hbm, ⟨1, _⟩ => ⟨S10240x2048, .bf16⟩
  | .hbm, ⟨2, _⟩ => ⟨S1x4096x4096, .f32⟩
  | .hbm, ⟨3, _⟩ => ⟨S10240x4096, .f32⟩
  | .hbm, ⟨4, _⟩ => ⟨S1x4096x4096, .bf16⟩
  | .hbm, ⟨5, _⟩ => ⟨S10240x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x2048, .bf16⟩
  | .local _ .vmem, ⟨5, _⟩ => ⟨S1024x2048, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S10240x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![10, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RefAOutputIdeal.lean ====
abbrev S10240x2048 : Shape := ⟨2, ![10240, 2048]⟩
abbrev S1x4096x4096 : Shape := ⟨3, ![1, 4096, 4096]⟩
abbrev S10240x4096 : Shape := ⟨2, ![10240, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S10240x2048, .bf16⟩
  | .hbm, ⟨1, _⟩ => ⟨S10240x2048, .bf16⟩
  | .hbm, ⟨2, _⟩ => ⟨S1x4096x4096, .f32⟩
  | .hbm, ⟨3, _⟩ => ⟨S10240x4096, .f32⟩
  | .hbm, ⟨4, _⟩ => ⟨S10240x2048, .f32⟩
  | .hbm, ⟨5, _⟩ => ⟨S10240x2048, .f32⟩
  | .hbm, ⟨6, _⟩ => ⟨S10240x4096, .f32⟩
  | .hbm, ⟨7, _⟩ => ⟨S4096x4096, .f32⟩
  | .hbm, ⟨8, _⟩ => ⟨S10240x4096, .f32⟩
  | .hbm, ⟨9, _⟩ => ⟨S10240x4096, .f32⟩
  | _, _ => ⟨S10240x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== COutput.lean ====
abbrev S10240x4096 : Shape := ⟨2, ![10240, 4096]⟩
abbrev S1x4096x4096 : Shape := ⟨3, ![1, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 5
  | .vmem => 8
  | .smem => 0
  | _ => 0

abbrev bufTy : (tb : Table) → Fin (tcTables nBuf tb) → BufTy
  | .hbm, ⟨0, _⟩ => ⟨S10240x4096, .bf16⟩
  | .hbm, ⟨1, _⟩ => ⟨S1x4096x4096, .f32⟩
  | .hbm, ⟨2, _⟩ => ⟨S10240x4096, .f32⟩
  | .hbm, ⟨3, _⟩ => ⟨S1x4096x4096, .bf16⟩
  | .hbm, ⟨4, _⟩ => ⟨S10240x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![10, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefCOutputIdeal.lean ====
abbrev S10240x4096 : Shape := ⟨2, ![10240, 4096]⟩
abbrev S1x4096x4096 : Shape := ⟨3, ![1, 4096, 4096]⟩
abbrev S4096x4096 : Shape := ⟨2, ![4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S1x4096x4096, .f32⟩
  | .hbm, ⟨2, _⟩ => ⟨S10240x4096, .f32⟩
  | .hbm, ⟨3, _⟩ => ⟨S10240x4096, .f32⟩
  | .hbm, ⟨4, _⟩ => ⟨S4096x4096, .f32⟩
  | .hbm, ⟨5, _⟩ => ⟨S10240x4096, .f32⟩
  | .hbm, ⟨6, _⟩ => ⟨S10240x4096, .f32⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Scores.lean ====
abbrev S10240x4096 : Shape := ⟨2, ![10240, 4096]⟩
abbrev S2x4096x2048 : Shape := ⟨3, ![2, 4096, 2048]⟩
abbrev S2x8x2x128x128 : Shape := ⟨5, ![2, 8, 2, 128, 128]⟩
abbrev S2x16x128x128 : Shape := ⟨4, ![2, 16, 128, 128]⟩
abbrev S16x128x10240 : Shape := ⟨3, ![16, 128, 10240]⟩
abbrev S1024x4096 : Shape := ⟨2, ![1024, 4096]⟩
abbrev S1x4096x512 : Shape := ⟨3, ![1, 4096, 512]⟩
abbrev S1x4x128x128 : Shape := ⟨4, ![1, 4, 128, 128]⟩
abbrev S4x128x1024 : Shape := ⟨3, ![4, 128, 1024]⟩
abbrev S4096x512 : Shape := ⟨2, ![4096, 512]⟩
abbrev S1024x512 : Shape := ⟨2, ![1024, 512]⟩
abbrev S1x1x128x128 : Shape := ⟨4, ![1, 1, 128, 128]⟩
abbrev S128x128 : Shape := ⟨2, ![128, 128]⟩
abbrev S1024x128 : Shape := ⟨2, ![1024, 128]⟩
abbrev S128x1024 : Shape := ⟨2, ![128, 1024]⟩
abbrev S1x128x1024 : Shape := ⟨3, ![1, 128, 1024]⟩

abbrev nBuf : Space → Nat
  | .hbm => 7
  | .vmem => 8
  | .smem => 0
  | _ => 0

abbrev bufTy : (tb : Table) → Fin (tcTables nBuf tb) → BufTy
  | .hbm, ⟨0, _⟩ => ⟨S10240x4096, .bf16⟩
  | .hbm, ⟨1, _⟩ => ⟨S2x4096x2048, .f32⟩
  | .hbm, ⟨2, _⟩ => ⟨S2x8x2x128x128, .f32⟩
  | .hbm, ⟨3, _⟩ => ⟨S2x8x2x128x128, .bf16⟩
  | .hbm, ⟨4, _⟩ => ⟨S2x16x128x128, .bf16⟩
  | .hbm, ⟨5, _⟩ => ⟨S2x4096x2048, .bf16⟩
  | .hbm, ⟨6, _⟩ => ⟨S16x128x10240, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x4x128x128, .bf16⟩
  | .local _ .vmem, ⟨5, _⟩ => ⟨S1x4x128x128, .bf16⟩
  | .local _ .vmem, ⟨6, _⟩ => ⟨S4x128x1024, .f32⟩
  | .local _ .vmem, ⟨7, _⟩ => ⟨S4x128x1024, .f32⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![10, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefScoresIdeal.lean ====
abbrev S10240x4096 : Shape := ⟨2, ![10240, 4096]⟩
abbrev S2x4096x2048 : Shape := ⟨3, ![2, 4096, 2048]⟩
abbrev S2x8x2x128x128 : Shape := ⟨5, ![2, 8, 2, 128, 128]⟩
abbrev S1x4096x2048 : Shape := ⟨3, ![1, 4096, 2048]⟩
abbrev S4096x2048 : Shape := ⟨2, ![4096, 2048]⟩
abbrev S10240x2048 : Shape := ⟨2, ![10240, 2048]⟩
abbrev S10240x8x2x128 : Shape := ⟨4, ![10240, 8, 2, 128]⟩
abbrev S1x8x2x128x128 : Shape := ⟨5, ![1, 8, 2, 128, 128]⟩
abbrev S8x2x128x128 : Shape := ⟨4, ![8, 2, 128, 128]⟩
abbrev S8x2x128x10240 : Shape := ⟨4, ![8, 2, 128, 10240]⟩
abbrev S16x128x10240 : Shape := ⟨3, ![16, 128, 10240]⟩

abbrev nBuf : Space → Nat
  | .hbm => 14
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S2x4096x2048, .f32⟩
  | .hbm, ⟨2, _⟩ => ⟨S2x8x2x128x128, .f32⟩
  | .hbm, ⟨3, _⟩ => ⟨S10240x4096, .f32⟩
  | .hbm, ⟨4, _⟩ => ⟨S1x4096x2048, .f32⟩
  | .hbm, ⟨5, _⟩ => ⟨S4096x2048, .f32⟩
  | .hbm, ⟨6, _⟩ => ⟨S10240x2048, .f32⟩
  | .hbm, ⟨7, _⟩ => ⟨S10240x8x2x128, .f32⟩
  | .hbm, ⟨8, _⟩ => ⟨S1x8x2x128x128, .f32⟩
  | .hbm, ⟨9, _⟩ => ⟨S8x2x128x128, .f32⟩
  | .hbm, ⟨10, _⟩ => ⟨S8x2x128x10240, .f32⟩
  | .hbm, ⟨11, _⟩ => ⟨S10240x8x2x128, .f32⟩
  | .hbm, ⟨12, _⟩ => ⟨S8x2x128x10240, .f32⟩
  | .hbm, ⟨13, _⟩ => ⟨S16x128x10240, .f32⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Norm.lean ====
abbrev S10240x4096 : Shape := ⟨2, ![10240, 4096]⟩
abbrev S2x4096 : Shape := ⟨2, ![2, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S10240x4096, .f32⟩
  | .hbm, ⟨1, _⟩ => ⟨S2x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S10240x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S10240x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefNormIdeal.lean ====
abbrev S10240x4096 : Shape := ⟨2, ![10240, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S10240 : Shape := ⟨1, ![10240]⟩
abbrev S10240x1 : Shape := ⟨2, ![10240, 1]⟩

abbrev nBuf : Space → Nat
  | .hbm => 21
  | .vmem => 0
  | .smem => 0
  | _ => 0

abbrev bufTy : (tb : Table) → Fin (tcTables nBuf tb) → BufTy
  | .hbm, ⟨0, _⟩ => ⟨S10240x4096, .f32⟩
  | .hbm, ⟨1, _⟩ => ⟨S2x4096, .f32⟩
  | .hbm, ⟨2, _⟩ => ⟨S1x4096, .f32⟩
  | .hbm, ⟨3, _⟩ => ⟨S4096, .f32⟩
  | .hbm, ⟨4, _⟩ => ⟨S10240x4096, .f32⟩
  | .hbm, ⟨5, _⟩ => ⟨S_, .f32⟩
  | .hbm, ⟨6, _⟩ => ⟨S10240, .f32⟩
  | .hbm, ⟨7, _⟩ => ⟨S10240x1, .f32⟩
  | .hbm, ⟨8, _⟩ => ⟨S_, .f32⟩
  | .hbm, ⟨9, _⟩ => ⟨S10240x1, .f32⟩
  | .hbm, ⟨10, _⟩ => ⟨S10240x1, .f32⟩
  | .hbm, ⟨11, _⟩ => ⟨S_, .f32⟩
  | .hbm, ⟨12, _⟩ => ⟨S10240x1, .f32⟩
  | .hbm, ⟨13, _⟩ => ⟨S10240x1, .f32⟩
  | .hbm, ⟨14, _⟩ => ⟨S10240x1, .f32⟩
  | .hbm, ⟨15, _⟩ => ⟨S10240x4096, .f32⟩
  | .hbm, ⟨16, _⟩ => ⟨S10240x4096, .f32⟩
  | .hbm, ⟨17, _⟩ => ⟨S1x4096, .f32⟩
  | .hbm, ⟨18, _⟩ => ⟨S10240x4096, .f32⟩
  | .hbm, ⟨19, _⟩ => ⟨S10240x4096, .f32⟩
  | .hbm, ⟨20, _⟩ => ⟨S10240x4096, .bf16⟩
  | _, _ => ⟨S10240x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== CKeysSample.lean ====
abbrev S10240x4096 : Shape := ⟨2, ![10240, 4096]⟩
abbrev S1x4096x12288 : Shape := ⟨3, ![1, 4096, 12288]⟩
abbrev S2048x4096 : Shape := ⟨2, ![2048, 4096]⟩
abbrev S2048x32x128 : Shape := ⟨3, ![2048, 32, 128]⟩
abbrev S1024x4096 : Shape := ⟨2, ![1024, 4096]⟩
abbrev S1x4096x1024 : Shape := ⟨3, ![1, 4096, 1024]⟩
abbrev S1024x1024 : Shape := ⟨2, ![1024, 1024]⟩
abbrev S1024x8x128 : Shape := ⟨3, ![1024, 8, 128]⟩
abbrev S4096x1024 : Shape := ⟨2, ![4096, 1024]⟩

abbrev nBuf : Space → Nat
  | .hbm => 5
  | .vmem => 8
  | .smem => 0
  | _ => 0

abbrev bufTy : (tb : Table) → Fin (tcTables nBuf tb) → BufTy
  | .hbm, ⟨0, _⟩ => ⟨S10240x4096, .bf16⟩
  | .hbm, ⟨1, _⟩ => ⟨S1x4096x12288, .f32⟩
  | .hbm, ⟨2, _⟩ => ⟨S1x4096x12288, .bf16⟩
  | .hbm, ⟨3, _⟩ => ⟨S2048x4096, .bf16⟩
  | .hbm, ⟨4, _⟩ => ⟨S2048x32x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x8x128, .f32⟩
  | .local _ .vmem, ⟨7, _⟩ => ⟨S1024x8x128, .f32⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefCKeysSampleIdeal.lean ====
abbrev S10240x4096 : Shape := ⟨2, ![10240, 4096]⟩
abbrev S1x4096x12288 : Shape := ⟨3, ![1, 4096, 12288]⟩
abbrev S2048x4096 : Shape := ⟨2, ![2048, 4096]⟩
abbrev S4096x12288 : Shape := ⟨2, ![4096, 12288]⟩
abbrev S2048x12288 : Shape := ⟨2, ![2048, 12288]⟩
abbrev S2048x32x128 : Shape := ⟨3, ![2048, 32, 128]⟩

abbrev nBuf : Space → Nat
  | .hbm => 9
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S1x4096x12288, .f32⟩
  | .hbm, ⟨2, _⟩ => ⟨S2048x4096, .bf16⟩
  | .hbm, ⟨3, _⟩ => ⟨S2048x4096, .f32⟩
  | .hbm, ⟨4, _⟩ => ⟨S4096x12288, .f32⟩
  | .hbm, ⟨5, _⟩ => ⟨S2048x12288, .f32⟩
  | .hbm, ⟨6, _⟩ => ⟨S2048x4096, .f32⟩
  | .hbm, ⟨7, _⟩ => ⟨S2048x4096, .bf16⟩
  | .hbm, ⟨8, _⟩ => ⟨S2048x32x128, .f32⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== CValuesSample.lean ====
abbrev S10240x4096 : Shape := ⟨2, ![10240, 4096]⟩
abbrev S1x4096x12288 : Shape := ⟨3, ![1, 4096, 12288]⟩
abbrev S2048x4096 : Shape := ⟨2, ![2048, 4096]⟩
abbrev S2048x32x128 : Shape := ⟨3, ![2048, 32, 128]⟩
abbrev S1024x4096 : Shape := ⟨2, ![1024, 4096]⟩
abbrev S1x4096x1024 : Shape := ⟨3, ![1, 4096, 1024]⟩
abbrev S1024x1024 : Shape := ⟨2, ![1024, 1024]⟩
abbrev S1024x8x128 : Shape := ⟨3, ![1024, 8, 128]⟩
abbrev S4096x1024 : Shape := ⟨2, ![4096, 1024]⟩

abbrev nBuf : Space → Nat
  | .hbm => 5
  | .vmem => 8
  | .smem => 0
  | _ => 0

abbrev bufTy : (tb : Table) → Fin (tcTables nBuf tb) → BufTy
  | .hbm, ⟨0, _⟩ => ⟨S10240x4096, .bf16⟩
  | .hbm, ⟨1, _⟩ => ⟨S1x4096x12288, .f32⟩
  | .hbm, ⟨2, _⟩ => ⟨S1x4096x12288, .bf16⟩
  | .hbm, ⟨3, _⟩ => ⟨S2048x4096, .bf16⟩
  | .hbm, ⟨4, _⟩ => ⟨S2048x32x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x8x128, .f32⟩
  | .local _ .vmem, ⟨7, _⟩ => ⟨S1024x8x128, .f32⟩
  | _, _ => ⟨S10240x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg1 c8_i32
  let c0_i32 : BitVec 32 := 0#32
  let c0_i32_0 : BitVec 32 := 0#32
  let c0_i32_1 : BitVec 32 := 0#32
  ![c0_i32.toNat, c0_i32_0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefCValuesSampleIdeal.lean ====
abbrev S10240x4096 : Shape := ⟨2, ![10240, 4096]⟩
abbrev S1x4096x12288 : Shape := ⟨3, ![1, 4096, 12288]⟩
abbrev S2048x4096 : Shape := ⟨2, ![2048, 4096]⟩
abbrev S4096x12288 : Shape := ⟨2, ![4096, 12288]⟩
abbrev S2048x12288 : Shape := ⟨2, ![2048, 12288]⟩
abbrev S2048x32x128 : Shape := ⟨3, ![2048, 32, 128]⟩

abbrev nBuf : Space → Nat
  | .hbm => 9
  | .vmem => 0
  | .smem => 0
  | _ => 0

abbrev bufTy : (tb : Table) → Fin (tcTables nBuf tb) → BufTy
  | .hbm, ⟨0, _⟩ => ⟨S10240x4096, .bf16⟩
  | .hbm, ⟨1, _⟩ => ⟨S1x4096x12288, .f32⟩
  | .hbm, ⟨2, _⟩ => ⟨S2048x4096, .bf16⟩
  | .hbm, ⟨3, _⟩ => ⟨S2048x4096, .f32⟩
  | .hbm, ⟨4, _⟩ => ⟨S4096x12288, .f32⟩
  | .hbm, ⟨5, _⟩ => ⟨S2048x12288, .f32⟩
  | .hbm, ⟨6, _⟩ => ⟨S2048x4096, .f32⟩
  | .hbm, ⟨7, _⟩ => ⟨S2048x4096, .bf16⟩
  | .hbm, ⟨8, _⟩ => ⟨S2048x32x128, .f32⟩
  | _, _ => ⟨S10240x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== First.lean ====
abbrev S1x8192x4096 : Shape := ⟨3, ![1, 8192, 4096]⟩
abbrev S32x64x4096 : Shape := ⟨3, ![32, 64, 4096]⟩
abbrev S2x4096 : Shape := ⟨2, ![2, 4096]⟩
abbrev S1x4096x8192 : Shape := ⟨3, ![1, 4096, 8192]⟩
abbrev S1x128 : Shape := ⟨2, ![1, 128]⟩
abbrev S8192x4096 : Shape := ⟨2, ![8192, 4096]⟩
abbrev S2048x4096 : Shape := ⟨2, ![2048, 4096]⟩
abbrev S10240x4096 : Shape := ⟨2, ![10240, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩
abbrev S128 : Shape := ⟨1, ![128]⟩
abbrev S10240x2048 : Shape := ⟨2, ![10240, 2048]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 18
  | .vmem => 24
  | .smem => 0
  | _ => 0

abbrev bufTy : (tb : Table) → Fin (tcTables nBuf tb) → BufTy
  | .hbm, ⟨0, _⟩ => ⟨S1x8192x4096, .f32⟩
  | .hbm, ⟨1, _⟩ => ⟨S32x64x4096, .f32⟩
  | .hbm, ⟨2, _⟩ => ⟨S2x4096, .f32⟩
  | .hbm, ⟨3, _⟩ => ⟨S1x4096x8192, .f32⟩
  | .hbm, ⟨4, _⟩ => ⟨S1x128, .f32⟩
  | .hbm, ⟨5, _⟩ => ⟨S8192x4096, .f32⟩
  | .hbm, ⟨6, _⟩ => ⟨S2048x4096, .f32⟩
  | .hbm, ⟨7, _⟩ => ⟨S10240x4096, .f32⟩
  | .hbm, ⟨8, _⟩ => ⟨S1x4096x8192, .bf16⟩
  | .hbm, ⟨9, _⟩ => ⟨S1x4096, .f32⟩
  | .hbm, ⟨10, _⟩ => ⟨S4096, .f32⟩
  | .hbm, ⟨11, _⟩ => ⟨S1x4096, .f32⟩
  | .hbm, ⟨12, _⟩ => ⟨S10240x4096, .bf16⟩
  | .hbm, ⟨13, _⟩ => ⟨S128, .f32⟩
  | .hbm, ⟨14, _⟩ => ⟨S1x128, .f32⟩
  | .hbm, ⟨15, _⟩ => ⟨S10240x2048, .f32⟩
  | .hbm, ⟨16, _⟩ => ⟨S10240x2048, .f32⟩
  | .hbm, ⟨17, _⟩ => ⟨S10240x2048, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1024x4096, .bf16⟩
  | .local _ .vmem, ⟨6, _⟩ => ⟨S1024x4096, .bf16⟩
  | .local _ .vmem, ⟨7, _⟩ => ⟨S1x4096x512, .bf16⟩
  | .local _ .vmem, ⟨8, _⟩ => ⟨S1x4096x512, .bf16⟩
  | .local _ .vmem, ⟨9, _⟩ => ⟨S1x128, .f32⟩
  | .local _ .vmem, ⟨10, _⟩ => ⟨S1024x512, .f32⟩
  | .local _ .vmem, ⟨11, _⟩ => ⟨S1024x512, .f32⟩
  | .local _ .vmem, ⟨12, _⟩ => ⟨S1024x4096, .bf16⟩
  | .local _ .vmem, ⟨13, _⟩ => ⟨S1024x4096, .bf16⟩
  | .local _ .vmem, ⟨14, _⟩ => ⟨S1x4096x512, .bf16⟩
  | .local _ .vmem, ⟨15, _⟩ => ⟨S1x4096x512, .bf16⟩
  | .local _ .vmem, ⟨16, _⟩ => ⟨S1024x512, .f32⟩
  | .local _ .vmem, ⟨17, _⟩ => ⟨S1024x512, .f32⟩
  | .local _ .vmem, ⟨18, _⟩ => ⟨S1024x4096, .bf16⟩
  | .local _ .vmem, ⟨19, _⟩ => ⟨S1024x4096, .bf16⟩
  | .local _ .vmem, ⟨20, _⟩ => ⟨S1x4096x512, .bf16⟩
  | .local _ .vmem, ⟨21, _⟩ => ⟨S1x4096x512, .bf16⟩
  | .local _ .vmem, ⟨22, _⟩ => ⟨S1024x512, .f32⟩
  | .local _ .vmem, ⟨23, _⟩ => ⟨S1024x512, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![10, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  let c0_i32_0 : BitVec 32 := 0#32
  ![c0_i32.toNat, arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false, false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![10, 4, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi arg1 c8_i32
  let c0_i32 : BitVec 32 := 0#32
  let c0_i32_0 : BitVec 32 := 0#32
  ![c0_i32.toNat, arg2.toNat, v0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![10, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc3_transform_1 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi arg1 c12_i32
  let c0_i32 : BitVec 32 := 0#32
  let c0_i32_0 : BitVec 32 := 0#32
  ![c0_i32.toNat, arg2.toNat, v0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1x4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]
-- ==== RefFirstIdeal.lean ====
abbrev S1x8192x4096 : Shape := ⟨3, ![1, 8192, 4096]⟩
abbrev S32x64x4096 : Shape := ⟨3, ![32, 64, 4096]⟩
abbrev S2x4096 : Shape := ⟨2, ![2, 4096]⟩
abbrev S1x4096x8192 : Shape := ⟨3, ![1, 4096, 8192]⟩
abbrev S1x128 : Shape := ⟨2, ![1, 128]⟩
abbrev S1x4096 : Shape := ⟨2, ![1, 4096]⟩
abbrev S4096 : Shape := ⟨1, ![4096]⟩
abbrev S_ : Shape := ⟨0, ![]⟩
abbrev S1x8192 : Shape := ⟨2, ![1, 8192]⟩
abbrev S1x8192x1 : Shape := ⟨3, ![1, 8192, 1]⟩
abbrev S1x1x4096 : Shape := ⟨3, ![1, 1, 4096]⟩
abbrev S4096x8192 : Shape := ⟨2, ![4096, 8192]⟩
abbrev S128 : Shape := ⟨1, ![128]⟩
abbrev S1x8192x8192 : Shape := ⟨3, ![1, 8192, 8192]⟩
abbrev S1x8192x2048 : Shape := ⟨3, ![1, 8192, 2048]⟩
abbrev S1x8192x16x128 : Shape := ⟨4, ![1, 8192, 16, 128]⟩
abbrev S1x8192x16 : Shape := ⟨3, ![1, 8192, 16]⟩
abbrev S1x8192x16x1 : Shape := ⟨4, ![1, 8192, 16, 1]⟩
abbrev S1x1x1x128 : Shape := ⟨4, ![1, 1, 1, 128]⟩
abbrev S8192x2048 : Shape := ⟨2, ![8192, 2048]⟩
abbrev S32x64 : Shape := ⟨2, ![32, 64]⟩
abbrev S32x64x1 : Shape := ⟨3, ![32, 64, 1]⟩
abbrev S32x64x8192 : Shape := ⟨3, ![32, 64, 8192]⟩
abbrev S32x64x2048 : Shape := ⟨3, ![32, 64, 2048]⟩
abbrev S32x64x16x128 : Shape := ⟨4, ![32, 64, 16, 128]⟩
abbrev S32x64x16 : Shape := ⟨3, ![32, 64, 16]⟩
abbrev S32x64x16x1 : Shape := ⟨4, ![32, 64, 16, 1]⟩
abbrev S2048x2048 : Shape := ⟨2, ![2048, 2048]⟩
abbrev S10240x2048 : Shape := ⟨2, ![10240, 2048]⟩

abbrev nBuf : Space → Nat
  | .hbm => 96
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S32x64x4096, .f32⟩
  | .hbm, ⟨2, _⟩ => ⟨S2x4096, .f32⟩
  | .hbm, ⟨3, _⟩ => ⟨S1x4096x8192, .f32⟩
  | .hbm, ⟨4, _⟩ => ⟨S1x128, .f32⟩
  | .hbm, ⟨5, _⟩ => ⟨S1x4096, .f32⟩
  | .hbm, ⟨6, _⟩ => ⟨S4096, .f32⟩
  | .hbm, ⟨7, _⟩ => ⟨S1x8192x4096, .f32⟩
  | .hbm, ⟨8, _⟩ => ⟨S_, .f32⟩
  | .hbm, ⟨9, _⟩ => ⟨S1x8192, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S_, .f32⟩
  | .hbm, ⟨15, _⟩ => ⟨S1x8192x1, .f32⟩
  | .hbm, ⟨16, _⟩ => ⟨S1x8192x1, .f32⟩
  | .hbm, ⟨17, _⟩ => ⟨S1x8192x1, .f32⟩
  | .hbm, ⟨18, _⟩ => ⟨S1x8192x4096, .f32⟩
  | .hbm, ⟨19, _⟩ => ⟨S1x8192x4096, .f32⟩
  | .hbm, ⟨20, _⟩ => ⟨S1x1x4096, .f32⟩
  | .hbm, ⟨21, _⟩ => ⟨S1x8192x4096, .f32⟩
  | .hbm, ⟨22, _⟩ => ⟨S1x8192x4096, .f32⟩
  | .hbm, ⟨23, _⟩ => ⟨S4096x8192, .f32⟩
  | .hbm, ⟨24, _⟩ => ⟨S128, .f32⟩
  | .hbm, ⟨25, _⟩ => ⟨S1x8192x8192, .f32⟩
  | .hbm, ⟨26, _⟩ => ⟨S1x8192x2048, .f32⟩
  | .hbm, ⟨27, _⟩ => ⟨S1x8192x16x128, .f32⟩
  | .hbm, ⟨28, _⟩ => ⟨S1x8192x2048, .f32⟩
  | .hbm, ⟨29, _⟩ => ⟨S1x8192x2048, .f32⟩
  | .hbm, ⟨30, _⟩ => ⟨S1x8192x16x128, .f32⟩
  | .hbm, ⟨31, _⟩ => ⟨S_, .f32⟩
  | .hbm, ⟨32, _⟩ => ⟨S1x8192x16, .f32⟩
  | .hbm, ⟨33, _⟩ => ⟨S1x8192x16x1, .f32⟩
  | .hbm, ⟨34, _⟩ => ⟨S_, .f32⟩
  | .hbm, ⟨35, _⟩ => ⟨S1x8192x16x1, .f32⟩
  | .hbm, ⟨36, _⟩ => ⟨S1x8192x16x1, .f32⟩
  | .hbm, ⟨37, _⟩ => ⟨S_, .f32⟩
  | .hbm, ⟨38, _⟩ => ⟨S1x8192x16x1, .f32⟩
  | .hbm, ⟨39, _⟩ => ⟨S1x8192x16x1, .f32⟩
  | .hbm, ⟨40, _⟩ => ⟨S1x8192x16x1, .f32⟩
  | .hbm, ⟨41, _⟩ => ⟨S1x8192x16x128, .f32⟩
  | .hbm, ⟨42, _⟩ => ⟨S1x8192x16x128, .f32⟩
  | .hbm, ⟨43, _⟩ => ⟨S1x1x1x128, .f32⟩
  | .hbm, ⟨44, _⟩ => ⟨S1x8192x16x128, .f32⟩
  | .hbm, ⟨45, _⟩ => ⟨S1x8192x16x128, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S1x4096, .f32⟩
  | .hbm, ⟨50, _⟩ => ⟨S4096, .f32⟩
  | .hbm, ⟨51, _⟩ => ⟨S32x64x4096, .f32⟩
  | .hbm, ⟨52, _⟩ => ⟨S_, .f32⟩
  | .hbm, ⟨53, _⟩ => ⟨S32x64, .f32⟩
  | .hbm, ⟨54, _⟩ => ⟨S32x64x1, .f32⟩
  | .hbm, ⟨55, _⟩ => ⟨S_, .f32⟩
  | .hbm, ⟨56, _⟩ => ⟨S32x64x1, .f32⟩
  | .hbm, ⟨57, _⟩ => ⟨S32x64x1, .f32⟩
  | .hbm, ⟨58, _⟩ => ⟨S_, .f32⟩
  | .hbm, ⟨59, _⟩ => ⟨S32x64x1, .f32⟩
  | .hbm, ⟨60, _⟩ => ⟨S32x64x1, .f32⟩
  | .hbm, ⟨61, _⟩ => ⟨S32x64x1, .f32⟩
  | .hbm, ⟨62, _⟩ => ⟨S32x64x4096, .f32⟩
  | .hbm, ⟨63, _⟩ => ⟨S32x64x4096, .f32⟩
  | .hbm, ⟨64, _⟩ => ⟨S1x1x4096, .f32⟩
  | .hbm, ⟨65, _⟩ => ⟨S32x64x4096, .f32⟩
  | .hbm, ⟨66, _⟩ => ⟨S32x64x4096, .f32⟩
  | .hbm, ⟨67, _⟩ => ⟨S4096x8192, .f32⟩
  | .hbm, ⟨68, _⟩ => ⟨S128, .f32⟩
  | .hbm, ⟨69, _⟩ => ⟨S32x64x8192, .f32⟩
  | .hbm, ⟨70, _⟩ => ⟨S32x64x2048, .f32⟩
  | .hbm, ⟨71, _⟩ => ⟨S32x64x16x128, .f32⟩
  | .hbm, ⟨72, _⟩ => ⟨S32x64x2048, .f32⟩
  | .hbm, ⟨73, _⟩ => ⟨S32x64x2048, .f32⟩
  | .hbm, ⟨74, _⟩ => ⟨S32x64x16x128, .f32⟩
  | .hbm, ⟨75, _⟩ => ⟨S_, .f32⟩
  | .hbm, ⟨76, _⟩ => ⟨S32x64x16, .f32⟩
  | .hbm, ⟨77, _⟩ => ⟨S32x64x16x1, .f32⟩
  | .hbm, ⟨78, _⟩ => ⟨S_, .f32⟩
  | .hbm, ⟨79, _⟩ => ⟨S32x64x16x1, .f32⟩
  | .hbm, ⟨80, _⟩ => ⟨S32x64x16x1, .f32⟩
  | .hbm, ⟨81, _⟩ => ⟨S_, .f32⟩
  | .hbm, ⟨82, _⟩ => ⟨S32x64x16x1, .f32⟩
  | .hbm, ⟨83, _⟩ => ⟨S32x64x16x1, .f32⟩
  | .hbm, ⟨84, _⟩ => ⟨S32x64x16x1, .f32⟩
  | .hbm, ⟨85, _⟩ => ⟨S32x64x16x128, .f32⟩
  | .hbm, ⟨86, _⟩ => ⟨S32x64x16x128, .f32⟩
  | .hbm, ⟨87, _⟩ => ⟨S1x1x1x128, .f32⟩
  | .hbm, ⟨88, _⟩ => ⟨S32x64x16x128, .f32⟩
  | .hbm, ⟨89, _⟩ => ⟨S32x64x16x128, .f32⟩
  | .hbm, ⟨90, _⟩ => ⟨S2048x2048, .f32⟩
  | .hbm, ⟨91, _⟩ => ⟨S2048x2048, .f32⟩
  | .hbm, ⟨92, _⟩ => ⟨S2048x2048, .f32⟩
  | .hbm, ⟨93, _⟩ => ⟨S10240x2048, .f32⟩
  | .hbm, ⟨94, _⟩ => ⟨S10240x2048, .f32⟩
  | .hbm, ⟨95, _⟩ => ⟨S10240x2048, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_v61 : Ref sig .tc := ⟨.hbm, 76, rfl⟩
abbrev main_v62 : Ref sig .tc := ⟨.hbm, 77, rfl⟩
abbrev main_cst_9 : Ref sig .tc := ⟨.hbm, 78, rfl⟩
abbrev main_v63 : Ref sig .tc := ⟨.hbm, 79, rfl⟩
abbrev main_v64 : Ref sig .tc := ⟨.hbm, 80, rfl⟩
abbrev main_cst_10 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩

abbrev nD : Nat := 1
abbrev τ : Topo := Topo.v7x

variable {F : FTy → Type} [FloatOps F]
-- ==== Proof.Soft.lean ====
/-
  Softmax-weighted sums over the extended reals: a row of attention computed in two blocks of keys, with one division
  at the end, is the softmax of the whole row applied to the values, and keys whose score is −∞ contribute nothing.
-/
module

public import Idealize.ShloMosaic.PureOps.Ideal

@[expose] public section

noncomputable section

namespace Cert.Soft

open Idealize.ShloMosaic

variable {ι κ : Type} [Fintype ι] [Fintype κ]

/-- The largest score of a row (−∞ for an empty row). -/
def mx (s : ι → EReal) : EReal := Finset.univ.sup s

/-- The softmax denominator of a row. -/
def den (s : ι → EReal) : EReal := ∑ k, Ideal.exp (s k - mx s)

/-- Softmax of the scores `s`, then the weighted sum of the values `v`. -/
def att (s v : ι → EReal) : EReal := ∑ k, Ideal.div (Ideal.exp (s k - mx s)) (den s) * v k

/-- Two blocks of keys under one common maximum, divided once at the end. -/
def two (sa va : ι → EReal) (sb vb : κ → EReal) : EReal :=
  Ideal.div
    ((∑ k, Ideal.exp (sa k - max (mx sa) (mx sb)) * va k) + ∑ k, Ideal.exp (sb k - max (mx sa) (mx sb)) * vb k)
    ((∑ k, Ideal.exp (sa k - max (mx sa) (mx sb))) + ∑ k, Ideal.exp (sb k - max (mx sa) (mx sb)))

theorem le_mx (s : ι → EReal) (k : ι) : s k ≤ mx s := Finset.le_sup (Finset.mem_univ k)

/-- The largest of finitely many scores below +∞, one of them above −∞, is a real. -/
theorem mx_real (s : ι → EReal) (ht : ∀ k, s k ≠ ⊤) (hb : ∃ k, s k ≠ ⊥) : ∃ r : ℝ, mx s = r := by
  obtain ⟨k, hk⟩ := hb
  have h1 : mx s ≠ ⊥ := fun h => hk (le_bot_iff.1 (h ▸ le_mx s k))
  have h2 : mx s ≠ ⊤ := by
    have : mx s < ⊤ := (Finset.sup_lt_iff (by simp)).2 fun k _ => lt_top_iff_ne_top.2 (ht k)
    exact this.ne
  exact ⟨(mx s).toReal, (EReal.coe_toReal h2 h1).symm⟩

theorem mx_attained (s : ι → EReal) (hb : ∃ k, s k ≠ ⊥) : ∃ k, s k = mx s := by
  obtain ⟨k, _⟩ := hb
  obtain ⟨j, _, hj⟩ := Finset.exists_mem_eq_sup Finset.univ ⟨k, Finset.mem_univ k⟩ s
  exact ⟨j, hj.symm⟩

/-- A weight: the exponential of a score below +∞ less a real is a real that is not negative. -/
theorem exp_real (x : EReal) (r : ℝ) (hx : x ≠ ⊤) : ∃ p : ℝ, 0 ≤ p ∧ Ideal.exp (x - r) = p := by
  induction x with
  | bot => exact ⟨0, le_rfl, by rw [EReal.bot_sub]; rfl⟩
  | top => exact absurd rfl hx
  | coe x => exact ⟨Real.exp (x - r), (Real.exp_pos _).le, by rw [← EReal.coe_sub]; rfl⟩

theorem exp_bot_sub (m : EReal) : Ideal.exp (⊥ - m) = 0 := by rw [EReal.bot_sub]; rfl

/-- The denominator is a positive real. -/
theorem den_real (s : ι → EReal) (ht : ∀ k, s k ≠ ⊤) (hb : ∃ k, s k ≠ ⊥) : ∃ l : ℝ, 0 < l ∧ den s = l := by
  obtain ⟨r, hr⟩ := mx_real s ht hb
  choose p hp0 hp using fun k => exp_real (s k) r (ht k)
  obtain ⟨j, hj⟩ := mx_attained s hb
  refine ⟨∑ k, p k, ?_, ?_⟩
  · refine lt_of_lt_of_le (b := p j) ?_ (Finset.single_le_sum (fun k _ => hp0 k) (Finset.mem_univ j))
    have h := hp j
    rw [hj, hr, ← EReal.coe_sub] at h
    have h' : ((Real.exp (r - r) : ℝ) : EReal) = p j := h
    rw [← EReal.coe_eq_coe_iff.1 h']
    exact Real.exp_pos _
  · unfold den
    rw [hr]
    simp only [hp]
    exact (map_sum (⟨⟨fun x : ℝ => (x : EReal), EReal.coe_zero⟩, EReal.coe_add⟩ : ℝ →+ EReal) p _).symm

/-- A real factor that is not negative goes into a sum of extended reals. -/
theorem sum_mul_coe (f : ι → EReal) (c : ℝ) (hc : 0 ≤ c) : (∑ k, f k) * (c : EReal) = ∑ k, f k * (c : EReal) := by
  classical
  induction (Finset.univ : Finset ι) using Finset.induction_on with
  | empty => simp
  | insert a s ha ih =>
    rw [Finset.sum_insert ha, Finset.sum_insert ha, ← ih]
    exact EReal.right_distrib_of_nonneg_of_ne_top (by exact_mod_cast hc) (EReal.coe_ne_top _) _ _

/-- A weighted sum divided once is the sum of the values under divided weights. -/
theorem att_eq (s v : ι → EReal) (ht : ∀ k, s k ≠ ⊤) (hb : ∃ k, s k ≠ ⊥) :
    att s v = Ideal.div (∑ k, Ideal.exp (s k - mx s) * v k) (den s) := by
  obtain ⟨l, hl, h⟩ := den_real s ht hb
  unfold att
  rw [h, Ideal.div_coe hl.ne', sum_mul_coe _ _ (by positivity)]
  refine Finset.sum_congr rfl fun k _ => ?_
  rw [Ideal.div_coe hl.ne', mul_right_comm]

theorem mx_sum (sa : ι → EReal) (sb : κ → EReal) : mx (Sum.elim sa sb) = max (mx sa) (mx sb) := by
  refine le_antisymm (Finset.sup_le fun k _ => ?_) (max_le (Finset.sup_le fun k _ => ?_) (Finset.sup_le fun k _ => ?_))
  · cases k with
    | inl k => exact le_max_of_le_left (le_mx sa k)
    | inr k => exact le_max_of_le_right (le_mx sb k)
  · exact le_mx (Sum.elim sa sb) (.inl k)
  · exact le_mx (Sum.elim sa sb) (.inr k)

/-- The two-block form is softmax attention over both blocks' keys. -/
theorem two_eq (sa va : ι → EReal) (sb vb : κ → EReal) (ha : ∀ k, sa k ≠ ⊤) (hb : ∀ k, sb k ≠ ⊤) (h : ∃ k, sb k ≠ ⊥) :
    two sa va sb vb = att (Sum.elim sa sb) (Sum.elim va vb) := by
  rw [att_eq]
  · unfold two den
    rw [mx_sum, Fintype.sum_sum_type, Fintype.sum_sum_type]
    rfl
  · rintro (k | k)
    · exact ha k
    · exact hb k
  · obtain ⟨k, hk⟩ := h
    exact ⟨.inr k, hk⟩

theorem mx_inj (e : κ → ι) (s : ι → EReal) (h : ∀ i, i ∉ Set.range e → s i = ⊥) : mx (s ∘ e) = mx s := by
  refine le_antisymm (Finset.sup_le fun k _ => le_mx s (e k)) (Finset.sup_le fun i _ => ?_)
  by_cases hi : i ∈ Set.range e
  · obtain ⟨k, rfl⟩ := hi
    exact le_mx (s ∘ e) k
  · rw [h i hi]
    exact bot_le

/-- Keys of score −∞ may be left out. -/
theorem att_inj (e : κ → ι) (he : Function.Injective e) (s v : ι → EReal) (h : ∀ i, i ∉ Set.range e → s i = ⊥)
    (ht : ∀ k, s k ≠ ⊤) (hb : ∃ k, s (e k) ≠ ⊥) : att (s ∘ e) (v ∘ e) = att s v := by
  have hd : den (s ∘ e) = den s := by
    unfold den
    rw [mx_inj e s h]
    refine Fintype.sum_of_injective e he _ _ (fun i hi => ?_) fun k => rfl
    rw [h i hi, exp_bot_sub]
  have hb' : ∃ k, s k ≠ ⊥ := hb.elim fun k hk => ⟨e k, hk⟩
  rw [att_eq _ _ ht hb', att_eq (s ∘ e) (v ∘ e) (fun k => ht (e k)) hb, hd, mx_inj e s h]
  congr 1
  refine Fintype.sum_of_injective e he _ _ (fun i hi => ?_) fun k => rfl
  rw [h i hi, exp_bot_sub, zero_mul]

/-- The two-block form of a row whose first block is masked is attention over the second block. -/
theorem two_bot (va : ι → EReal) (sb vb : κ → EReal) (hb : ∀ k, sb k ≠ ⊤) (h : ∃ k, sb k ≠ ⊥) :
    two (fun _ => ⊥) va sb vb = att sb vb := by
  rw [two_eq _ _ _ _ (fun _ => bot_ne_top) hb h]
  refine (att_inj (Sum.inr : κ → ι ⊕ κ) Sum.inr_injective _ _ ?_ ?_ h).symm
  · rintro (k | k) hk
    · rfl
    · exact absurd ⟨k, rfl⟩ hk
  · rintro (k | k)
    · exact bot_ne_top
    · exact hb k

end Cert.Soft

end
-- ==== Proof.Pay.lean ====
/-
  What one grid point of the band attention stores, element by element: the two-block softmax form of Soft.lean.
-/
module

public import proofs.«01_k».proof.Proof.Gen.KernelIdeal.Skeleton
public import proofs.«01_k».proof.Proof.Soft
public import Idealize.ShloMosaic.Lib.Pointwise
public import Idealize.ShloMosaic.PureOps.IdealRules

@[expose] public section

set_option maxRecDepth 16384

noncomputable section

open Idealize.ShloMosaic Idealize.ShloMosaic.TcCoe Idealize.SL.Sem

namespace Cert.KernelIdeal.Band

open Cert.KernelIdeal Cert.KernelIdeal.Gen Cert.Soft

/-- The scale of the scores, as both programs write it. -/
abbrev scale : EReal := Ideal.ofBits .f32 0x3DB504F3#32

/-- The word of the grid coordinate that says whether there is a block before this one. -/
abbrev past (i : grid0.Coords) : BitVec 1 := Scalar.cmpi .sgt (BitVec.ofNat 32 (i 1).val) 0#32

theorem mask_named : Named.named (F := Ideal) Cert.KernelIdeal.κ "mask" (φ := .f32) 0xF149F2CA#32 = (⊥ : EReal) :=
  IdealRules.named_const.ideal_named_scalar _ _ _ _ rfl

theorem neg_inf : Ideal.ofBits .f32 0xFF800000#32 = ⊥ := by simp [Ideal.ofBits, Ideal.ieee]

/-- The upper half of a block of queries: 512 keys of the block before, 256 of its own. -/
theorem lo (i : grid0.Coords) (v1 : FVec Ideal S256x128 .bf16) (v2 : FVec Ideal S512x128 .f32) (v3 : FVec Ideal S256x128 .f32)
    (v4 : FVec Ideal S512x128 .f32) (v5 : FVec Ideal S256x128 .f32) (v6 : FVec Ideal S1x256x512 .f32)
    (v8 : FVec Ideal S1x256x256 .f32) (r : Fin 256) (d : Fin 128) :
    k0_pay7 (F := Ideal) v4 v5 (k0_pay5 i v1 v2 v3 v6 v8) (k0_pay6 i v1 v2 v3 v6 v8) (ix2 r d) =
      two (fun j : Fin 512 => Scalar.select (past i) ((∑ x : Fin 128, v1 (ix2 r x) * v2 (ix2 j x)) * scale + v6 (ix3 0 r j)) ⊥)
        (fun j => v4 (ix2 j d))
        (fun j : Fin 256 => (∑ x : Fin 128, v1 (ix2 r x) * v3 (ix2 j x)) * scale + v8 (ix3 0 r j))
        (fun j => v5 (ix2 j d)) := by
  pointwise [k0_pay7, k0_pay6, k0_pay5, k0_pay4, k0_pay3, k0_pay2, mask_named]
  simp only [neg_inf]
  rfl

/-- The lower half: 256 keys of the block before, 512 of its own. -/
theorem hi (i : grid0.Coords) (v49 : FVec Ideal S256x128 .bf16) (v50 : FVec Ideal S256x128 .f32) (v51 : FVec Ideal S512x128 .f32)
    (v52 : FVec Ideal S256x128 .f32) (v53 : FVec Ideal S512x128 .f32) (v54 : FVec Ideal S1x256x256 .f32)
    (v56 : FVec Ideal S1x256x512 .f32) (r : Fin 256) (d : Fin 128) :
    k0_pay1 (F := Ideal) (past i) v52 v53 (k0_pay8 v56) (k0_pay9 v49 v50 v54) (k0_pay10 v49 v51) (ix2 r d) =
      two (fun j : Fin 256 => Scalar.select (past i) ((∑ x : Fin 128, v49 (ix2 r x) * v50 (ix2 j x)) * scale + v54 (ix3 0 r j)) ⊥)
        (fun j => v52 (ix2 j d))
        (fun j : Fin 512 => (∑ x : Fin 128, v49 (ix2 r x) * v51 (ix2 j x)) * scale + v56 (ix3 0 r j))
        (fun j => v53 (ix2 j d)) := by
  pointwise [k0_pay1, k0_pay8, k0_pay9, k0_pay10, mask_named]
  simp only [neg_inf]
  rfl

end Cert.KernelIdeal.Band

end
-- ==== Proof.Words.lean ====
/-
  The index words of the band: floor division by the chunk, the band's mask, and the clipped distance that picks a bias.
-/
module

public import Idealize.ShloMosaic.Lib.Pointwise
public import Idealize.ShloMosaic.Lib.Routing.OpsSearch
public import Idealize.ShloMosaic.Lib.Tactic.WordOmega

@[expose] public section

set_option maxRecDepth 16384

noncomputable section

open Idealize.ShloMosaic Idealize.ShloMosaic.Routing

namespace Cert.Words

/-- Key `j` is in query `i`'s band: its chunk of 64 is the query's or one of the eight before it. -/
def band (i j : Nat) : Prop := j / 64 ≤ i / 64 ∧ i / 64 ≤ j / 64 + 8

instance (i j : Nat) : Decidable (band i j) := inferInstanceAs (Decidable (_ ∧ _))

/-- The row of the bias table for a distance: clipped to ±128 and shifted to start at 0. -/
def relRow (z : Int) : Nat := (max (-128) (min 128 z) + 128).toNat

theorem relRow_lt (z : Int) : relRow z < 257 := by unfold relRow; omega

/-- jnp's floor division of a word by the chunk, as it prints. -/
theorem chunk_word (n : Nat) (hn : n < 2 ^ 31) :
    Scalar.select
      (IntOp.andi
        (IntOp.cmpi .ne (if BitVec.ofNat 32 n = 0 then (0 : BitVec 32) else if (BitVec.ofNat 32 n).msb = true then -1 else 1)
          (if (64#32 : BitVec 32) = 0 then (0 : BitVec 32) else if BitVec.msb (64#32) = true then -1 else 1))
        (IntOp.cmpi .ne (IntOp.remsi .host (BitVec.ofNat 32 n) 64#32) 0#32))
      (IntOp.subi (IntOp.divsi .host (BitVec.ofNat 32 n) 64#32) 1#32) (IntOp.divsi .host (BitVec.ofNat 32 n) 64#32)
      = BitVec.ofNat 32 (n / 64) := by
  have e64 : (64#32 : BitVec 32) = BitVec.ofNat 32 64 := rfl
  rw [e64, remsi_word .host hn (by decide) (by decide), divsi_word .host hn (by decide) (by decide), msb_ofNat32 hn]
  rcases Nat.eq_zero_or_pos n with h | h
  · subst h
    decide
  · rw [if_neg (ofNat32_ne_zero h (show n < 2 ^ 32 by omega))]
    have e : IntOp.cmpi .ne (1 : BitVec 32) 1 = 0#1 := by decide
    show Scalar.select (IntOp.cmpi .ne (1 : BitVec 32) 1 &&& _) _ _ = _
    rw [e, BitVec.zero_and]
    rfl

/-- The chunk of a word, as it prints. -/
def chunkOf (w : BitVec 32) : BitVec 32 :=
  Scalar.select
    (IntOp.andi
      (IntOp.cmpi .ne (if w = 0 then (0 : BitVec 32) else if w.msb = true then -1 else 1)
        (if (64#32 : BitVec 32) = 0 then (0 : BitVec 32) else if BitVec.msb (64#32) = true then -1 else 1))
      (IntOp.cmpi .ne (IntOp.remsi .host w 64#32) 0#32))
    (IntOp.subi (IntOp.divsi .host w 64#32) 1#32) (IntOp.divsi .host w 64#32)

theorem chunkOf_nat (n : Nat) (hn : n < 2 ^ 31) : chunkOf (BitVec.ofNat 32 n) = BitVec.ofNat 32 (n / 64) := chunk_word n hn

theorem addi_nat (a b : Nat) : BitVec.ofNat 32 (a + b) = IntOp.addi (BitVec.ofNat 32 a) (BitVec.ofNat 32 b) := BitVec.ofNat_add a b

theorem ofNat_toInt (n : Nat) (hn : n < 2 ^ 31) : (BitVec.ofNat 32 n).toInt = n := by
  rw [BitVec.toInt_eq_toNat_of_lt (by rw [BitVec.toNat_ofNat]; omega), BitVec.toNat_ofNat, Nat.mod_eq_of_lt (by omega)]

/-- The mask of the band, as both programs spell it over the chunks' words. -/
theorem band_word (i j : Nat) (hi : i < 2 ^ 20) (hj : j < 2 ^ 20) :
    IntOp.andi (IntOp.cmpi .sle (BitVec.ofNat 32 (j / 64)) (BitVec.ofNat 32 (i / 64)))
      (IntOp.cmpi .sge (BitVec.ofNat 32 (j / 64)) (IntOp.subi (BitVec.ofNat 32 (i / 64)) 8#32)) = BitVec.ofBool (decide (band i j)) := by
  have e1 : (BitVec.ofNat 32 (j / 64)).toInt = (j / 64 : Nat) := ofNat_toInt _ (by omega)
  have e2 : (BitVec.ofNat 32 (i / 64)).toInt = (i / 64 : Nat) := ofNat_toInt _ (by omega)
  have e3 : (IntOp.subi (BitVec.ofNat 32 (i / 64)) 8#32).toInt = (i / 64 : Nat) - 8 := by
    show (BitVec.ofNat 32 (i / 64) - 8#32).toInt = _
    rw [BitVec.toInt_sub, e2]
    exact Int.bmod_eq_of_le (by simp; omega) (by simp; omega)
  show BitVec.ofBool (BitVec.sle _ _) &&& BitVec.ofBool (BitVec.sle _ _) = _
  unfold BitVec.sle
  rw [e1, e2, e3]
  have key : decide (band i j) = (decide (((j / 64 : Nat) : Int) ≤ (i / 64 : Nat)) && decide (((i / 64 : Nat) : Int) - 8 ≤ (j / 64 : Nat))) := by
    rw [← Bool.decide_and]
    exact decide_eq_decide.2 (by unfold band; omega)
  rw [key]
  generalize decide (((j / 64 : Nat) : Int) ≤ (i / 64 : Nat)) = a
  generalize decide (((i / 64 : Nat) : Int) - 8 ≤ (j / 64 : Nat)) = b
  cases a <;> cases b <;> rfl

/-- The word that picks the bias row, read as the gather reads it. -/
theorem rel_word (w : BitVec 32) :
    min (Scalar.select
        (IntOp.cmpi .slt (IntOp.addi (IntOp.minsi 128#32 (IntOp.maxsi 4294967168#32 w)) 128#32) 0#32)
        (IntOp.addi (IntOp.addi (IntOp.minsi 128#32 (IntOp.maxsi 4294967168#32 w)) 128#32) 257#32)
        (IntOp.addi (IntOp.minsi 128#32 (IntOp.maxsi 4294967168#32 w)) 128#32)).toInt.toNat 256 = relRow w.toInt := by
  have hc : ∃ z : Int, (IntOp.minsi 128#32 (IntOp.maxsi 4294967168#32 w)).toInt = z ∧ z = max (-128) (min 128 w.toInt) := by
    refine ⟨_, rfl, ?_⟩
    unfold IntOp.minsi IntOp.maxsi BitVec.slt
    have a1 : (128#32 : BitVec 32).toInt = 128 := by decide
    have a2 : (4294967168#32 : BitVec 32).toInt = -128 := by decide
    simp only [a1, a2]
    split_ifs <;> simp_all <;> omega
  obtain ⟨z, hz, hz'⟩ := hc
  generalize IntOp.minsi 128#32 (IntOp.maxsi 4294967168#32 w) = y at *
  have e1 : (IntOp.addi y 128#32).toInt = z + 128 := by
    show (y + 128#32).toInt = _
    rw [BitVec.toInt_add, hz]
    exact Int.bmod_eq_of_le (by simp; omega) (by simp; omega)
  have e2 : IntOp.cmpi .slt (IntOp.addi y 128#32) 0#32 = 0#1 := by
    show BitVec.ofBool (BitVec.slt _ _) = _
    unfold BitVec.slt
    rw [e1]
    have : ¬ (z + 128 < 0) := by omega
    simp [this]
  rw [e2]
  show min (IntOp.addi y 128#32).toInt.toNat 256 = _
  rw [e1]
  unfold relRow
  omega

end Cert.Words

end
-- ==== Proof.Gather.lean ====
/-
  The gathers of the bias table: the entry read at a head and a start index, clamped to the table's 257 rows.
-/
module

public import proofs.«01_k».proof.Proof.Gen.KernelIdeal.Frame
public import proofs.«01_k».proof.Proof.Gen.ReferenceIdeal.Run
public import Idealize.ShloMosaic.Lib.Pointwise

@[expose] public section

set_option maxRecDepth 16384

noncomputable section

open Idealize.ShloMosaic

namespace Cert.Gather

/-- The kernel's gather: a line of distances, for every head. -/
theorem line (x : Cert.KernelIdeal.S16x257.Idx → EReal) (idx : IVec Cert.KernelIdeal.S1535x1 32) (h : Fin 16) (a : Fin 1535) :
    Host.gather Cert.KernelIdeal.gather_S16x257_S1535x1_S16x1535_0_1_n_n_1_1_161 x idx (ix2 h a)
      = x (ix2 h ⟨min (idx (ix2 a 0)).toInt.toNat 256, by omega⟩) := by
  unfold Host.gather
  congr 1
  funext b
  refine Fin.ext ?_
  let g := Cert.KernelIdeal.gather_S16x257_S1535x1_S16x1535_0_1_n_n_1_1_161
  show g.start (ix2 h a) idx b + g.batchCoord (ix2 h a) b + g.offCoord (ix2 h a) b = _
  rw [GatherDims.batchCoord_eq_zero _ _ _ List.not_mem_nil]
  have h01 : b = 0 ∨ b = 1 := by
    match b with
    | ⟨0, _⟩ => exact Or.inl rfl
    | ⟨1, _⟩ => exact Or.inr rfl
  rcases h01 with rfl | rfl
  · unfold GatherDims.start
    rw [dif_neg (show ¬ (0 : Fin 2) ∈ g.startIndexMap from by decide)]
    unfold GatherDims.offCoord
    rw [dif_pos (show (0 : Fin 2) ∈ g.sKept from by decide)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ g.startIndexMap from List.mem_singleton.mpr rfl)]
    have hsi : g.siIdx (ix2 h a) ⟨List.idxOf (1 : Fin 2) g.startIndexMap,
        List.idxOf_lt_length_iff.2 (List.mem_singleton.mpr rfl)⟩ = ix2 a 0 := by
      funext d; refine Fin.ext ?_
      match d with
      | ⟨0, _⟩ => rfl
      | ⟨1, _⟩ => rfl
    rw [hsi]
    rfl

/-- The reference's gather: a distance for every query and key, for every head. -/
theorem square (x : Cert.ReferenceIdeal.S16x257.Idx → EReal) (idx : IVec Cert.ReferenceIdeal.S8192x8192x1 32) (h : Fin 16) (p q : Fin 8192) :
    Host.gather Cert.ReferenceIdeal.gather_S16x257_S8192x8192x1_S16x8192x8192_0_1_n_n_1_2_161 x idx (ix3 h p q)
      = x (ix2 h ⟨min (idx (ix3 p q 0)).toInt.toNat 256, by omega⟩) := by
  unfold Host.gather
  congr 1
  funext b
  refine Fin.ext ?_
  let g := Cert.ReferenceIdeal.gather_S16x257_S8192x8192x1_S16x8192x8192_0_1_n_n_1_2_161
  show g.start (ix3 h p q) idx b + g.batchCoord (ix3 h p q) b + g.offCoord (ix3 h p q) b = _
  rw [GatherDims.batchCoord_eq_zero _ _ _ List.not_mem_nil]
  have h01 : b = 0 ∨ b = 1 := by
    match b with
    | ⟨0, _⟩ => exact Or.inl rfl
    | ⟨1, _⟩ => exact Or.inr rfl
  rcases h01 with rfl | rfl
  · unfold GatherDims.start
    rw [dif_neg (show ¬ (0 : Fin 2) ∈ g.startIndexMap from by decide)]
    unfold GatherDims.offCoord
    rw [dif_pos (show (0 : Fin 2) ∈ g.sKept from by decide)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ g.startIndexMap from List.mem_singleton.mpr rfl)]
    have hsi : g.siIdx (ix3 h p q) ⟨List.idxOf (1 : Fin 2) g.startIndexMap,
        List.idxOf_lt_length_iff.2 (List.mem_singleton.mpr rfl)⟩ = ix3 p q 0 := by
      funext d; refine Fin.ext ?_
      match d with
      | ⟨0, _⟩ => rfl
      | ⟨1, _⟩ => rfl
      | ⟨2, _⟩ => rfl
    rw [hsi]
    rfl

end Cert.Gather

end
-- ==== Proof.Bias.lean ====
module

public import proofs.«01_k».proof.Proof.Gen.KernelIdeal.Frame
public import proofs.«01_k».proof.Proof.Pay
public import proofs.«01_k».proof.Proof.Words
public import proofs.«01_k».proof.Proof.Gather
public import Idealize.ShloMosaic.Lib.Pipeline.ValueKit
public import Idealize.ShloMosaic.Lib.Pointwise
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem

namespace Cert.KernelIdeal.Band

open Cert.KernelIdeal Cert.KernelIdeal.Gen Cert.Soft Cert.Words

variable (m : (ℓ : Loc nD τ sig) → Buf (Elt Ideal) ℓ)

theorem select_band {p : Prop} [Decidable p] {w : BitVec 1} {x y u : EReal} (hw : w = BitVec.ofBool (decide p)) (hx : p → x = u) (hy : ¬ p → y = ⊥) :
    Scalar.select w x y = if p then u else ⊥ := by
  subst hw
  by_cases hp : p
  · rw [if_pos hp, ← hx hp, decide_eq_true hp]
    rfl
  · rw [if_neg hp, ← hy hp, decide_eq_false hp]
    rfl

theorem dite_val {p : Prop} [Decidable p] {t : p → EReal} {e : ¬ p → EReal} {u : EReal} (hp : p) (h : t hp = u) : dite p t e = u := (dif_pos hp).trans h

/-- The bias a query row meets at a key column: the table's entry at their distance inside the band, −∞ outside. -/
def biasOf (b : FVec Ideal S1x16x257 .f32) (h : Fin 16) (r : Fin 512) (k : Fin 1024) : EReal :=
  if band (512 + r.val) k.val then b (ix3 0 h ⟨relRow ((512 + r.val : Nat) - (k.val : Int)), relRow_lt _⟩) else ⊥

set_option maxHeartbeats 1000000 in
theorem bias_at' (c : Dev nD) (h : Fin 16) (r : Fin 512) (k : Fin 1024) (z : EReal) (hz : biasOf (m ((c.tc : Thread nD τ).loc main_arg3)) h r k = z) :
    (V m c main_v46 : FVec Ideal S16x512x1024 .f32) (ix3 h r k) = z := by
  simp only [V, List.flatten_cons, List.flatten_nil, List.append_nil, List.cons_append, List.nil_append]
  after_reads_at
  rw [← hz]
  unfold biasOf
  have hk : k.val < 1024 := k.isLt
  have hr : r.val < 512 := r.isLt
  have hmod : (r.val * 1536 + (511 + k.val)) % 1537 = 511 + k.val - r.val := by
    rw [show r.val * 1536 + (511 + k.val) = (511 + k.val - r.val) + 1537 * r.val from by omega, Nat.add_mul_mod_self_left, Nat.mod_eq_of_lt (by omega)]
  refine select_band ?_ ?_ ?_
  · refine Eq.trans ?_ (band_word (512 + r.val) k.val (by omega) (by omega))
    rw [← chunkOf_nat k.val (by omega), ← chunkOf_nat (512 + r.val) (by omega), addi_nat]
    rfl
  · intro _
    refine dite_val (by rw [hmod]; omega) ?_
    have hix : ∀ p, Fin.rev (⟨(r.val * 1536 + (511 + k.val)) % 1537, p⟩ : Fin 1535) = ⟨1023 - k.val + r.val, by omega⟩ := fun p =>
      Fin.ext (by rw [Fin.val_rev]; show 1535 - ((r.val * 1536 + (511 + k.val)) % 1537 + 1) = _; rw [hmod]; show _ = 1023 - k.val + r.val; omega)
    refine (congrArg (Host.gather _ _ _) (congrArg (ix2 h) (hix _))).trans ?_
    refine (Gather.line _ _ h _).trans ?_
    refine congrArg (fun u => m ((c.tc : Thread nD τ).loc main_arg3) (ix3 0 h u)) (Fin.ext ?_)
    refine Eq.trans (rel_word (IntOp.addi (IntOp.subi (IntOp.addi 512#32 0#32) 1023#32) (BitVec.ofNat 32 (1023 - k.val + r.val)))) ?_
    refine congrArg relRow ?_
    show (4294966785#32 + BitVec.ofNat 32 (1023 - k.val + r.val)).toInt = _
    have e1 : (4294966785#32 : BitVec 32).toInt = -511 := by decide
    rw [BitVec.toInt_add, e1, ofNat_toInt (1023 - k.val + r.val) (by omega)]
    refine (Int.bmod_eq_of_le (by omega) (by omega)).trans ?_
    omega
  · intro _
    exact neg_inf

theorem bias_at (c : Dev nD) (h : Fin 16) (r : Fin 512) (k : Fin 1024) :
    (V m c main_v46 : FVec Ideal S16x512x1024 .f32) (ix3 h r k) = biasOf (m ((c.tc : Thread nD τ).loc main_arg3)) h r k :=
  bias_at' m c h r k _ rfl

end Cert.KernelIdeal.Band

end
-- ==== Proof.Spec.lean ====
/-
  The band attention as one softmax over the whole sequence, and a block of it: two runs of keys that hold every key
  of the band.
-/
module

public import proofs.«01_k».proof.Proof.Bias
public import proofs.«01_k».proof.Proof.Soft

@[expose] public section

set_option maxRecDepth 16384

noncomputable section

open Idealize.ShloMosaic Idealize.ShloMosaic.TcCoe Idealize.SL.Sem

namespace Cert.KernelIdeal.Band

open Cert.KernelIdeal Cert.Soft Cert.Words

/-- A real number: neither infinity. -/
def Real' (x : EReal) : Prop := x ≠ ⊤ ∧ x ≠ ⊥

theorem real_iff {x : EReal} : Real' x ↔ ∃ r : ℝ, x = r := by
  constructor
  · intro h
    exact ⟨x.toReal, (EReal.coe_toReal h.1 h.2).symm⟩
  · rintro ⟨r, rfl⟩
    exact ⟨EReal.coe_ne_top r, EReal.coe_ne_bot r⟩

theorem real_dot {n : Nat} (f g : Fin n → EReal) (hf : ∀ x, Real' (f x)) (hg : ∀ x, Real' (g x)) : Real' (∑ x, f x * g x) := by
  choose a ha using fun x => real_iff.1 (hf x)
  choose b hb using fun x => real_iff.1 (hg x)
  refine real_iff.2 ⟨∑ x, a x * b x, ?_⟩
  rw [show ((∑ x, a x * b x : ℝ) : EReal) = ∑ x, ((a x * b x : ℝ) : EReal) from
    map_sum (⟨⟨fun x : ℝ => (x : EReal), EReal.coe_zero⟩, EReal.coe_add⟩ : ℝ →+ EReal) _ _]
  exact Finset.sum_congr rfl fun x _ => by rw [ha, hb, EReal.coe_mul]

theorem real_mul {x y : EReal} (hx : Real' x) (hy : Real' y) : Real' (x * y) := by
  obtain ⟨a, rfl⟩ := real_iff.1 hx
  obtain ⟨b, rfl⟩ := real_iff.1 hy
  exact real_iff.2 ⟨a * b, (EReal.coe_mul a b).symm⟩

theorem real_add {x y : EReal} (hx : Real' x) (hy : Real' y) : Real' (x + y) := by
  obtain ⟨a, rfl⟩ := real_iff.1 hx
  obtain ⟨b, rfl⟩ := real_iff.1 hy
  exact real_iff.2 ⟨a + b, (EReal.coe_add a b).symm⟩

theorem real_scale : Real' scale := by
  refine real_iff.2 ?_
  simp only [scale, Ideal.ofBits, Ideal.ieee]
  simp
  exact ⟨_, rfl⟩

variable (q : FVec Ideal S10240x2048 .bf16) (k v : FVec Ideal S10240x2048 .f32) (b : FVec Ideal S1x16x257 .f32)

/-- The scaled product of a query and a key of a head. -/
def prodOf (h : Fin 16) (i j : Fin 8192) : EReal :=
  (∑ x : Fin 128, q (ix2 ⟨i.val, by omega⟩ ⟨h.val * 128 + x.val, by omega⟩) * k (ix2 ⟨j.val, by omega⟩ ⟨h.val * 128 + x.val, by omega⟩)) * scale

/-- The score of a query and a key of a head: −∞ outside the band. -/
def scoreOf (h : Fin 16) (i j : Fin 8192) : EReal :=
  if band i.val j.val then prodOf q k h i j + b (ix3 0 h ⟨relRow ((i.val : Int) - j.val), relRow_lt _⟩) else ⊥

/-- The band attention of a head at a query and a column. -/
def spec (h : Fin 16) (i : Fin 8192) (d : Fin 128) : EReal :=
  att (scoreOf q k b h i) (fun j : Fin 8192 => v (ix2 ⟨j.val, by omega⟩ ⟨h.val * 128 + d.val, by omega⟩))

variable {q k b} (hq : ∀ i, Real' (q i)) (hk : ∀ i, Real' (k i)) (hb : ∀ i, Real' (b i))
include hq hk hb

theorem score_real (h : Fin 16) (i j : Fin 8192) (hij : band i.val j.val) : Real' (scoreOf q k b h i j) := by
  unfold scoreOf
  rw [if_pos hij]
  exact real_add (real_mul (real_dot _ _ (fun _ => hq _) (fun _ => hk _)) real_scale) (hb _)

theorem score_top (h : Fin 16) (i j : Fin 8192) : scoreOf q k b h i j ≠ ⊤ := by
  by_cases hij : band i.val j.val
  · exact (score_real hq hk hb h i j hij).1
  · unfold scoreOf
    rw [if_neg hij]
    exact bot_ne_top

omit hq hk hb in
/-- A product and the bias of its place in the block are the score. -/
theorem score_bias (I : Fin 16) (h : Fin 16) (r : Fin 512) (kk : Fin 1024) (i j : Fin 8192) (hi : i.val = I.val * 512 + r.val)
    (hj : j.val + 512 = I.val * 512 + kk.val) : prodOf q k h i j + biasOf b h r kk = scoreOf q k b h i j := by
  have e : band (512 + r.val) kk.val ↔ band i.val j.val := by unfold band; omega
  have z : ((512 + r.val : Nat) : Int) - kk.val = (i.val : Int) - j.val := by omega
  unfold biasOf scoreOf
  by_cases hij : band i.val j.val
  · rw [if_pos hij, if_pos (e.2 hij)]
    simp only [z]
  · rw [if_neg hij, if_neg (fun h => hij (e.1 h)), EReal.add_bot]

/-- A block of queries against two runs of keys that hold the band: the past run hidden in the first block. -/
theorem block_spec {na nb oa : Nat} (hoa : oa + na = 512) (hnb : nb ≤ 512) (I : Fin 16) (h : Fin 16) (r : Fin 512) (d : Fin 128) (hr : r.val < nb)
    (hcov : ∀ kk : Nat, kk < 1024 → band (512 + r.val) kk → oa ≤ kk ∧ kk < 512 + nb)
    (w : BitVec 1) (hw : w = BitVec.ofBool (decide (0 < I.val))) :
    two (fun j : Fin na => Scalar.select w (prodOf q k h ⟨I.val * 512 + r.val, by omega⟩ ⟨(I.val - 1) * 512 + (oa + j.val), by omega⟩
          + biasOf b h r ⟨oa + j.val, by omega⟩) ⊥)
        (fun j : Fin na => v (ix2 ⟨(I.val - 1) * 512 + (oa + j.val), by omega⟩ ⟨h.val * 128 + d.val, by omega⟩))
        (fun j : Fin nb => prodOf q k h ⟨I.val * 512 + r.val, by omega⟩ ⟨I.val * 512 + j.val, by omega⟩ + biasOf b h r ⟨512 + j.val, by omega⟩)
        (fun j : Fin nb => v (ix2 ⟨I.val * 512 + j.val, by omega⟩ ⟨h.val * 128 + d.val, by omega⟩))
      = spec q k v b h ⟨I.val * 512 + r.val, by omega⟩ d := by
  have hI : I.val < 16 := I.isLt
  have hr5 : r.val < 512 := r.isLt
  let i : Fin 8192 := ⟨I.val * 512 + r.val, by omega⟩
  have hself : band i.val i.val := by unfold band; omega
  have hsb : ∀ j : Fin nb, prodOf q k h i ⟨I.val * 512 + j.val, by omega⟩ + biasOf b h r ⟨512 + j.val, by omega⟩
      = scoreOf q k b h i ⟨I.val * 512 + j.val, by omega⟩ := fun j =>
    score_bias I h r ⟨512 + j.val, by omega⟩ i _ rfl (by show I.val * 512 + j.val + 512 = I.val * 512 + (512 + j.val); omega)
  show two _ _ (fun j : Fin nb => prodOf q k h i _ + _) _ = att (scoreOf q k b h i) _
  rw [funext hsb]
  have htb : ∀ j : Fin nb, scoreOf q k b h i ⟨I.val * 512 + j.val, by omega⟩ ≠ ⊤ := fun j => score_top hq hk hb h i _
  have hbb : scoreOf q k b h i ⟨I.val * 512 + r.val, by omega⟩ ≠ ⊥ := (score_real hq hk hb h i i hself).2
  subst hw
  by_cases h0 : 0 < I.val
  · rw [decide_eq_true h0]
    have hsa : ∀ j : Fin na, Scalar.select (BitVec.ofBool true) (prodOf q k h i ⟨(I.val - 1) * 512 + (oa + j.val), by omega⟩ + biasOf b h r ⟨oa + j.val, by omega⟩) ⊥
        = scoreOf q k b h i ⟨(I.val - 1) * 512 + (oa + j.val), by omega⟩ := fun j =>
      score_bias I h r ⟨oa + j.val, by omega⟩ i _ rfl (by show (I.val - 1) * 512 + (oa + j.val) + 512 = I.val * 512 + (oa + j.val); omega)
    show two (fun j : Fin na => Scalar.select (BitVec.ofBool true) (prodOf q k h i _ + _) ⊥) _ _ _ = _
    rw [funext hsa, two_eq _ _ _ _ (fun j => score_top hq hk hb h i _) htb ⟨⟨r.val, hr⟩, hbb⟩]
    let e : Fin na ⊕ Fin nb → Fin 8192 := Sum.elim (fun j => ⟨(I.val - 1) * 512 + (oa + j.val), by omega⟩) (fun j => ⟨I.val * 512 + j.val, by omega⟩)
    refine Eq.trans ?_ (att_inj e ?_ (scoreOf q k b h i) _ ?_ (score_top hq hk hb h i) ⟨.inr ⟨r.val, hr⟩, hbb⟩)
    · congr 1 <;> (funext x; rcases x with x | x <;> rfl)
    · rintro (x | x) (y | y) hxy
      · have := congrArg Fin.val hxy
        simp only [e, Sum.elim_inl] at this
        exact congrArg Sum.inl (Fin.ext (by omega))
      · have := congrArg Fin.val hxy
        simp only [e, Sum.elim_inl, Sum.elim_inr] at this
        omega
      · have := congrArg Fin.val hxy
        simp only [e, Sum.elim_inl, Sum.elim_inr] at this
        omega
      · have := congrArg Fin.val hxy
        simp only [e, Sum.elim_inr] at this
        exact congrArg Sum.inr (Fin.ext (by omega))
    · intro j hj
      unfold scoreOf
      rw [if_neg]
      intro hij
      have hij' : band (I.val * 512 + r.val) j.val := hij
      have hlo : I.val * 512 ≤ j.val + 512 ∧ j.val < I.val * 512 + 512 := by unfold band at hij'; omega
      have hc := hcov (j.val + 512 - I.val * 512) (by omega) (by unfold band at hij' ⊢; omega)
      by_cases hjI : I.val * 512 ≤ j.val
      · exact hj ⟨.inr ⟨j.val - I.val * 512, by omega⟩, Fin.ext (by show I.val * 512 + (j.val - I.val * 512) = j.val; omega)⟩
      · exact hj ⟨.inl ⟨j.val + 512 - I.val * 512 - oa, by omega⟩, Fin.ext (by
          show (I.val - 1) * 512 + (oa + (j.val + 512 - I.val * 512 - oa)) = j.val
          omega)⟩
  · rw [decide_eq_false h0]
    show two (fun _ => ⊥) _ _ _ = _
    rw [two_bot _ _ _ htb ⟨⟨r.val, hr⟩, hbb⟩]
    let e : Fin nb → Fin 8192 := fun j => ⟨I.val * 512 + j.val, by omega⟩
    refine att_inj e ?_ (scoreOf q k b h i) (fun j : Fin 8192 => v (ix2 ⟨j.val, by omega⟩ ⟨h.val * 128 + d.val, by omega⟩)) ?_ (score_top hq hk hb h i) ⟨⟨r.val, hr⟩, hbb⟩
    · intro x y hxy
      have := congrArg Fin.val hxy
      simp only [e] at this
      exact Fin.ext (by omega)
    · intro j hj
      unfold scoreOf
      rw [if_neg]
      intro hij
      have hij' : band (I.val * 512 + r.val) j.val := hij
      have hlo : j.val < I.val * 512 + 512 := by unfold band at hij'; omega
      have hc := hcov (j.val + 512 - I.val * 512) (by omega) (by unfold band at hij' ⊢; omega)
      exact hj ⟨⟨j.val - I.val * 512, by omega⟩, Fin.ext (by show I.val * 512 + (j.val - I.val * 512) = j.val; omega)⟩

end Cert.KernelIdeal.Band

end
-- ==== Proof.Finite.lean ====
/-
  What the precondition says: the queries, the keys and the biases hold no infinity.
-/
module

public import proofs.«01_k».proof.Defs
public import proofs.«01_k».proof.Proof.Spec
public import Idealize.ShloMosaic.Lib.ReduceAll

@[expose] public section

set_option maxRecDepth 16384

noncomputable section

open Idealize.ShloMosaic

namespace Cert.Finite

open Cert.KernelIdeal.Band

instance facts : Cert.Pre_finite_scores.Facts := by
  constructor <;> decide

theorem top_word : Ideal.ofBits .f32 0x7F800000#32 = ⊤ := by
  simp [Ideal.ofBits, Ideal.ieee]

theorem real_of_abs (x : EReal) (h : Ideal.cmp .olt (max x (-x)) (Ideal.ofBits .f32 0x7F800000#32) = 1#1) : Real' x := by
  rw [top_word] at h
  have h' : max x (-x) < ⊤ := by
    by_contra hc
    simp [Ideal.cmp, hc] at h
  constructor
  · rintro rfl; simp at h'
  · rintro rfl; simp at h'

/-- The precondition, read back at every entry. -/
theorem of_pre (q : FVec Ideal Cert.Pre_finite_scores.S10240x2048 .bf16) (k v : FVec Ideal Cert.Pre_finite_scores.S10240x2048 .f32)
    (b : FVec Ideal Cert.Pre_finite_scores.S1x16x257 .f32) (h : Cert.Pre_finite_scores.fn (F := Ideal) q k v b = fun _ => 1#1) :
    (∀ i, Real' (q i)) ∧ (∀ i, Real' (k i)) ∧ (∀ i, Real' (b i)) := by
  have h0 := congrFun h (fun a => a.elim0)
  unfold Cert.Pre_finite_scores.fn at h0
  obtain ⟨h12, h3⟩ := IntOp.andi_eq_one.1 h0
  obtain ⟨h1, h2⟩ := IntOp.andi_eq_one.1 h12
  haveI : Subsingleton Cert.Pre_finite_scores.S_.Idx := ⟨fun a b => funext fun z => z.elim0⟩
  exact ⟨fun i => real_of_abs _ (Host.reduce_andi_all _ _ _ _ _ h1 i), fun i => real_of_abs _ (Host.reduce_andi_all _ _ _ _ _ h2 i),
    fun i => real_of_abs _ (Host.reduce_andi_all _ _ _ _ _ h3 i)⟩

end Cert.Finite

end
-- ==== Proof.Reads.lean ====
/-
  The blocks a step of the band kernel reads, as entries of its arrays.
-/
module

public import proofs.«01_k».proof.Proof.Spec
public import Idealize.ShloMosaic.Lib.StableHlo.Run
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Band

open Cert.KernelIdeal Cert.KernelIdeal.Gen Cert.Soft Cert.Words

theorem idx : ∀ t : Fin cfg0.N, t.val = (grid0.coords t 0).val * 16 + (grid0.coords t 1).val
    ∧ win0_0.index t = ![(grid0.coords t 1).val, (grid0.coords t 0).val] ∧ win0_1.index t = ![(grid0.coords t 1).val - 1, (grid0.coords t 0).val]
    ∧ win0_2.index t = ![(grid0.coords t 1).val, (grid0.coords t 0).val] ∧ win0_3.index t = ![(grid0.coords t 1).val - 1, (grid0.coords t 0).val]
    ∧ win0_4.index t = ![(grid0.coords t 1).val, (grid0.coords t 0).val] ∧ win0_5.index t = ![(grid0.coords t 0).val, 0, 0]
    ∧ win0_6.index t = ![(grid0.coords t 1).val, (grid0.coords t 0).val] ∧ (grid0.coords t 0).val < 16 ∧ (grid0.coords t 1).val < 16 :=
  (by decide +kernel : ∀ t : Fin grid0.N, _)

variable (m : (ℓ : Loc nD τ sig) → Buf (Elt Ideal) ℓ)

theorem V_zero (c : Dev nD) (i : S10240x2048.Idx) : (V m c main_v0 : FVec Ideal S10240x2048 .bf16) i = (0 : EReal) := by
  simp only [V, List.flatten_cons, List.flatten_nil, List.append_nil, List.cons_append, List.nil_append]
  after_reads_at

/-- The block of queries. -/
theorem read_q (c : Dev nD) (t : Fin cfg0.N) (r : Fin 512) (x : Fin 128) (i : S10240x2048.Idx) (h0 : (i 0 : Nat) = (grid0.coords t 1).val * 512 + r.val)
    (h1 : (i 1 : Nat) = (grid0.coords t 0).val * 128 + x.val) :
    (iblk m c 0 t : FVec Ideal S512x128 .bf16) (ix2 r x) = (m ((c : Thread nD τ).loc main_arg0) : FVec Ideal S10240x2048 .bf16) i := by
  obtain ⟨-, e0, e1, e2, e3, e4, e5, e6, -, -⟩ := idx t
  rw [← V_main_arg0 m c]
  blk_ext [iblk, e0]

theorem read_k0 (c : Dev nD) (t : Fin cfg0.N) (r : Fin 512) (x : Fin 128) (i : S10240x2048.Idx) (h0 : (i 0 : Nat) = ((grid0.coords t 1).val - 1) * 512 + r.val)
    (h1 : (i 1 : Nat) = (grid0.coords t 0).val * 128 + x.val) :
    (iblk m c 1 t : FVec Ideal S512x128 .f32) (ix2 r x) = (m ((c : Thread nD τ).loc main_arg1) : FVec Ideal S10240x2048 .f32) i := by
  obtain ⟨-, e0, e1, e2, e3, e4, e5, e6, -, -⟩ := idx t
  rw [← V_main_arg1 m c]
  blk_ext [iblk, e1]

theorem read_k1 (c : Dev nD) (t : Fin cfg0.N) (r : Fin 512) (x : Fin 128) (i : S10240x2048.Idx) (h0 : (i 0 : Nat) = (grid0.coords t 1).val * 512 + r.val)
    (h1 : (i 1 : Nat) = (grid0.coords t 0).val * 128 + x.val) :
    (iblk m c 2 t : FVec Ideal S512x128 .f32) (ix2 r x) = (m ((c : Thread nD τ).loc main_arg1) : FVec Ideal S10240x2048 .f32) i := by
  obtain ⟨-, e0, e1, e2, e3, e4, e5, e6, -, -⟩ := idx t
  rw [← V_main_arg1 m c]
  blk_ext [iblk, e2]

theorem read_v0 (c : Dev nD) (t : Fin cfg0.N) (r : Fin 512) (x : Fin 128) (i : S10240x2048.Idx) (h0 : (i 0 : Nat) = ((grid0.coords t 1).val - 1) * 512 + r.val)
    (h1 : (i 1 : Nat) = (grid0.coords t 0).val * 128 + x.val) :
    (iblk m c 3 t : FVec Ideal S512x128 .f32) (ix2 r x) = (m ((c : Thread nD τ).loc main_arg2) : FVec Ideal S10240x2048 .f32) i := by
  obtain ⟨-, e0, e1, e2, e3, e4, e5, e6, -, -⟩ := idx t
  rw [← V_main_arg2 m c]
  blk_ext [iblk, e3]

theorem read_v1 (c : Dev nD) (t : Fin cfg0.N) (r : Fin 512) (x : Fin 128) (i : S10240x2048.Idx) (h0 : (i 0 : Nat) = (grid0.coords t 1).val * 512 + r.val)
    (h1 : (i 1 : Nat) = (grid0.coords t 0).val * 128 + x.val) :
    (iblk m c 4 t : FVec Ideal S512x128 .f32) (ix2 r x) = (m ((c : Thread nD τ).loc main_arg2) : FVec Ideal S10240x2048 .f32) i := by
  obtain ⟨-, e0, e1, e2, e3, e4, e5, e6, -, -⟩ := idx t
  rw [← V_main_arg2 m c]
  blk_ext [iblk, e4]

theorem read_b (c : Dev nD) (t : Fin cfg0.N) (r : Fin 512) (x : Fin 1024) :
    (iblk m c 5 t : FVec Ideal S1x512x1024 .f32) (ix3 0 r x) = biasOf (m ((c : Thread nD τ).loc main_arg3)) ⟨(grid0.coords t 0).val, (idx t).2.2.2.2.2.2.2.2.1⟩ r x := by
  obtain ⟨-, e0, e1, e2, e3, e4, e5, e6, -, -⟩ := idx t
  rw [← bias_at m c]
  blk_ext [iblk, e5]

end Cert.KernelIdeal.Band

end
-- ==== Proof.Halves.lean ====
/-
  A step of the band kernel: each half of its block of queries, from what its blocks hold.
-/
module

public import proofs.«01_k».proof.Proof.Spec
public import Idealize.ShloMosaic.Lib.StableHlo.Run
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Band

open Cert.KernelIdeal Cert.KernelIdeal.Gen Cert.Soft Cert.Words

/-- The result array. -/
def out (q : FVec Ideal S10240x2048 .bf16) (k v : FVec Ideal S10240x2048 .f32) (b : FVec Ideal S1x16x257 .f32) (r : Fin 10240) (d : Fin 2048) : EReal :=
  if hr : r.val < 8192 then spec q k v b ⟨d.val / 128, by omega⟩ ⟨r.val, hr⟩ ⟨d.val % 128, by omega⟩ else 0

theorem two_congr {ι κ : Type} [Fintype ι] [Fintype κ] {sa sa' va va' : ι → EReal} {sb sb' vb vb' : κ → EReal} (h1 : ∀ j, sa j = sa' j)
    (h2 : ∀ j, va j = va' j) (h3 : ∀ j, sb j = sb' j) (h4 : ∀ j, vb j = vb' j) : two sa va sb vb = two sa' va' sb' vb' := by
  rw [funext h1, funext h2, funext h3, funext h4]

theorem past_word (i : grid0.Coords) : past i = BitVec.ofBool (decide (0 < (i 1).val)) := by
  unfold past
  have hi : (i 1).val < 16 := (i 1).isLt
  show BitVec.ofBool (BitVec.slt _ _) = _
  unfold BitVec.slt
  rw [ofNat_toInt 0 (by omega), ofNat_toInt (i 1).val (by omega)]
  congr 1
  exact decide_eq_decide.2 (by omega)

/-- A score of the block, from the reads of its arrays. -/
theorem score_congr {f g : Fin 128 → EReal} {z : EReal} {q : FVec Ideal S10240x2048 .bf16} {k : FVec Ideal S10240x2048 .f32} {b : EReal} {h : Fin 16} {i j : Fin 8192}
    (hf : ∀ x : Fin 128, f x = q (ix2 ⟨i.val, by omega⟩ ⟨h.val * 128 + x.val, by omega⟩)) (hg : ∀ x : Fin 128, g x = k (ix2 ⟨j.val, by omega⟩ ⟨h.val * 128 + x.val, by omega⟩))
    (hz : z = b) : (∑ x, f x * g x) * scale + z = prodOf q k h i j + b := by
  unfold prodOf
  rw [hz, Finset.sum_congr rfl fun x _ => congrArg₂ (· * ·) (hf x) (hg x)]

section Pure

variable {q : FVec Ideal S10240x2048 .bf16} {k v : FVec Ideal S10240x2048 .f32} {b : FVec Ideal S1x16x257 .f32}

theorem out_at (q : FVec Ideal S10240x2048 .bf16) (k v : FVec Ideal S10240x2048 .f32) (b : FVec Ideal S1x16x257 .f32) (I h : Fin 16) (r : Fin 512) (d : Fin 128)
    (R : Fin 10240) (C : Fin 2048) (hR : R.val = I.val * 512 + r.val) (hC : C.val = h.val * 128 + d.val) :
    out q k v b R C = spec q k v b h ⟨I.val * 512 + r.val, by omega⟩ d := by
  unfold out
  rw [dif_pos (by omega)]
  have a1 : (⟨C.val / 128, by omega⟩ : Fin 16) = h := Fin.ext (by show C.val / 128 = h.val; omega)
  have a2 : (⟨C.val % 128, by omega⟩ : Fin 128) = d := Fin.ext (by show C.val % 128 = d.val; omega)
  have a3 : (⟨R.val, by omega⟩ : Fin 8192) = ⟨I.val * 512 + r.val, by omega⟩ := Fin.ext hR
  rw [a1, a2, a3]

variable (i : grid0.Coords) (hq : ∀ i, Real' (q i)) (hk : ∀ i, Real' (k i)) (hb : ∀ i, Real' (b i)) (h : Fin 16) (x0 : Fin 256) (x1 : Fin 128)
include hq hk hb

/-- The upper half of a block. -/
theorem lo_out (v1 : FVec Ideal S256x128 .bf16) (v2 : FVec Ideal S512x128 .f32) (v3 : FVec Ideal S256x128 .f32)
    (v4 : FVec Ideal S512x128 .f32) (v5 : FVec Ideal S256x128 .f32) (v6 : FVec Ideal S1x256x512 .f32) (v8 : FVec Ideal S1x256x256 .f32)
    (h1 : ∀ (r : Fin 256) (x : Fin 128), v1 (ix2 r x) = q (ix2 ⟨(i 1).val * 512 + r.val, by have : (i 1).val < 16 := (i 1).isLt; omega⟩ ⟨h.val * 128 + x.val, by omega⟩))
    (h2 : ∀ (r : Fin 512) (x : Fin 128), v2 (ix2 r x) = k (ix2 ⟨((i 1).val - 1) * 512 + r.val, by have : (i 1).val < 16 := (i 1).isLt; omega⟩ ⟨h.val * 128 + x.val, by omega⟩))
    (h3 : ∀ (r : Fin 256) (x : Fin 128), v3 (ix2 r x) = k (ix2 ⟨(i 1).val * 512 + r.val, by have : (i 1).val < 16 := (i 1).isLt; omega⟩ ⟨h.val * 128 + x.val, by omega⟩))
    (h4 : ∀ (r : Fin 512) (x : Fin 128), v4 (ix2 r x) = v (ix2 ⟨((i 1).val - 1) * 512 + r.val, by have : (i 1).val < 16 := (i 1).isLt; omega⟩ ⟨h.val * 128 + x.val, by omega⟩))
    (h5 : ∀ (r : Fin 256) (x : Fin 128), v5 (ix2 r x) = v (ix2 ⟨(i 1).val * 512 + r.val, by have : (i 1).val < 16 := (i 1).isLt; omega⟩ ⟨h.val * 128 + x.val, by omega⟩))
    (h6 : ∀ (r : Fin 256) (x : Fin 512), v6 (ix3 0 r x) = biasOf b h ⟨r.val, by omega⟩ ⟨x.val, by omega⟩)
    (h8 : ∀ (r : Fin 256) (x : Fin 256), v8 (ix3 0 r x) = biasOf b h ⟨r.val, by omega⟩ ⟨512 + x.val, by omega⟩) :
    k0_pay7 (F := Ideal) v4 v5 (k0_pay5 i v1 v2 v3 v6 v8) (k0_pay6 i v1 v2 v3 v6 v8) (ix2 x0 x1)
      = spec q k v b h ⟨(i 1).val * 512 + x0.val, by have : (i 1).val < 16 := (i 1).isLt; omega⟩ x1 := by
  have hI : (i 1).val < 16 := (i 1).isLt
  refine (lo i v1 v2 v3 v4 v5 v6 v8 x0 x1).trans (Eq.trans ?_ (block_spec (v := v) (na := 512) (nb := 256) (oa := 0) hq hk hb (by omega) (by omega) ⟨(i 1).val, hI⟩ h ⟨x0.val, by omega⟩ x1
    x0.isLt ?_ (past i) (past_word i)))
  · refine two_congr (fun j => ?_) (fun j => ?_) (fun j => ?_) (fun j => ?_)
    · exact congrArg (fun z => Scalar.select (past i) z ⊥) (score_congr (fun x => h1 x0 x)
        (fun x => (h2 j x).trans (congrArg k (congrArg (fun z => ix2 z _) (Fin.ext (by show ((i 1).val - 1) * 512 + j.val = ((i 1).val - 1) * 512 + (0 + j.val); omega)))))
        ((h6 x0 j).trans (congrArg (biasOf b h _) (Fin.ext (by show j.val = 0 + j.val; omega)))))
    · exact (h4 j x1).trans (congrArg v (congrArg (fun z => ix2 z _) (Fin.ext (by show ((i 1).val - 1) * 512 + j.val = ((i 1).val - 1) * 512 + (0 + j.val); omega))))
    · exact score_congr (fun x => h1 x0 x) (fun x => h3 j x) (h8 x0 j)
    · exact h5 j x1
  · intro kk hkk hband
    have : x0.val < 256 := x0.isLt
    have hband' : band (512 + x0.val) kk := hband
    unfold band at hband'
    omega

/-- The lower half of a block. -/
theorem hi_out (v49 : FVec Ideal S256x128 .bf16) (v50 : FVec Ideal S256x128 .f32) (v51 : FVec Ideal S512x128 .f32)
    (v52 : FVec Ideal S256x128 .f32) (v53 : FVec Ideal S512x128 .f32) (v54 : FVec Ideal S1x256x256 .f32) (v56 : FVec Ideal S1x256x512 .f32)
    (h1 : ∀ (r : Fin 256) (x : Fin 128), v49 (ix2 r x) = q (ix2 ⟨(i 1).val * 512 + (256 + r.val), by have : (i 1).val < 16 := (i 1).isLt; omega⟩ ⟨h.val * 128 + x.val, by omega⟩))
    (h2 : ∀ (r : Fin 256) (x : Fin 128), v50 (ix2 r x) = k (ix2 ⟨((i 1).val - 1) * 512 + (256 + r.val), by have : (i 1).val < 16 := (i 1).isLt; omega⟩ ⟨h.val * 128 + x.val, by omega⟩))
    (h3 : ∀ (r : Fin 512) (x : Fin 128), v51 (ix2 r x) = k (ix2 ⟨(i 1).val * 512 + r.val, by have : (i 1).val < 16 := (i 1).isLt; omega⟩ ⟨h.val * 128 + x.val, by omega⟩))
    (h4 : ∀ (r : Fin 256) (x : Fin 128), v52 (ix2 r x) = v (ix2 ⟨((i 1).val - 1) * 512 + (256 + r.val), by have : (i 1).val < 16 := (i 1).isLt; omega⟩ ⟨h.val * 128 + x.val, by omega⟩))
    (h5 : ∀ (r : Fin 512) (x : Fin 128), v53 (ix2 r x) = v (ix2 ⟨(i 1).val * 512 + r.val, by have : (i 1).val < 16 := (i 1).isLt; omega⟩ ⟨h.val * 128 + x.val, by omega⟩))
    (h6 : ∀ (r : Fin 256) (x : Fin 256), v54 (ix3 0 r x) = biasOf b h ⟨256 + r.val, by omega⟩ ⟨256 + x.val, by omega⟩)
    (h8 : ∀ (r : Fin 256) (x : Fin 512), v56 (ix3 0 r x) = biasOf b h ⟨256 + r.val, by omega⟩ ⟨512 + x.val, by omega⟩) :
    k0_pay1 (F := Ideal) (past i) v52 v53 (k0_pay8 v56) (k0_pay9 v49 v50 v54) (k0_pay10 v49 v51) (ix2 x0 x1)
      = spec q k v b h ⟨(i 1).val * 512 + (256 + x0.val), by have : (i 1).val < 16 := (i 1).isLt; omega⟩ x1 := by
  have hI : (i 1).val < 16 := (i 1).isLt
  refine (hi i v49 v50 v51 v52 v53 v54 v56 x0 x1).trans (Eq.trans ?_ (block_spec (v := v) (na := 256) (nb := 512) (oa := 256) hq hk hb (by omega) (by omega) ⟨(i 1).val, hI⟩ h ⟨256 + x0.val, by omega⟩ x1
    (by show 256 + x0.val < 512; omega) ?_ (past i) (past_word i)))
  · refine two_congr (fun j => ?_) (fun j => ?_) (fun j => ?_) (fun j => ?_)
    · exact congrArg (fun z => Scalar.select (past i) z ⊥) (score_congr (fun x => h1 x0 x) (fun x => h2 j x) (h6 x0 j))
    · exact h4 j x1
    · exact score_congr (fun x => h1 x0 x) (fun x => h3 j x) (h8 x0 j)
    · exact h5 j x1
  · intro kk hkk hband
    have : x0.val < 256 := x0.isLt
    have hband' : band (512 + (256 + x0.val)) kk := hband
    unfold band at hband'
    omega

end Pure

section Loads

variable (e : EltTy)

theorem ld_two (X : S512x128.Idx → Elt Ideal e) (o : Nat) (ho : o + 256 ≤ 512) (inb) (r : Fin 256) (x : Fin 128) :
    View.ld X (Rect.unit (s := S512x128) ![o, 0] ![256, 128] inb) (ix2 r x) = X (ix2 ⟨o + r.val, by omega⟩ x) :=
  View.ld_unit_apply_of X _ _ inb (ix2 r x) _ (fun a => by fin_cases a <;> simp)

theorem ld_three (X : S1x512x1024.Idx → Elt Ideal e) (o p n : Nat) (ho : o + 256 ≤ 512) (hp : p + n ≤ 1024) (inb) (r : Fin 256) (x : Fin n) :
    View.ld X (Rect.unit (s := S1x512x1024) ![0, o, p] ![1, 256, n] inb) (ix3 0 r x) = X (ix3 0 ⟨o + r.val, by omega⟩ ⟨p + x.val, by omega⟩) :=
  View.ld_unit_apply_of X _ _ inb (ix3 0 r x) _ (fun a => by fin_cases a <;> simp)

end Loads

section Blocks

variable {q : FVec Ideal S10240x2048 .bf16} {k v : FVec Ideal S10240x2048 .f32} {b : FVec Ideal S1x16x257 .f32}
variable (i : grid0.Coords) (hq : ∀ i, Real' (q i)) (hk : ∀ i, Real' (k i)) (hb : ∀ i, Real' (b i)) (h : Fin 16)
variable (X0 : FVec Ideal S512x128 .bf16) (X1 X2 X3 X4 : FVec Ideal S512x128 .f32) (X5 : FVec Ideal S1x512x1024 .f32)
variable (g0 : ∀ (r : Fin 512) (x : Fin 128), X0 (ix2 r x) = q (ix2 ⟨(i 1).val * 512 + r.val, by have : (i 1).val < 16 := (i 1).isLt; omega⟩ ⟨h.val * 128 + x.val, by omega⟩))
  (g1 : ∀ (r : Fin 512) (x : Fin 128), X1 (ix2 r x) = k (ix2 ⟨((i 1).val - 1) * 512 + r.val, by have : (i 1).val < 16 := (i 1).isLt; omega⟩ ⟨h.val * 128 + x.val, by omega⟩))
  (g2 : ∀ (r : Fin 512) (x : Fin 128), X2 (ix2 r x) = k (ix2 ⟨(i 1).val * 512 + r.val, by have : (i 1).val < 16 := (i 1).isLt; omega⟩ ⟨h.val * 128 + x.val, by omega⟩))
  (g3 : ∀ (r : Fin 512) (x : Fin 128), X3 (ix2 r x) = v (ix2 ⟨((i 1).val - 1) * 512 + r.val, by have : (i 1).val < 16 := (i 1).isLt; omega⟩ ⟨h.val * 128 + x.val, by omega⟩))
  (g4 : ∀ (r : Fin 512) (x : Fin 128), X4 (ix2 r x) = v (ix2 ⟨(i 1).val * 512 + r.val, by have : (i 1).val < 16 := (i 1).isLt; omega⟩ ⟨h.val * 128 + x.val, by omega⟩))
  (g5 : ∀ (r : Fin 512) (x : Fin 1024), X5 (ix3 0 r x) = biasOf b h r x)
  (x0 : Fin 256) (x1 : Fin 128) (R : Fin 10240) (C : Fin 2048)
include hq hk hb g0 g1 g2 g3 g4 g5

theorem lo_block (n0 n2 n5a n5b n4) (hR : R.val = (i 1).val * 512 + x0.val) (hC : C.val = h.val * 128 + x1.val) :
    k0_pay7 (F := Ideal) X3 (View.ld X4 (Rect.unit (s := S512x128) ![0, 0] ![256, 128] n4))
      (k0_pay5 i (View.ld X0 (Rect.unit (s := S512x128) ![0, 0] ![256, 128] n0)) X1 (View.ld X2 (Rect.unit (s := S512x128) ![0, 0] ![256, 128] n2))
        (View.ld X5 (Rect.unit (s := S1x512x1024) ![0, 0, 0] ![1, 256, 512] n5a)) (View.ld X5 (Rect.unit (s := S1x512x1024) ![0, 0, 512] ![1, 256, 256] n5b)))
      (k0_pay6 i (View.ld X0 (Rect.unit (s := S512x128) ![0, 0] ![256, 128] n0)) X1 (View.ld X2 (Rect.unit (s := S512x128) ![0, 0] ![256, 128] n2))
        (View.ld X5 (Rect.unit (s := S1x512x1024) ![0, 0, 0] ![1, 256, 512] n5a)) (View.ld X5 (Rect.unit (s := S1x512x1024) ![0, 0, 512] ![1, 256, 256] n5b)))
      (ix2 x0 x1) = out q k v b R C := by
  have hI : (i 1).val < 16 := (i 1).isLt
  refine (lo_out (q := q) (k := k) (v := v) (b := b) i hq hk hb h x0 x1 _ _ _ _ _ _ _ (fun r x => ?_) (fun r x => ?_) (fun r x => ?_) (fun r x => ?_) (fun r x => ?_) (fun r x => ?_) (fun r x => ?_)).trans
    (out_at q k v b ⟨(i 1).val, hI⟩ h ⟨x0.val, by omega⟩ x1 R C hR hC).symm
  · exact (ld_two .bf16 X0 0 (by omega) _ r x).trans ((g0 ⟨0 + r.val, by omega⟩ x).trans (congrArg q (congrArg (fun z => ix2 z _) (Fin.ext (by show (i 1).val * 512 + (0 + r.val) = (i 1).val * 512 + r.val; omega)))))
  · exact g1 _ _
  · exact (ld_two .f32 X2 0 (by omega) _ r x).trans ((g2 ⟨0 + r.val, by omega⟩ x).trans (congrArg k (congrArg (fun z => ix2 z _) (Fin.ext (by show (i 1).val * 512 + (0 + r.val) = (i 1).val * 512 + r.val; omega)))))
  · exact g3 _ _
  · exact (ld_two .f32 X4 0 (by omega) _ r x).trans ((g4 ⟨0 + r.val, by omega⟩ x).trans (congrArg v (congrArg (fun z => ix2 z _) (Fin.ext (by show (i 1).val * 512 + (0 + r.val) = (i 1).val * 512 + r.val; omega)))))
  · exact (ld_three .f32 X5 0 0 512 (by omega) (by omega) _ r x).trans ((g5 ⟨0 + r.val, by omega⟩ ⟨0 + x.val, by omega⟩).trans (congrArg₂ (biasOf b h) (Fin.ext (Nat.zero_add _)) (Fin.ext (Nat.zero_add _))))
  · exact (ld_three .f32 X5 0 512 256 (by omega) (by omega) _ r x).trans ((g5 ⟨0 + r.val, by omega⟩ ⟨512 + x.val, by omega⟩).trans (congrArg₂ (biasOf b h) (Fin.ext (Nat.zero_add _)) rfl))

theorem hi_block (n0 n1 n3 n5a n5b) (hR : R.val = (i 1).val * 512 + (256 + x0.val)) (hC : C.val = h.val * 128 + x1.val) :
    k0_pay1 (F := Ideal) (past i) (View.ld X3 (Rect.unit (s := S512x128) ![256, 0] ![256, 128] n3)) X4
      (k0_pay8 (View.ld X5 (Rect.unit (s := S1x512x1024) ![0, 256, 512] ![1, 256, 512] n5b)))
      (k0_pay9 (View.ld X0 (Rect.unit (s := S512x128) ![256, 0] ![256, 128] n0)) (View.ld X1 (Rect.unit (s := S512x128) ![256, 0] ![256, 128] n1))
        (View.ld X5 (Rect.unit (s := S1x512x1024) ![0, 256, 256] ![1, 256, 256] n5a)))
      (k0_pay10 (View.ld X0 (Rect.unit (s := S512x128) ![256, 0] ![256, 128] n0)) X2) (ix2 x0 x1) = out q k v b R C := by
  have hI : (i 1).val < 16 := (i 1).isLt
  refine (hi_out (q := q) (k := k) (v := v) (b := b) i hq hk hb h x0 x1 _ _ _ _ _ _ _ (fun r x => ?_) (fun r x => ?_) (fun r x => ?_) (fun r x => ?_) (fun r x => ?_) (fun r x => ?_) (fun r x => ?_)).trans
    (out_at q k v b ⟨(i 1).val, hI⟩ h ⟨256 + x0.val, by omega⟩ x1 R C hR hC).symm
  · exact (ld_two .bf16 X0 256 (by omega) _ r x).trans (g0 _ _)
  · exact (ld_two .f32 X1 256 (by omega) _ r x).trans (g1 _ _)
  · exact g2 _ _
  · exact (ld_two .f32 X3 256 (by omega) _ r x).trans (g3 _ _)
  · exact g4 _ _
  · exact (ld_three .f32 X5 256 256 256 (by omega) (by omega) _ r x).trans (g5 _ _)
  · exact (ld_three .f32 X5 256 512 512 (by omega) (by omega) _ r x).trans (g5 _ _)

end Blocks

end Cert.KernelIdeal.Band

end
-- ==== Proof.Point.lean ====
/-
  The kernel's result array: every block of queries holds the band attention, the rows after the sequence are zero.
-/
module

public import proofs.«01_k».proof.Proof.Reads
public import proofs.«01_k».proof.Proof.Halves
public import Idealize.ShloMosaic.Lib.StableHlo.Run
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.KernelIdeal.Band

open Cert.KernelIdeal Cert.KernelIdeal.Gen Cert.Soft Cert.Words

variable (m : (ℓ : Loc nD τ sig) → Buf (Elt Ideal) ℓ)

set_option maxHeartbeats 1000000 in
theorem final (c : Dev nD)
    (hq : ∀ i, Real' ((m ((c : Thread nD τ).loc main_arg0) : FVec Ideal S10240x2048 .bf16) i))
    (hk : ∀ i, Real' ((m ((c : Thread nD τ).loc main_arg1) : FVec Ideal S10240x2048 .f32) i))
    (hb : ∀ i, Real' ((m ((c : Thread nD τ).loc main_arg3) : FVec Ideal S1x16x257 .f32) i)) :
    (dats m 0 c).arrAt 6 (cfgs 0).N = fun i : S10240x2048.Idx => if (i 0 : Nat) < 16 * 512 then
      out (m ((c : Thread nD τ).loc main_arg0)) (m ((c : Thread nD τ).loc main_arg1)) (m ((c : Thread nD τ).loc main_arg2)) (m ((c : Thread nD τ).loc main_arg3)) (i 0) (i 1)
      else V m c main_v0 i := by
  refine (dats m 0 c).arrAt_eq_of_coversWhere 6 _ (fun β => β 0 < 16) (by decide +kernel) (fun t hf y => ?_)
    (fun j => by blk_simp [Pipeline.Window.cell_apply]; omega)
  blk_simp
  rw [after0_6]
  unfold outsAt0
  frame_out
  canon_tiles x h
  · idx_vars x
    obtain ⟨-, -, -, -, -, -, -, e6, hH, hI⟩ := idx t
    refine hi_block (grid0.coords t) hq hk hb ⟨_, hH⟩ _ _ _ _ _ _ (fun r x => read_q m c t r x _ rfl rfl) (fun r x => read_k0 m c t r x _ rfl rfl)
      (fun r x => read_k1 m c t r x _ rfl rfl) (fun r x => read_v0 m c t r x _ rfl rfl) (fun r x => read_v1 m c t r x _ rfl rfl) (fun r x => read_b m c t r x) x0 x1 _ _ _ _ _ _ _ ?_ ?_
    · blk_simp [e6]; show _ = (grid0.coords t 1).val * 512 + (256 + x0.val); omega
    · blk_simp [e6]; show _ = (grid0.coords t 0).val * 128 + x1.val; omega
  · idx_vars x
    obtain ⟨-, -, -, -, -, -, -, e6, hH, hI⟩ := idx t
    refine lo_block (grid0.coords t) hq hk hb ⟨_, hH⟩ _ _ _ _ _ _ (fun r x => read_q m c t r x _ rfl rfl) (fun r x => read_k0 m c t r x _ rfl rfl)
      (fun r x => read_k1 m c t r x _ rfl rfl) (fun r x => read_v0 m c t r x _ rfl rfl) (fun r x => read_v1 m c t r x _ rfl rfl) (fun r x => read_b m c t r x) x0 x1 _ _ _ _ _ _ _ ?_ ?_
    · blk_simp [e6]; show _ = (grid0.coords t 1).val * 512 + x0.val; omega
    · blk_simp [e6]; show _ = (grid0.coords t 0).val * 128 + x1.val; omega

end Cert.KernelIdeal.Band

end
-- ==== Proof.Scores.lean ====
/-
  The reference's scores, one entry at a time: the scaled product of a query and a key and the bias of their distance, −∞ outside the band.
-/
module

public import proofs.«01_k».proof.Proof.Gen.ReferenceIdeal.Run
public import proofs.«01_k».proof.Proof.Soft
public import proofs.«01_k».proof.Proof.Words
public import proofs.«01_k».proof.Proof.Gather
public import Idealize.ShloMosaic.Lib.Pointwise

@[expose] public section

set_option maxRecDepth 16384

noncomputable section

open Idealize.ShloMosaic Idealize.ShloMosaic.TcCoe Idealize.SL.Sem

namespace Cert.ReferenceIdeal.Band

open Cert.ReferenceIdeal Cert.ReferenceIdeal.Gen Cert.Soft Cert.Words

/-- The chunk of each key. -/
def keyChunk : IVec S1x8192 32 := select (andi (cmpi .ne (signi (broadcastInDim S1x8192 ![1] bcast_S8192_S1x8192_1 (iotaInDim S8192 32 0))) (broadcastInDim S1x8192 ![] bcast_S_S1x8192 (signi (id (constantI S_ 32 64#32))))) (cmpi .ne (Host.remsi (broadcastInDim S1x8192 ![1] bcast_S8192_S1x8192_1 (iotaInDim S8192 32 0)) (broadcastInDim S1x8192 ![] bcast_S_S1x8192 (id (constantI S_ 32 64#32)))) (broadcastInDim S1x8192 ![] bcast_S_S1x8192 (constantI S_ 32 0#32)))) (subi (Host.divsi (broadcastInDim S1x8192 ![1] bcast_S8192_S1x8192_1 (iotaInDim S8192 32 0)) (broadcastInDim S1x8192 ![] bcast_S_S1x8192 (id (constantI S_ 32 64#32)))) (broadcastInDim S1x8192 ![] bcast_S_S1x8192 (constantI S_ 32 1#32))) (Host.divsi (broadcastInDim S1x8192 ![1] bcast_S8192_S1x8192_1 (iotaInDim S8192 32 0)) (broadcastInDim S1x8192 ![] bcast_S_S1x8192 (id (constantI S_ 32 64#32))))

/-- The chunk of each query. -/
def queryChunk : IVec S8192x1 32 := select (andi (cmpi .ne (signi (broadcastInDim S8192x1 ![0] bcast_S8192_S8192x1_0 (iotaInDim S8192 32 0))) (broadcastInDim S8192x1 ![] bcast_S_S8192x1 (signi (id (constantI S_ 32 64#32))))) (cmpi .ne (Host.remsi (broadcastInDim S8192x1 ![0] bcast_S8192_S8192x1_0 (iotaInDim S8192 32 0)) (broadcastInDim S8192x1 ![] bcast_S_S8192x1 (id (constantI S_ 32 64#32)))) (broadcastInDim S8192x1 ![] bcast_S_S8192x1 (constantI S_ 32 0#32)))) (subi (Host.divsi (broadcastInDim S8192x1 ![0] bcast_S8192_S8192x1_0 (iotaInDim S8192 32 0)) (broadcastInDim S8192x1 ![] bcast_S_S8192x1 (id (constantI S_ 32 64#32)))) (broadcastInDim S8192x1 ![] bcast_S_S8192x1 (constantI S_ 32 1#32))) (Host.divsi (broadcastInDim S8192x1 ![0] bcast_S8192_S8192x1_0 (iotaInDim S8192 32 0)) (broadcastInDim S8192x1 ![] bcast_S_S8192x1 (id (constantI S_ 32 64#32))))

/-- Which keys a query sees. -/
def mask : IVec S8192x8192 1 := andi (andi (broadcastInDim S8192x8192 ![0, 1] bcast_S1x8192_S8192x8192_0_1 (cmpi .sge (broadcastInDim S1x8192 ![1] bcast_S8192_S1x8192_1 (iotaInDim S8192 32 0)) (broadcastInDim S1x8192 ![] bcast_S_S1x8192 (constantI S_ 32 0#32)))) (cmpi .sle (broadcastInDim S8192x8192 ![0, 1] bcast_S1x8192_S8192x8192_0_1 keyChunk) (broadcastInDim S8192x8192 ![0, 1] bcast_S8192x1_S8192x8192_0_1 queryChunk))) (cmpi .sge (broadcastInDim S8192x8192 ![0, 1] bcast_S1x8192_S8192x8192_0_1 keyChunk) (broadcastInDim S8192x8192 ![0, 1] bcast_S8192x1_S8192x8192_0_1 (subi queryChunk (broadcastInDim S8192x1 ![] bcast_S_S8192x1 (constantI S_ 32 8#32)))))

/-- The clipped distance of a query and a key, shifted to start at 0. -/
def dist : IVec S8192x8192 32 := addi (minsi (broadcastInDim S8192x8192 ![] bcast_S_S8192x8192 (id (constantI S_ 32 128#32))) (maxsi (broadcastInDim S8192x8192 ![] bcast_S_S8192x8192 (id (constantI S_ 32 4294967168#32))) (subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0)))))) (broadcastInDim S8192x8192 ![] bcast_S_S8192x8192 (constantI S_ 32 128#32))

/-- The bias table's row for a query and a key. -/
def rows : IVec S8192x8192 32 := select (cmpi .slt dist (broadcastInDim S8192x8192 ![] bcast_S_S8192x8192 (constantI S_ 32 0#32))) (addi dist (broadcastInDim S8192x8192 ![] bcast_S_S8192x8192 (constantI S_ 32 257#32))) dist

/-- The bias of a query and a key, for every head. -/
def biases (b : FVec Ideal S1x16x257 .f32) : FVec Ideal S16x8192x8192 .f32 := Host.gather gather_S16x257_S8192x8192x1_S16x8192x8192_0_1_n_n_1_2_161 (shapeCast _ b shapeCasts_S1x16x257_S16x257) (broadcastInDim S8192x8192x1 ![0, 1] bcast_S8192x8192_S8192x8192x1_0_1 rows)

/-- The scaled products of the queries and the keys, for every head. -/
def products (q : FVec Ideal S10240x2048 .bf16) (k : FVec Ideal S10240x2048 .f32) : FVec Ideal S1x16x8192x8192 .f32 := mulf (Host.dotGeneral dot_S1x8192x16x128_S1x8192x16x128_S1x16x8192x8192_3_3_1_1_02_02 none (shapeCast _ (extf .f32 (extractStridedSlice S8192x2048 ![0, 0] q slices_S10240x2048_S8192x2048_0_0) bitsLt_bf16_f32) shapeCasts_S8192x2048_S1x8192x16x128) (shapeCast _ (extractStridedSlice S8192x2048 ![0, 0] k slices_S10240x2048_S8192x2048_0_0) shapeCasts_S8192x2048_S1x8192x16x128)) (broadcastInDim S1x16x8192x8192 ![] bcast_S_S1x16x8192x8192 (constant S_ .f32 0x3DB504F3#32))

/-- The masked scores. -/
def scores (q : FVec Ideal S10240x2048 .bf16) (k : FVec Ideal S10240x2048 .f32) (b : FVec Ideal S1x16x257 .f32) : FVec Ideal S1x16x8192x8192 .f32 :=
  select (broadcastInDim S1x16x8192x8192 ![2, 3] bcast_S8192x8192_S1x16x8192x8192_2_3 mask) (addf (products q k) (broadcastInDim S1x16x8192x8192 ![1, 2, 3] bcast_S16x8192x8192_S1x16x8192x8192_1_2_3 (biases b))) (broadcastInDim S1x16x8192x8192 ![] bcast_S_S1x16x8192x8192 (id (constant S_ .f32 0xFF800000#32)))

theorem neg_inf : Ideal.ofBits .f32 0xFF800000#32 = (⊥ : EReal) := by simp [Ideal.ofBits, Ideal.ieee]

theorem keyChunk_at (j : Fin 8192) : keyChunk (ix2 0 j) = BitVec.ofNat 32 (j.val / 64) := by
  rw [← chunk_word j.val (by omega)]
  pointwise [keyChunk]
  all_goals first | rfl | skip

theorem queryChunk_at (j : Fin 8192) : queryChunk (ix2 j 0) = BitVec.ofNat 32 (j.val / 64) := by
  rw [← chunk_word j.val (by omega)]
  pointwise [queryChunk]
  all_goals first | rfl | skip

theorem mask_at (i j : Fin 8192) : mask (ix2 i j) = BitVec.ofBool (decide (band i.val j.val)) := by
  rw [← band_word i.val j.val (by omega) (by omega), ← keyChunk_at j, ← queryChunk_at i]
  pointwise [mask]
  have e : IntOp.cmpi .sge (BitVec.ofNat 32 j.val) 0#32 = 1#1 := by
    show BitVec.ofBool (BitVec.sle _ _) = _
    unfold BitVec.sle
    rw [ofNat_toInt 0 (by omega), ofNat_toInt j.val (by omega), decide_eq_true (by omega)]
    rfl
  rw [e]
  show (1#1 &&& _) &&& _ = _ &&& _
  rw [show (1#1 : BitVec 1) = BitVec.allOnes 1 from rfl, BitVec.allOnes_and]

theorem rows_at (i j : Fin 8192) : min (rows (ix2 i j)).toInt.toNat 256 = relRow ((i.val : Int) - j.val) := by
  have h := rel_word (BitVec.ofNat 32 i.val - BitVec.ofNat 32 j.val)
  have e : (BitVec.ofNat 32 i.val - BitVec.ofNat 32 j.val).toInt = (i.val : Int) - j.val := by
    rw [BitVec.toInt_sub, ofNat_toInt _ (by omega), ofNat_toInt _ (by omega)]
    exact Int.bmod_eq_of_le (by omega) (by omega)
  rw [e] at h
  rw [← h]
  congr 3

theorem biases_at (b : FVec Ideal S1x16x257 .f32) (h : Fin 16) (i j : Fin 8192) :
    biases b (ix3 h i j) = b (ix3 0 h ⟨relRow ((i.val : Int) - j.val), relRow_lt _⟩) := by
  have e1 : ∀ x : IVec S8192x8192 32, broadcastInDim S8192x8192x1 ![0, 1] bcast_S8192x8192_S8192x8192x1_0_1 x (ix3 i j 0) = x (ix2 i j) := fun x => by pointwise []
  have e2 : ∀ r : Fin 257, shapeCast S16x257 b shapeCasts_S1x16x257_S16x257 (ix2 h r) = b (ix3 0 h r) := fun r => by pointwise []
  exact (Gather.square _ _ h i j).trans ((e2 _).trans (congrArg (fun r => b (ix3 0 h r))
    (Fin.ext ((congrArg (fun w => min (BitVec.toInt w).toNat 256) (e1 rows)).trans (rows_at i j)))))

theorem products_at (q : FVec Ideal S10240x2048 .bf16) (k : FVec Ideal S10240x2048 .f32) (h : Fin 16) (i j : Fin 8192) :
    products q k (ix4 0 h i j) = (∑ x : Fin 128, q (ix2 ⟨i.val, by omega⟩ ⟨h.val * 128 + x.val, by omega⟩) * k (ix2 ⟨j.val, by omega⟩ ⟨h.val * 128 + x.val, by omega⟩)) * Ideal.ofBits .f32 0x3DB504F3#32 := by
  pointwise [products]

theorem scores_at (q : FVec Ideal S10240x2048 .bf16) (k : FVec Ideal S10240x2048 .f32) (b : FVec Ideal S1x16x257 .f32) (h : Fin 16) (i j : Fin 8192) :
    scores q k b (ix4 0 h i j) = if band i.val j.val then (∑ x : Fin 128, q (ix2 ⟨i.val, by omega⟩ ⟨h.val * 128 + x.val, by omega⟩) * k (ix2 ⟨j.val, by omega⟩ ⟨h.val * 128 + x.val, by omega⟩)) * Ideal.ofBits .f32 0x3DB504F3#32
      + b (ix3 0 h ⟨relRow ((i.val : Int) - j.val), relRow_lt _⟩) else ⊥ := by
  rw [← products_at q k h i j, ← biases_at b h i j]
  have hm := mask_at i j
  pointwise [scores]
  rw [hm]
  by_cases hb : band i.val j.val
  · rw [if_pos hb, decide_eq_true hb]
    rfl
  · rw [if_neg hb, decide_eq_false hb]
    exact neg_inf

end Cert.ReferenceIdeal.Band

end
-- ==== Proof.Ref.lean ====
/-
  The reference's softmax over the keys and its weighted sum of the values, one entry at a time.
-/
module

public import proofs.«01_k».proof.Proof.Gen.ReferenceIdeal.Run
public import proofs.«01_k».proof.Proof.Soft
public import proofs.«01_k».proof.Proof.Words
public import proofs.«01_k».proof.Proof.Scores
public import Idealize.ShloMosaic.Lib.Pointwise

@[expose] public section

set_option maxRecDepth 16384

noncomputable section

open Idealize.ShloMosaic Idealize.ShloMosaic.TcCoe Idealize.SL.Sem

namespace Cert.ReferenceIdeal.Band

open Cert.ReferenceIdeal Cert.ReferenceIdeal.Gen Cert.Soft Cert.Words

/-- Each query's greatest score. -/
def tops (s : FVec Ideal S1x16x8192x8192 .f32) : FVec Ideal S1x16x8192 .f32 := maximumf (broadcastInDim S1x16x8192 ![] bcast_S_S1x16x8192 (constant S_ .f32 0xFF800000#32)) (Host.reduce FloatOps.maximumf s (constant S_ .f32 0xFF800000#32) reducesTo_S1x16x8192x8192_S1x16x8192_d3 h_S_)

/-- The exponentials of the scores less the greatest. -/
def expo (s : FVec Ideal S1x16x8192x8192 .f32) : FVec Ideal S1x16x8192x8192 .f32 := Host.exp (subf s (broadcastInDim S1x16x8192x8192 ![0, 1, 2, 3] bcast_S1x16x8192x1_S1x16x8192x8192_0_1_2_3 (broadcastInDim S1x16x8192x1 ![0, 1, 2] bcast_S1x16x8192_S1x16x8192x1_0_1_2 (tops s))))

/-- Their sums over the keys. -/
def sums (s : FVec Ideal S1x16x8192x8192 .f32) : FVec Ideal S1x16x8192 .f32 := Host.reduceAdd (expo s) (constant S_ .f32 0x00000000#32) reducesTo_S1x16x8192x8192_S1x16x8192_d3 h_S_

/-- The weights of the keys. -/
def prob (s : FVec Ideal S1x16x8192x8192 .f32) : FVec Ideal S1x16x8192x8192 .f32 := Host.divf (expo s) (broadcastInDim S1x16x8192x8192 ![0, 1, 2, 3] bcast_S1x16x8192x1_S1x16x8192x8192_0_1_2_3 (broadcastInDim S1x16x8192x1 ![0, 1, 2] bcast_S1x16x8192_S1x16x8192x1_0_1_2 (sums s)))

/-- The weighted sums of the values. -/
def mixed (s : FVec Ideal S1x16x8192x8192 .f32) (v : FVec Ideal S10240x2048 .f32) : FVec Ideal S1x16x128x8192 .f32 := Host.dotGeneral dot_S1x8192x16x128_S1x16x8192x8192_S1x16x128x8192_1_3_3_2_02_01 none (shapeCast _ (extractStridedSlice S8192x2048 ![0, 0] v slices_S10240x2048_S8192x2048_0_0) shapeCasts_S8192x2048_S1x8192x16x128) (prob s)

/-- The result: the heads side by side, the rows after the sequence zero. -/
def laid (s : FVec Ideal S1x16x128x8192 .f32) : FVec Ideal S10240x2048 .bf16 :=
  pad S10240x2048 ![0, 0] ![2048, 0] ![0, 0] (truncf .bf16 (shapeCast _ (transpose S1x8192x16x128 [0, 3, 1, 2] s transposes_S1x16x128x8192_S1x8192x16x128_0_3_1_2) shapeCasts_S1x8192x16x128_S8192x2048) bitsLt_bf16_f32) (sitofp .bf16 (constantI S_ 32 0#32)) pads_S8192x2048_S10240x2048_020480_000 h_S_

/-- A maximum along the last axis, whatever the sizes. -/
theorem reduce_top {a b c n : Nat} (h : (⟨4, ![a, b, c, n]⟩ : Shape).ReducesTo [3] ⟨3, ![a, b, c]⟩)
    (x : FVec Ideal ⟨4, ![a, b, c, n]⟩ .f32) (i : Fin a) (j : Fin b) (k : Fin c) :
    Host.reduce FloatOps.maximumf x (constant (F := Ideal) S_ .f32 0xFF800000#32) h h_S_ (ix3 i j k) = mx (fun l : Fin n => x (ix4 i j k l)) := by
  rw [Host.reduce_eq_fold, h.fold_fiber_r4_a3]
  show Finset.fold max (Ideal.ofBits .f32 0xFF800000#32) _ _ = _
  rw [neg_inf]
  rfl

/-- The greatest score as the program takes it, whatever the sizes. -/
theorem max_top {a b c n : Nat} (h : (⟨4, ![a, b, c, n]⟩ : Shape).ReducesTo [3] ⟨3, ![a, b, c]⟩) (hb : S_.BroadcastsInDim ⟨3, ![a, b, c]⟩ ![])
    (x : FVec Ideal ⟨4, ![a, b, c, n]⟩ .f32) (i : Fin a) (j : Fin b) (k : Fin c) :
    maximumf (broadcastInDim ⟨3, ![a, b, c]⟩ ![] hb (constant (F := Ideal) S_ .f32 0xFF800000#32))
      (Host.reduce FloatOps.maximumf x (constant (F := Ideal) S_ .f32 0xFF800000#32) h h_S_) (ix3 i j k) = mx (fun l : Fin n => x (ix4 i j k l)) := by
  rw [← reduce_top h x i j k]
  show max (Ideal.ofBits .f32 0xFF800000#32) _ = _
  rw [neg_inf]
  exact bot_sup_eq _

theorem tops_at (s : FVec Ideal S1x16x8192x8192 .f32) (h : Fin 16) (i : Fin 8192) : tops s (ix3 0 h i) = mx (fun j : Fin 8192 => s (ix4 0 h i j)) :=
  max_top reducesTo_S1x16x8192x8192_S1x16x8192_d3 bcast_S_S1x16x8192 s 0 h i

theorem expo_at (s : FVec Ideal S1x16x8192x8192 .f32) (h : Fin 16) (i j : Fin 8192) :
    expo s (ix4 0 h i j) = Ideal.exp (s (ix4 0 h i j) - mx (fun j : Fin 8192 => s (ix4 0 h i j))) := by
  rw [← tops_at]
  pointwise [expo]
  all_goals first | rfl | skip

theorem sums_at (s : FVec Ideal S1x16x8192x8192 .f32) (h : Fin 16) (i : Fin 8192) : sums s (ix3 0 h i) = den (fun j : Fin 8192 => s (ix4 0 h i j)) := by
  unfold den
  simp only [← expo_at]
  pointwise [sums]

theorem prob_at (s : FVec Ideal S1x16x8192x8192 .f32) (h : Fin 16) (i j : Fin 8192) :
    prob s (ix4 0 h i j) = Ideal.div (Ideal.exp (s (ix4 0 h i j) - mx (fun j : Fin 8192 => s (ix4 0 h i j)))) (den (fun j : Fin 8192 => s (ix4 0 h i j))) := by
  rw [← expo_at, ← sums_at]
  pointwise [prob]
  all_goals first | rfl | skip

theorem mixed_at (s : FVec Ideal S1x16x8192x8192 .f32) (v : FVec Ideal S10240x2048 .f32) (h : Fin 16) (d : Fin 128) (i : Fin 8192) :
    mixed s v (ix4 0 h d i) = att (fun j : Fin 8192 => s (ix4 0 h i j)) (fun j : Fin 8192 => v (ix2 ⟨j.val, by omega⟩ ⟨h.val * 128 + d.val, by omega⟩)) := by
  unfold att
  simp only [← prob_at]
  pointwise [mixed]
  exact Finset.sum_congr rfl fun x _ => mul_comm _ _

theorem laid_at (s : FVec Ideal S1x16x128x8192 .f32) (r : Fin 10240) (d : Fin 2048) :
    laid s (ix2 r d) = if hr : r.val < 8192 then s (ix4 0 ⟨d.val / 128, by omega⟩ ⟨d.val % 128, by omega⟩ ⟨r.val, hr⟩) else 0 := by
  pointwise [laid]
  refine dite_congr rfl (fun _ => rfl) fun _ => ?_
  show (((0#32 : BitVec 32).toInt : ℝ) : EReal) = 0
  simp

theorem res_eq (m : (ℓ : Loc nD τ sig) → Buf (Elt Ideal) ℓ) (c : Dev nD) :
    Value.res_out0 m c = laid (mixed (scores (m ((c.tc : Thread nD τ).loc main_arg0)) (m ((c.tc : Thread nD τ).loc main_arg1)) (m ((c.tc : Thread nD τ).loc main_arg3))) (m ((c.tc : Thread nD τ).loc main_arg2))) := rfl

end Cert.ReferenceIdeal.Band

end
-- ==== Proof.Same.lean ====
/-
  The reference's result array is the kernel's.
-/
module

public import proofs.«01_k».proof.Proof.Ref
public import proofs.«01_k».proof.Proof.Halves

@[expose] public section

set_option maxRecDepth 16384

noncomputable section

open Idealize.ShloMosaic

namespace Cert.KernelIdeal.Band

open Cert.KernelIdeal Cert.Soft Cert.Words Cert.ReferenceIdeal.Band

theorem scores_spec (q : FVec Ideal S10240x2048 .bf16) (k : FVec Ideal S10240x2048 .f32) (b : FVec Ideal S1x16x257 .f32) (h : Fin 16) (i : Fin 8192) :
    (fun j : Fin 8192 => scores q k b (ix4 0 h i j)) = scoreOf q k b h i :=
  funext fun j => scores_at q k b h i j

theorem laid_out (q : FVec Ideal S10240x2048 .bf16) (k v : FVec Ideal S10240x2048 .f32) (b : FVec Ideal S1x16x257 .f32) (r : Fin 10240) (d : Fin 2048) :
    laid (mixed (scores q k b) v) (ix2 r d) = out q k v b r d := by
  rw [laid_at]
  unfold out
  by_cases hr : r.val < 8192
  · rw [dif_pos hr, dif_pos hr]
    exact (mixed_at _ v _ _ _).trans (congrArg (fun s => att s _) (scores_spec q k b _ _))
  · rw [dif_neg hr, dif_neg hr]

/-- The kernel's result, as the reference states it. -/
theorem whole (q : FVec Ideal S10240x2048 .bf16) (k v : FVec Ideal S10240x2048 .f32) (b : FVec Ideal S1x16x257 .f32) (z : S10240x2048.Idx → EReal) (hz : ∀ i, z i = 0) :
    (fun i : S10240x2048.Idx => if (i 0 : Nat) < 16 * 512 then out q k v b (i 0) (i 1) else z i) = laid (mixed (scores q k b) v) := by
  funext i
  obtain ⟨r, d, rfl⟩ : ∃ (r : Fin 10240) (d : Fin 2048), i = ix2 r d := ⟨i 0, i 1, by funext a; fin_cases a <;> rfl⟩
  rw [laid_out, hz]
  by_cases hr : r.val < 8192
  · exact if_pos hr
  · refine (if_neg hr).trans ?_
    unfold out
    rw [dif_neg hr]

end Cert.KernelIdeal.Band

end
-- ==== Proof.Entries.lean ====
/-
  A product of a matrix of activations and one layer's weights, one entry at a time.
-/
module

public import Idealize.ShloMosaic.Lib.Pointwise
public import Idealize.ShloMosaic.PureOps.IdealRules

@[expose] public section

noncomputable section

open Idealize.ShloMosaic

namespace Cert.Entries

/-- The entry of a product at a row of the activations and a column of the weights. -/
def entry {a k b : Nat} (x : (⟨2, ![a, k]⟩ : Shape).Idx → EReal) (w : (⟨3, ![1, k, b]⟩ : Shape).Idx → EReal) (r : Fin a) (n : Fin b) : EReal :=
  ∑ j : Fin k, x (ix2 r j) * w (ix3 0 j n)

/-- An entry of a block's product is the entry of the whole product, when the block's row and column are the whole's. -/
theorem entry_block {a k b a' b' : Nat} {x : (⟨2, ![a, k]⟩ : Shape).Idx → EReal} {w : (⟨3, ![1, k, b]⟩ : Shape).Idx → EReal}
    {x' : (⟨2, ![a', k]⟩ : Shape).Idx → EReal} {w' : (⟨3, ![1, k, b']⟩ : Shape).Idx → EReal} {r : Fin a} {n : Fin b} {r' : Fin a'} {n' : Fin b'}
    (hx : ∀ j, x (ix2 r j) = x' (ix2 r' j)) (hw : ∀ j, w (ix3 0 j n) = w' (ix3 0 j n')) : entry x w r n = entry x' w' r' n' :=
  Finset.sum_congr rfl fun j _ => by rw [hx, hw]

/-- A row times the inverse root of its mean square (the row's length and the small number added are `len` and `eps`), times a gain. -/
def scaled {n : Nat} (len eps : EReal) (f g : Fin n → EReal) (d : Fin n) : EReal :=
  f d * Ideal.rsqrt (Ideal.div (∑ x, f x * f x) len + eps) * g d

/-- It takes the row and the gain entry by entry. -/
theorem scaled_congr {n : Nat} {len eps : EReal} {f g f' g' : Fin n → EReal} (hf : ∀ x, f x = f' x) (hg : ∀ x, g x = g' x) (d : Fin n) :
    scaled len eps f g d = scaled len eps f' g' d := by
  rw [funext hf, funext hg]

/-- The number added to a mean square. -/
abbrev eps : EReal := Ideal.ofBits .f32 0x358637BD#32

end Cert.Entries

end
-- ==== Proof.CKeysEq.lean ====
/-
  The keys of the stick-breaking attention, as a matrix and head by head: the kernel's blocks and the reference's results
  are the same entries of one product.
-/
module

public import proofs.«01_k».proof.Defs
public import proofs.«01_k».proof.Proof.Entries
public import proofs.«01_k».proof.Proof.Gen.CKeysIdeal.Frame
public import proofs.«01_k».proof.Proof.Gen.RefCKeysIdeal.Run
public import Idealize.ShloMosaic.Lib.StableHlo.Run
public import Idealize.ShloMosaic.Lib.Pipeline.Value
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.CKeysIdeal.Eq

open Cert.CKeysIdeal Cert.CKeysIdeal.Gen Cert.Entries

theorem idx : ∀ t : Fin cfg0.N, win0_0.index t = ![(grid0.coords t 0).val, 0] ∧ win0_1.index t = ![0, 0, 4 + (grid0.coords t 1).val]
    ∧ win0_2.index t = ![(grid0.coords t 0).val, (grid0.coords t 1).val] ∧ win0_3.index t = ![(grid0.coords t 0).val, (grid0.coords t 1).val, 0]
    ∧ (grid0.coords t 0).val < 8 ∧ (grid0.coords t 1).val < 4 :=
  (by decide +kernel : ∀ t : Fin grid0.N, _)

variable (m : (ℓ : Loc nD τ sig) → Buf (Elt Ideal) ℓ)

theorem weights (c : Dev nD) (i : S1x4096x12288.Idx) :
    (V m c main_v0 : FVec Ideal S1x4096x12288 .bf16) i = (m ((c : Thread nD τ).loc main_arg1) : FVec Ideal S1x4096x12288 .f32) i := by
  simp only [V, List.flatten_cons, List.flatten_nil, List.append_nil, List.cons_append, List.nil_append]
  after_reads_at

theorem read_x (c : Dev nD) (t : Fin cfg0.N) (r : Fin 1024) (x : Fin 4096) (i : Fin 10240) (h : i.val = (grid0.coords t 0).val * 1024 + r.val) :
    (iblk m c 0 t : FVec Ideal S1024x4096 .bf16) (ix2 r x) = (m ((c : Thread nD τ).loc main_arg0) : FVec Ideal S10240x4096 .bf16) (ix2 i x) := by
  obtain ⟨e0, e1, e2, e3, -, -⟩ := idx t
  rw [← V_main_arg0 m c]
  blk_ext [iblk, e0]

theorem read_w (c : Dev nD) (t : Fin cfg0.N) (x : Fin 4096) (n : Fin 1024) (j : Fin 12288) (h : j.val = (4 + (grid0.coords t 1).val) * 1024 + n.val) :
    (iblk m c 1 t : FVec Ideal S1x4096x1024 .bf16) (ix3 0 x n) = (m ((c : Thread nD τ).loc main_arg1) : FVec Ideal S1x4096x12288 .f32) (ix3 0 x j) := by
  obtain ⟨e0, e1, e2, e3, -, -⟩ := idx t
  rw [← weights m c]
  blk_ext [iblk, e1]

theorem pay (v0 : FVec Ideal S1024x4096 .bf16) (v1 : FVec Ideal S1x4096x1024 .bf16) (r : Fin 1024) (n : Fin 1024) :
    k0_pay2 (F := Ideal) v0 v1 (ix2 r n) = entry v0 v1 r n := by
  pointwise [k0_pay2, k0_pay1, entry]

theorem pay_heads (v0 : FVec Ideal S1024x4096 .bf16) (v1 : FVec Ideal S1x4096x1024 .bf16) (r : Fin 1024) (n : Fin 8) (d : Fin 128) :
    k0_pay3 (F := Ideal) v0 v1 (ix3 r n d) = entry v0 v1 r ⟨n.val * 128 + d.val, by omega⟩ := by
  pointwise [k0_pay3, k0_pay1, entry]

/-- The whole result, a matrix. -/
def whole (x : FVec Ideal S10240x4096 .bf16) (w : FVec Ideal S1x4096x12288 .f32) (i : S8192x4096.Idx) : EReal :=
  entry x w ⟨(i 0).val, by have := (i 0).isLt; change (i 0).val < 8192 at this; omega⟩
    ⟨4096 + (i 1).val, by have := (i 1).isLt; change (i 1).val < 4096 at this; omega⟩

/-- The whole result, head by head. -/
def heads (x : FVec Ideal S10240x4096 .bf16) (w : FVec Ideal S1x4096x12288 .f32) (i : S8192x32x128.Idx) : EReal :=
  entry x w ⟨(i 0).val, by have := (i 0).isLt; change (i 0).val < 8192 at this; omega⟩
    ⟨4096 + ((i 1).val * 128 + (i 2).val), by
      have := (i 1).isLt; change (i 1).val < 32 at this
      have := (i 2).isLt; change (i 2).val < 128 at this; omega⟩

/-- The run with its two result arrays named, the arguments unchanged. -/
theorem run_arrays (ρ : Dev nD → PrngReg) : θ_run defs (onTc (τ := τ) (main (F := Ideal))) ⟨m, fun _ => 0, ρ⟩ fun r => ∀ c : Dev nD,
      r.2.mem ((c : Thread nD τ).loc main_v1_0) = (dats m 0 c).arrAt 2 cfg0.N
      ∧ r.2.mem ((c : Thread nD τ).loc main_v1_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2, (h c).1 3,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

theorem final (c : Dev nD) : (dats m 0 c).arrAt 2 (cfgs 0).N = whole (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  idx_vars y
  obtain ⟨e0, e1, e2, e3, h0, h1⟩ := idx t
  refine (pay _ _ y0 y1).trans (entry_block (fun j => read_x m c t y0 j _ ?_) (fun j => read_w m c t j y1 _ ?_))
  · blk_simp [e2]
  · blk_simp [e2]; show 4096 + ((grid0.coords t 1).val * 1024 + y1.val) = _; omega

theorem final_heads (c : Dev nD) : (dats m 0 c).arrAt 3 (cfgs 0).N = heads (m ((c : Thread nD τ).loc main_arg0)) (m ((c : Thread nD τ).loc main_arg1)) := by
  refine (dats m 0 c).arrAt_eq_of_covers 3 _ (by decide +kernel) fun t hf y => ?_
  blk_simp
  rw [after0_3]
  unfold out0_3
  frame_out
  idx_vars y
  obtain ⟨e0, e1, e2, e3, h0, h1⟩ := idx t
  refine (pay_heads _ _ y0 y1 y2).trans (entry_block (fun j => read_x m c t y0 j _ ?_) (fun j => read_w m c t j _ _ ?_))
  · blk_simp [e3]
  · blk_simp [e3]; show 4096 + (((grid0.coords t 1).val * 8 + y1.val) * 128 + y2.val) = (4 + (grid0.coords t 1).val) * 1024 + (y1.val * 128 + y2.val); omega

end Cert.CKeysIdeal.Eq

namespace Cert.RefCKeysIdeal.Eq

open Cert.RefCKeysIdeal Cert.RefCKeysIdeal.Gen Cert.Entries

/-- The reference's columns. -/
def cols (x : FVec Ideal S10240x4096 .bf16) (w : FVec Ideal S1x4096x12288 .f32) : FVec Ideal S8192x4096 .f32 :=
  extractStridedSlice S8192x4096 ![0, 4096] (Host.dotGeneral dot_S8192x4096_S4096x12288_S8192x12288_1_0_0_1_n_n none (extf .f32 (extractStridedSlice S8192x4096 ![0, 0] x slices_S10240x4096_S8192x4096_0_0) bitsLt_bf16_f32) (shapeCast _ w shapeCasts_S1x4096x12288_S4096x12288)) slices_S8192x12288_S8192x4096_0_4096

/-- The reference's results. -/
def res (x : FVec Ideal S10240x4096 .bf16) (w : FVec Ideal S1x4096x12288 .f32) : FVec Ideal S8192x4096 .bf16 := truncf .bf16 (cols x w) bitsLt_bf16_f32

def res_heads (x : FVec Ideal S10240x4096 .bf16) (w : FVec Ideal S1x4096x12288 .f32) : FVec Ideal S8192x32x128 .f32 :=
  shapeCast _ (cols x w) shapeCasts_S8192x4096_S8192x32x128

theorem res_eq (x : FVec Ideal S10240x4096 .bf16) (w : FVec Ideal S1x4096x12288 .f32) : res x w = Cert.CKeysIdeal.Eq.whole x w := by
  funext i
  idx_vars i
  pointwise [res, cols, Cert.CKeysIdeal.Eq.whole, entry]

theorem res_heads_eq (x : FVec Ideal S10240x4096 .bf16) (w : FVec Ideal S1x4096x12288 .f32) : res_heads x w = Cert.CKeysIdeal.Eq.heads x w := by
  funext i
  idx_vars i
  pointwise [res_heads, cols, Cert.CKeysIdeal.Eq.heads, entry]

end Cert.RefCKeysIdeal.Eq

namespace Cert.CKeysIdeal.Eq

/-- The kernel and the reference end with the same two result arrays. -/
theorem same : Cert.algebraic_CKeysIdeal_RefCKeysIdeal := by
  intro m g m' g' hp hm
  refine ⟨fun c => (Gen.dats m 0 c).arrAt 2 cfg0.N, fun c => (Gen.dats m 0 c).arrAt 3 cfg0.N, run_arrays m g, ?_⟩
  refine (θ_run Cert.RefCKeysIdeal.defs _ _).mono (fun r h c => ⟨(h c).1.trans ?_, (h c).2.1.trans ?_, (h c).2.2⟩) (Cert.RefCKeysIdeal.Value.run (F := Ideal) m' g')
  · obtain ⟨e0, e1⟩ := hm c
    refine (Cert.RefCKeysIdeal.Eq.res_eq _ _).trans (Eq.trans ?_ (final m c).symm)
    rw [e0, e1]
  · obtain ⟨e0, e1⟩ := hm c
    refine (Cert.RefCKeysIdeal.Eq.res_heads_eq _ _).trans (Eq.trans ?_ (final_heads m c).symm)
    rw [e0, e1]

end Cert.CKeysIdeal.Eq

end
-- ==== Proof.CValuesEq.lean ====
/-
  The values of the stick-breaking attention, as a matrix and head by head: the kernel's blocks and the reference's results
  are the same entries of one product.
-/
module

public import proofs.«01_k».proof.Defs
public import proofs.«01_k».proof.Proof.Entries
public import proofs.«01_k».proof.Proof.Gen.CValuesIdeal.Frame
public import proofs.«01_k».proof.Proof.Gen.RefCValuesIdeal.Run
public import Idealize.ShloMosaic.Lib.StableHlo.Run
public import Idealize.ShloMosaic.Lib.Pipeline.Value
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.CValuesIdeal.Eq

open Cert.CValuesIdeal Cert.CValuesIdeal.Gen Cert.Entries

theorem idx : ∀ t : Fin cfg0.N, win0_0.index t = ![(grid0.coords t 0).val, 0] ∧ win0_1.index t = ![0, 0, 8 + (grid0.coords t 1).val]
    ∧ win0_2.index t = ![(grid0.coords t 0).val, (grid0.coords t 1).val] ∧ win0_3.index t = ![(grid0.coords t 0).val, (grid0.coords t 1).val, 0]
    ∧ (grid0.coords t 0).val < 8 ∧ (grid0.coords t 1).val < 4 :=
  (by decide +kernel : ∀ t : Fin grid0.N, _)

variable (m : (ℓ : Loc nD τ sig) → Buf (Elt Ideal) ℓ)

theorem weights (c : Dev nD) (i : S1x4096x12288.Idx) :
    (V m c main_v0 : FVec Ideal S1x4096x12288 .bf16) i = (m ((c : Thread nD τ).loc main_arg1) : FVec Ideal S1x4096x12288 .f32) i := by
  simp only [V, List.flatten_cons, List.flatten_nil, List.append_nil, List.cons_append, List.nil_append]
  after_reads_at

theorem read_x (c : Dev nD) (t : Fin cfg0.N) (r : Fin 1024) (x : Fin 4096) (i : Fin 10240) (h : i.val = (grid0.coords t 0).val * 1024 + r.val) :
    (iblk m c 0 t : FVec Ideal S1024x4096 .bf16) (ix2 r x) = (m ((c : Thread nD τ).loc main_arg0) : FVec Ideal S10240x4096 .bf16) (ix2 i x) := by
  obtain ⟨e0, e1, e2, e3, -, -⟩ := idx t
  rw [← V_main_arg0 m c]
  blk_ext [iblk, e0]

theorem read_w (c : Dev nD) (t : Fin cfg0.N) (x : Fin 4096) (n : Fin 1024) (j : Fin 12288) (h : j.val = (8 + (grid0.coords t 1).val) * 1024 + n.val) :
    (iblk m c 1 t : FVec Ideal S1x4096x1024 .bf16) (ix3 0 x n) = (m ((c : Thread nD τ).loc main_arg1) : FVec Ideal S1x4096x12288 .f32) (ix3 0 x j) := by
  obtain ⟨e0, e1, e2, e3, -, -⟩ := idx t
  rw [← weights m c]
  blk_ext [iblk, e1]

theorem pay (v0 : FVec Ideal S1024x4096 .bf16) (v1 : FVec Ideal S1x4096x1024 .bf16) (r : Fin 1024) (n : Fin 1024) :
    k0_pay2 (F := Ideal) v0 v1 (ix2 r n) = entry v0 v1 r n := by
  pointwise [k0_pay2, k0_pay1, entry]

theorem pay_heads (v0 : FVec Ideal S1024x4096 .bf16) (v1 : FVec Ideal S1x4096x1024 .bf16) (r : Fin 1024) (n : Fin 8) (d : Fin 128) :
    k0_pay3 (F := Ideal) v0 v1 (ix3 r n d) = entry v0 v1 r ⟨n.val * 128 + d.val, by omega⟩ := by
  pointwise [k0_pay3, k0_pay1, entry]

/-- The whole result, a matrix. -/
def whole (x : FVec Ideal S10240x4096 .bf16) (w : FVec Ideal S1x4096x12288 .f32) (i : S8192x4096.Idx) : EReal :=
  entry x w ⟨(i 0).val, by have := (i 0).isLt; change (i 0).val < 8192 at this; omega⟩
    ⟨8192 + (i 1).val, by have := (i 1).isLt; change (i 1).val < 4096 at this; omega⟩

/-- The whole result, head by head. -/
def heads (x : FVec Ideal S10240x4096 .bf16) (w : FVec Ideal S1x4096x12288 .f32) (i : S8192x32x128.Idx) : EReal :=
  entry x w ⟨(i 0).val, by have := (i 0).isLt; change (i 0).val < 8192 at this; omega⟩
    ⟨8192 + ((i 1).val * 128 + (i 2).val), by
      have := (i 1).isLt; change (i 1).val < 32 at this
      have := (i 2).isLt; change (i 2).val < 128 at this; omega⟩

/-- The run with its two result arrays named, the arguments unchanged. -/
theorem run_arrays (ρ : Dev nD → PrngReg) : θ_run defs (onTc (τ := τ) (main (F := Ideal))) ⟨m, fun _ => 0, ρ⟩ fun r => ∀ c : Dev nD,
      r.2.mem ((c : Thread nD τ).loc main_v1_0) = (dats m 0 c).arrAt 2 cfg0.N
      ∧ r.2.mem ((c : Thread nD τ).loc main_v1_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2, (h c).1 3,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

theorem final (c : Dev nD) : (dats m 0 c).arrAt 2 (cfgs 0).N = whole (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  idx_vars y
  obtain ⟨e0, e1, e2, e3, h0, h1⟩ := idx t
  refine (pay _ _ y0 y1).trans (entry_block (fun j => read_x m c t y0 j _ ?_) (fun j => read_w m c t j y1 _ ?_))
  · blk_simp [e2]
  · blk_simp [e2]; show 8192 + ((grid0.coords t 1).val * 1024 + y1.val) = _; omega

theorem final_heads (c : Dev nD) : (dats m 0 c).arrAt 3 (cfgs 0).N = heads (m ((c : Thread nD τ).loc main_arg0)) (m ((c : Thread nD τ).loc main_arg1)) := by
  refine (dats m 0 c).arrAt_eq_of_covers 3 _ (by decide +kernel) fun t hf y => ?_
  blk_simp
  rw [after0_3]
  unfold out0_3
  frame_out
  idx_vars y
  obtain ⟨e0, e1, e2, e3, h0, h1⟩ := idx t
  refine (pay_heads _ _ y0 y1 y2).trans (entry_block (fun j => read_x m c t y0 j _ ?_) (fun j => read_w m c t j _ _ ?_))
  · blk_simp [e3]
  · blk_simp [e3]; show 8192 + (((grid0.coords t 1).val * 8 + y1.val) * 128 + y2.val) = (8 + (grid0.coords t 1).val) * 1024 + (y1.val * 128 + y2.val); omega

end Cert.CValuesIdeal.Eq

namespace Cert.RefCValuesIdeal.Eq

open Cert.RefCValuesIdeal Cert.RefCValuesIdeal.Gen Cert.Entries

/-- The reference's columns. -/
def cols (x : FVec Ideal S10240x4096 .bf16) (w : FVec Ideal S1x4096x12288 .f32) : FVec Ideal S8192x4096 .f32 :=
  extractStridedSlice S8192x4096 ![0, 8192] (Host.dotGeneral dot_S8192x4096_S4096x12288_S8192x12288_1_0_0_1_n_n none (extf .f32 (extractStridedSlice S8192x4096 ![0, 0] x slices_S10240x4096_S8192x4096_0_0) bitsLt_bf16_f32) (shapeCast _ w shapeCasts_S1x4096x12288_S4096x12288)) slices_S8192x12288_S8192x4096_0_8192

/-- The reference's results. -/
def res (x : FVec Ideal S10240x4096 .bf16) (w : FVec Ideal S1x4096x12288 .f32) : FVec Ideal S8192x4096 .bf16 := truncf .bf16 (cols x w) bitsLt_bf16_f32

def res_heads (x : FVec Ideal S10240x4096 .bf16) (w : FVec Ideal S1x4096x12288 .f32) : FVec Ideal S8192x32x128 .f32 :=
  shapeCast _ (cols x w) shapeCasts_S8192x4096_S8192x32x128

theorem res_eq (x : FVec Ideal S10240x4096 .bf16) (w : FVec Ideal S1x4096x12288 .f32) : res x w = Cert.CValuesIdeal.Eq.whole x w := by
  funext i
  idx_vars i
  pointwise [res, cols, Cert.CValuesIdeal.Eq.whole, entry]

theorem res_heads_eq (x : FVec Ideal S10240x4096 .bf16) (w : FVec Ideal S1x4096x12288 .f32) : res_heads x w = Cert.CValuesIdeal.Eq.heads x w := by
  funext i
  idx_vars i
  pointwise [res_heads, cols, Cert.CValuesIdeal.Eq.heads, entry]

end Cert.RefCValuesIdeal.Eq

namespace Cert.CValuesIdeal.Eq

/-- The kernel and the reference end with the same two result arrays. -/
theorem same : Cert.algebraic_CValuesIdeal_RefCValuesIdeal := by
  intro m g m' g' hp hm
  refine ⟨fun c => (Gen.dats m 0 c).arrAt 2 cfg0.N, fun c => (Gen.dats m 0 c).arrAt 3 cfg0.N, run_arrays m g, ?_⟩
  refine (θ_run Cert.RefCValuesIdeal.defs _ _).mono (fun r h c => ⟨(h c).1.trans ?_, (h c).2.1.trans ?_, (h c).2.2⟩) (Cert.RefCValuesIdeal.Value.run (F := Ideal) m' g')
  · obtain ⟨e0, e1⟩ := hm c
    refine (Cert.RefCValuesIdeal.Eq.res_eq _ _).trans (Eq.trans ?_ (final m c).symm)
    rw [e0, e1]
  · obtain ⟨e0, e1⟩ := hm c
    refine (Cert.RefCValuesIdeal.Eq.res_heads_eq _ _).trans (Eq.trans ?_ (final_heads m c).symm)
    rw [e0, e1]

end Cert.CValuesIdeal.Eq

end
-- ==== Proof.CQueriesEq.lean ====
/-
  The queries of the stick-breaking attention: the kernel's blocks and the reference's result are the same entries of
  one product.
-/
module

public import proofs.«01_k».proof.Defs
public import proofs.«01_k».proof.Proof.Entries
public import proofs.«01_k».proof.Proof.Gen.CQueriesIdeal.Value
public import proofs.«01_k».proof.Proof.Gen.RefCQueriesIdeal.Run
public import Idealize.ShloMosaic.Lib.StableHlo.Run
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.CQueriesIdeal.Eq

open Cert.CQueriesIdeal Cert.CQueriesIdeal.Gen Cert.Entries

theorem idx : ∀ t : Fin cfg0.N, win0_0.index t = ![(grid0.coords t 0).val, 0] ∧ win0_1.index t = ![0, 0, (grid0.coords t 1).val]
    ∧ win0_2.index t = ![(grid0.coords t 0).val, (grid0.coords t 1).val] ∧ (grid0.coords t 0).val < 10 ∧ (grid0.coords t 1).val < 8 :=
  (by decide +kernel : ∀ t : Fin grid0.N, _)

variable (m : (ℓ : Loc nD τ sig) → Buf (Elt Ideal) ℓ)

theorem weights (c : Dev nD) (i : S1x4096x12288.Idx) :
    (V m c main_v0 : FVec Ideal S1x4096x12288 .bf16) i = (m ((c : Thread nD τ).loc main_arg1) : FVec Ideal S1x4096x12288 .f32) i := by
  simp only [V, List.flatten_cons, List.flatten_nil, List.append_nil, List.cons_append, List.nil_append]
  after_reads_at

theorem read_x (c : Dev nD) (t : Fin cfg0.N) (r : Fin 1024) (x : Fin 4096) (i : Fin 10240) (h : i.val = (grid0.coords t 0).val * 1024 + r.val) :
    (iblk m c 0 t : FVec Ideal S1024x4096 .bf16) (ix2 r x) = (m ((c : Thread nD τ).loc main_arg0) : FVec Ideal S10240x4096 .bf16) (ix2 i x) := by
  obtain ⟨e0, e1, e2, -, -⟩ := idx t
  rw [← V_main_arg0 m c]
  blk_ext [iblk, e0]

theorem read_w (c : Dev nD) (t : Fin cfg0.N) (x : Fin 4096) (n : Fin 512) (j : Fin 12288) (h : j.val = (grid0.coords t 1).val * 512 + n.val) :
    (iblk m c 1 t : FVec Ideal S1x4096x512 .bf16) (ix3 0 x n) = (m ((c : Thread nD τ).loc main_arg1) : FVec Ideal S1x4096x12288 .f32) (ix3 0 x j) := by
  obtain ⟨e0, e1, e2, -, -⟩ := idx t
  rw [← weights m c]
  blk_ext [iblk, e1]

theorem pay (v0 : FVec Ideal S1024x4096 .bf16) (v1 : FVec Ideal S1x4096x512 .bf16) (r : Fin 1024) (n : Fin 512) :
    k0_pay1 (F := Ideal) v0 v1 (ix2 r n) = entry v0 v1 r n := by
  pointwise [k0_pay1, entry]

/-- The whole result. -/
def whole (x : FVec Ideal S10240x4096 .bf16) (w : FVec Ideal S1x4096x12288 .f32) (i : S10240x4096.Idx) : EReal :=
  entry x w (i 0) ⟨(i 1).val, by have := (i 1).isLt; change (i 1).val < 4096 at this; omega⟩

theorem final (c : Dev nD) : (dats m 0 c).arrAt 2 (cfgs 0).N = whole (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  idx_vars y
  obtain ⟨e0, e1, e2, h0, h1⟩ := idx t
  refine (pay _ _ y0 y1).trans (entry_block (fun j => read_x m c t y0 j _ ?_) (fun j => read_w m c t j y1 _ ?_))
  · blk_simp [e2]
  · blk_simp [e2]

end Cert.CQueriesIdeal.Eq

namespace Cert.RefCQueriesIdeal.Eq

open Cert.RefCQueriesIdeal Cert.RefCQueriesIdeal.Gen Cert.Entries

/-- The reference's result. -/
def res (x : FVec Ideal S10240x4096 .bf16) (w : FVec Ideal S1x4096x12288 .f32) : FVec Ideal S10240x4096 .bf16 :=
  truncf .bf16 (extractStridedSlice S10240x4096 ![0, 0] (Host.dotGeneral dot_S10240x4096_S4096x12288_S10240x12288_1_0_0_1_n_n none (extf .f32 x bitsLt_bf16_f32) (shapeCast _ w shapeCasts_S1x4096x12288_S4096x12288)) slices_S10240x12288_S10240x4096_0_0) bitsLt_bf16_f32

theorem res_eq (x : FVec Ideal S10240x4096 .bf16) (w : FVec Ideal S1x4096x12288 .f32) : res x w = Cert.CQueriesIdeal.Eq.whole x w := by
  funext i
  idx_vars i
  pointwise [res, Cert.CQueriesIdeal.Eq.whole, entry]

end Cert.RefCQueriesIdeal.Eq

namespace Cert.CQueriesIdeal.Eq

/-- The kernel and the reference end with one result array. -/
theorem same : Cert.algebraic_CQueriesIdeal_RefCQueriesIdeal := by
  intro m g m' g' hp hm
  refine ⟨fun c => (Gen.dats m 0 c).arrAt 2 cfg0.N, Value.run_blocks (F := Ideal) m g, ?_⟩
  refine (θ_run Cert.RefCQueriesIdeal.defs _ _).mono (fun r h c => ⟨(h c).1.trans ?_, (h c).2⟩) (Cert.RefCQueriesIdeal.Value.run (F := Ideal) m' g')
  obtain ⟨e0, e1⟩ := hm c
  refine (Cert.RefCQueriesIdeal.Eq.res_eq _ _).trans (Eq.trans ?_ (final m c).symm)
  rw [e0, e1]

end Cert.CQueriesIdeal.Eq

end
-- ==== Proof.Heads.lean ====
/-
  Projections whose heads are scaled: a row of the product, 128 columns at a time, times the inverse root of the mean
  of its squares, times a gain.
-/
module

public import proofs.«01_k».proof.Defs
public import proofs.«01_k».proof.Proof.Entries

@[expose] public section

noncomputable section

open Idealize.ShloMosaic

namespace Cert.Heads

open Cert.Entries

/-- The length of a head. -/
abbrev len : EReal := Ideal.ofBits .f32 0x43000000#32

/-- The heads of the 2048 columns from `o`: column `n` belongs to head `n / 128`. -/
def headed (o : Nat) (ho : o + 2048 ≤ 8192) (x : (⟨2, ![10240, 4096]⟩ : Shape).Idx → EReal) (w : (⟨3, ![1, 4096, 8192]⟩ : Shape).Idx → EReal)
    (g : (⟨2, ![1, 128]⟩ : Shape).Idx → EReal) (i : Fin 10240) (n : Fin 2048) : EReal :=
  scaled len eps (fun d : Fin 128 => entry x w i ⟨o + (n.val / 128 * 128 + d.val), by omega⟩) (fun d : Fin 128 => g (ix2 0 d)) ⟨n.val % 128, by omega⟩

/-- A head of a block of 512 columns is a head of the whole, when the block is the `b`-th from column `o` and the head its `q`-th. -/
theorem headed_block (o : Nat) (ho : o + 2048 ≤ 8192) (q b : Nat) {v0 : (⟨2, ![1024, 4096]⟩ : Shape).Idx → EReal}
    {v1 : (⟨3, ![1, 4096, 512]⟩ : Shape).Idx → EReal} {v4 : (⟨2, ![1, 128]⟩ : Shape).Idx → EReal} {x : (⟨2, ![10240, 4096]⟩ : Shape).Idx → EReal}
    {w : (⟨3, ![1, 4096, 8192]⟩ : Shape).Idx → EReal} {g : (⟨2, ![1, 128]⟩ : Shape).Idx → EReal} (p : Fin 128 → Fin 512)
    (hp : ∀ d, (p d).val = q * 128 + d.val) (r : Fin 1024) (d : Fin 128) (i : Fin 10240) (n : Fin 2048)
    (hx : ∀ j, v0 (ix2 r j) = x (ix2 i j))
    (hw : ∀ (j : Fin 4096) (a : Fin 512) (k : Fin 8192), k.val = o + (b * 512 + a.val) → v1 (ix3 0 j a) = w (ix3 0 j k))
    (hg : ∀ d, v4 (ix2 0 d) = g (ix2 0 d)) (hn : n.val = b * 512 + (q * 128 + d.val)) :
    scaled len eps (fun d : Fin 128 => entry v0 v1 r (p d)) (fun d : Fin 128 => v4 (ix2 0 d)) d = headed o ho x w g i n := by
  have hd : d = ⟨n.val % 128, by omega⟩ := Fin.ext (show d.val = n.val % 128 by omega)
  refine (scaled_congr (fun z => entry_block hx fun j => hw j (p z) _ ?_) hg d).trans (congrArg _ hd)
  rw [hp]
  show o + (n.val / 128 * 128 + z.val) = _
  omega

end Cert.Heads

end
-- ==== Proof.AQueriesEq.lean ====
/-
  The band attention's queries: the kernel's blocks and the reference's result are the same scaled heads of one product.
-/
module

public import proofs.«01_k».proof.Defs
public import proofs.«01_k».proof.Proof.Entries
public import proofs.«01_k».proof.Proof.Heads
public import proofs.«01_k».proof.Proof.Gen.AQueriesIdeal.Value
public import proofs.«01_k».proof.Proof.Gen.RefAQueriesIdeal.Run
public import Idealize.ShloMosaic.Lib.StableHlo.Run
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.AQueriesIdeal.Eq

open Cert.AQueriesIdeal Cert.AQueriesIdeal.Gen Cert.Entries

theorem idx : ∀ t : Fin cfg0.N, win0_0.index t = ![(grid0.coords t 0).val, 0] ∧ win0_1.index t = ![0, 0, (grid0.coords t 1).val]
    ∧ win0_2.index t = ![0, 0] ∧ win0_3.index t = ![(grid0.coords t 0).val, (grid0.coords t 1).val]
    ∧ (grid0.coords t 0).val < 10 ∧ (grid0.coords t 1).val < 4 :=
  (by decide +kernel : ∀ t : Fin grid0.N, _)

variable (m : (ℓ : Loc nD τ sig) → Buf (Elt Ideal) ℓ)

theorem weights (c : Dev nD) (i : S1x4096x8192.Idx) :
    (V m c main_v0 : FVec Ideal S1x4096x8192 .bf16) i = (m ((c : Thread nD τ).loc main_arg1) : FVec Ideal S1x4096x8192 .f32) i := by
  simp only [V, List.flatten_cons, List.flatten_nil, List.append_nil, List.cons_append, List.nil_append]
  after_reads_at

theorem read_x (c : Dev nD) (t : Fin cfg0.N) (r : Fin 1024) (x : Fin 4096) (i : Fin 10240) (h : i.val = (grid0.coords t 0).val * 1024 + r.val) :
    (iblk m c 0 t : FVec Ideal S1024x4096 .bf16) (ix2 r x) = (m ((c : Thread nD τ).loc main_arg0) : FVec Ideal S10240x4096 .bf16) (ix2 i x) := by
  obtain ⟨e0, e1, -, -, -, -⟩ := idx t
  rw [← V_main_arg0 m c]
  blk_ext [iblk, e0]

theorem read_w (c : Dev nD) (t : Fin cfg0.N) (x : Fin 4096) (n : Fin 512) (j : Fin 8192) (h : j.val = 0 + ((grid0.coords t 1).val * 512 + n.val)) :
    (iblk m c 1 t : FVec Ideal S1x4096x512 .bf16) (ix3 0 x n) = (m ((c : Thread nD τ).loc main_arg1) : FVec Ideal S1x4096x8192 .f32) (ix3 0 x j) := by
  obtain ⟨e0, e1, -, -, -, -⟩ := idx t
  rw [← weights m c]
  blk_ext [iblk, e1]

theorem gain (c : Dev nD) (d : Fin 128) :
    (V m c main_v2 : FVec Ideal S1x128 .f32) (ix2 0 d) = (m ((c : Thread nD τ).loc main_arg2) : FVec Ideal S1x128 .f32) (ix2 0 d) := by
  simp only [V, List.flatten_cons, List.flatten_nil, List.append_nil, List.cons_append, List.nil_append]
  after_reads_at

theorem read_g (c : Dev nD) (t : Fin cfg0.N) (d : Fin 128) :
    (iblk m c 2 t : FVec Ideal S1x128 .f32) (ix2 0 d) = (m ((c : Thread nD τ).loc main_arg2) : FVec Ideal S1x128 .f32) (ix2 0 d) := by
  obtain ⟨-, -, e2, -, -, -⟩ := idx t
  rw [← gain m c]
  blk_ext [iblk, e2]

/-- The four heads of a block, one after another. -/
theorem pay0 (v0 : FVec Ideal S1024x4096 .bf16) (v1 : FVec Ideal S1x4096x512 .bf16) (v4 : FVec Ideal S1x128 .f32) (r : Fin 1024) (d : Fin 128) :
    k0_pay5 (F := Ideal) v0 v1 v4 (ix2 r d) = scaled Heads.len eps (fun x : Fin 128 => entry v0 v1 r ⟨x.val, by omega⟩) (fun x : Fin 128 => v4 (ix2 0 x)) d := by
  pointwise [k0_pay5, k0_pay4, k0_pay3, entry, scaled]

theorem pay1 (v0 : FVec Ideal S1024x4096 .bf16) (v1 : FVec Ideal S1x4096x512 .bf16) (v4 : FVec Ideal S1x128 .f32) (r : Fin 1024) (d : Fin 128) :
    k0_pay6 (F := Ideal) v0 v1 v4 (ix2 r d) = scaled Heads.len eps (fun x : Fin 128 => entry v0 v1 r ⟨128 + x.val, by omega⟩) (fun x : Fin 128 => v4 (ix2 0 x)) d := by
  pointwise [k0_pay6, k0_pay4, k0_pay3, entry, scaled]

theorem pay2 (v0 : FVec Ideal S1024x4096 .bf16) (v1 : FVec Ideal S1x4096x512 .bf16) (v4 : FVec Ideal S1x128 .f32) (r : Fin 1024) (d : Fin 128) :
    k0_pay1 (F := Ideal) (k0_pay4 v4) (k0_pay7 v0 v1) (ix2 r d) = scaled Heads.len eps (fun x : Fin 128 => entry v0 v1 r ⟨256 + x.val, by omega⟩) (fun x : Fin 128 => v4 (ix2 0 x)) d := by
  pointwise [k0_pay1, k0_pay7, k0_pay4, k0_pay3, entry, scaled]

theorem pay3 (v0 : FVec Ideal S1024x4096 .bf16) (v1 : FVec Ideal S1x4096x512 .bf16) (v4 : FVec Ideal S1x128 .f32) (r : Fin 1024) (d : Fin 128) :
    k0_pay2 (F := Ideal) (k0_pay3 v0 v1) (k0_pay4 v4) (ix2 r d) = scaled Heads.len eps (fun x : Fin 128 => entry v0 v1 r ⟨384 + x.val, by omega⟩) (fun x : Fin 128 => v4 (ix2 0 x)) d := by
  pointwise [k0_pay2, k0_pay4, k0_pay3, entry, scaled]

/-- The whole result. -/
def whole (x : FVec Ideal S10240x4096 .bf16) (w : FVec Ideal S1x4096x8192 .f32) (g : FVec Ideal S1x128 .f32) (i : S10240x2048.Idx) : EReal :=
  Heads.headed 0 (by omega) x w g (i 0) (i 1)

/-- A block's head is the whole's. -/
theorem block (c : Dev nD) (t : Fin cfg0.N) (q : Nat) (p : Fin 128 → Fin 512) (hp : ∀ d, (p d).val = q * 128 + d.val) (r : Fin 1024) (d : Fin 128)
    (i : S10240x2048.Idx) (h0 : (i 0).val = (grid0.coords t 0).val * 1024 + r.val) (h1 : (i 1).val = (grid0.coords t 1).val * 512 + (q * 128 + d.val)) :
    scaled Heads.len eps (fun x : Fin 128 => entry (iblk m c 0 t : FVec Ideal S1024x4096 .bf16) (iblk m c 1 t : FVec Ideal S1x4096x512 .bf16) r (p x))
      (fun x : Fin 128 => (iblk m c 2 t : FVec Ideal S1x128 .f32) (ix2 0 x)) d
      = whole (m ((c : Thread nD τ).loc main_arg0)) (m ((c : Thread nD τ).loc main_arg1)) (m ((c : Thread nD τ).loc main_arg2)) i :=
  Heads.headed_block 0 (by omega) q (grid0.coords t 1).val p hp r d (i 0) (i 1) (fun j => read_x m c t r j _ h0)
    (fun j a k hk => read_w m c t j a k hk) (fun d => read_g m c t d) h1

theorem final (c : Dev nD) : (dats m 0 c).arrAt 3 (cfgs 0).N
    = whole (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3 k0_pay8
  frame_out
  canon_tiles x h
  · idx_vars x
    obtain ⟨-, -, -, e3, -, -⟩ := idx t
    refine (pay3 _ _ _ x0 x1).trans (block m c t 3 _ (fun d => rfl) x0 x1 _ ?_ ?_)
    · blk_simp [e3]; omega
    · blk_simp [e3]; omega
  · idx_vars x
    obtain ⟨-, -, -, e3, -, -⟩ := idx t
    refine (pay2 _ _ _ x0 x1).trans (block m c t 2 _ (fun d => rfl) x0 x1 _ ?_ ?_)
    · blk_simp [e3]; omega
    · blk_simp [e3]; omega
  · idx_vars x
    obtain ⟨-, -, -, e3, -, -⟩ := idx t
    refine (pay1 _ _ _ x0 x1).trans (block m c t 1 _ (fun d => rfl) x0 x1 _ ?_ ?_)
    · blk_simp [e3]; omega
    · blk_simp [e3]; omega
  · idx_vars x
    obtain ⟨-, -, -, e3, -, -⟩ := idx t
    refine (pay0 _ _ _ x0 x1).trans (block m c t 0 _ (fun d => by simp) x0 x1 _ ?_ ?_)
    · blk_simp [e3]; omega
    · blk_simp [e3]; omega

end Cert.AQueriesIdeal.Eq

namespace Cert.RefAQueriesIdeal.Eq

open Cert.RefAQueriesIdeal Cert.RefAQueriesIdeal.Gen Cert.Entries

/-- The heads of the product. -/
def split (x : FVec Ideal S10240x4096 .bf16) (w : FVec Ideal S1x4096x8192 .f32) : FVec Ideal S10240x16x128 .f32 :=
  shapeCast _ (extractStridedSlice S10240x2048 ![0, 0] (Host.dotGeneral dot_S10240x4096_S4096x8192_S10240x8192_1_0_0_1_n_n none (extf .f32 x bitsLt_bf16_f32) (shapeCast _ w shapeCasts_S1x4096x8192_S4096x8192)) slices_S10240x8192_S10240x2048_0_0) shapeCasts_S10240x2048_S10240x16x128

/-- Heads scaled, row by row. -/
def norm (s : FVec Ideal S10240x16x128 .f32) (g : FVec Ideal S1x128 .f32) : FVec Ideal S10240x16x128 .f32 :=
  mulf (mulf s (broadcastInDim S10240x16x128 ![0, 1, 2] bcast_S10240x16x1_S10240x16x128_0_1_2 (Host.rsqrt (addf (Host.divf (broadcastInDim S10240x16x1 ![0, 1] bcast_S10240x16_S10240x16x1_0_1 (Host.reduceAdd (mulf s s) (constant S_ .f32 0x00000000#32) reducesTo_S10240x16x128_S10240x16_d2 h_S_)) (broadcastInDim S10240x16x1 ![] bcast_S_S10240x16x1 (constant S_ .f32 0x43000000#32))) (broadcastInDim S10240x16x1 ![] bcast_S_S10240x16x1 (constant S_ .f32 0x358637BD#32)))))) (broadcastInDim S10240x16x128 ![0, 1, 2] bcast_S1x1x128_S10240x16x128_0_1_2 (broadcastInDim S1x1x128 ![2] bcast_S128_S1x1x128_2 (shapeCast _ g shapeCasts_S1x128_S128)))

/-- The reference's result. -/
def res (x : FVec Ideal S10240x4096 .bf16) (w : FVec Ideal S1x4096x8192 .f32) (g : FVec Ideal S1x128 .f32) : FVec Ideal S10240x2048 .bf16 :=
  truncf .bf16 (shapeCast _ (norm (split x w) g) shapeCasts_S10240x16x128_S10240x2048) bitsLt_bf16_f32

/-- Its entries. -/
theorem split_at (x : FVec Ideal S10240x4096 .bf16) (w : FVec Ideal S1x4096x8192 .f32) (r : Fin 10240) (h : Fin 16) (d : Fin 128) :
    split x w (ix3 r h d) = entry x w r ⟨0 + (h.val * 128 + d.val), by omega⟩ := by
  pointwise [split, entry]

/-- Its entries. -/
theorem norm_at (s : FVec Ideal S10240x16x128 .f32) (g : FVec Ideal S1x128 .f32) (r : Fin 10240) (h : Fin 16) (d : Fin 128) :
    norm s g (ix3 r h d) = scaled Heads.len eps (fun x : Fin 128 => s (ix3 r h x)) (fun x : Fin 128 => g (ix2 0 x)) d := by
  pointwise [norm, scaled]

/-- A column is an entry of its head. -/
theorem res_at (x : FVec Ideal S10240x4096 .bf16) (w : FVec Ideal S1x4096x8192 .f32) (g : FVec Ideal S1x128 .f32) (r : Fin 10240) (n : Fin 2048) :
    res x w g (ix2 r n) = norm (split x w) g (ix3 r ⟨n.val / 128, by omega⟩ ⟨n.val % 128, by omega⟩) := by
  pointwise [res]

theorem res_eq (x : FVec Ideal S10240x4096 .bf16) (w : FVec Ideal S1x4096x8192 .f32) (g : FVec Ideal S1x128 .f32) :
    res x w g = Cert.AQueriesIdeal.Eq.whole x w g := by
  funext i
  idx_vars i
  refine (res_at x w g i0 i1).trans ((norm_at _ g i0 _ _).trans (scaled_congr (fun d => split_at x w i0 _ d) (fun d => rfl) _))

end Cert.RefAQueriesIdeal.Eq

namespace Cert.AQueriesIdeal.Eq

/-- The kernel and the reference end with one result array. -/
theorem same : Cert.algebraic_AQueriesIdeal_RefAQueriesIdeal := by
  intro m g m' g' hp hm
  refine ⟨fun c => (Gen.dats m 0 c).arrAt 3 cfg0.N, Value.run_blocks (F := Ideal) m g, ?_⟩
  refine (θ_run Cert.RefAQueriesIdeal.defs _ _).mono (fun r h c => ⟨(h c).1.trans ?_, (h c).2⟩) (Cert.RefAQueriesIdeal.Value.run (F := Ideal) m' g')
  obtain ⟨e0, e1, e2⟩ := hm c
  refine (Cert.RefAQueriesIdeal.Eq.res_eq _ _ _).trans (Eq.trans ?_ (final m c).symm)
  rw [e0, e1, e2]

end Cert.AQueriesIdeal.Eq

end
-- ==== Proof.AKeysEq.lean ====
/-
  The band attention's keys: the kernel's blocks and the reference's result are the same scaled heads of one product.
-/
module

public import proofs.«01_k».proof.Defs
public import proofs.«01_k».proof.Proof.Entries
public import proofs.«01_k».proof.Proof.Heads
public import proofs.«01_k».proof.Proof.Gen.AKeysIdeal.Value
public import proofs.«01_k».proof.Proof.Gen.RefAKeysIdeal.Run
public import Idealize.ShloMosaic.Lib.StableHlo.Run
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.AKeysIdeal.Eq

open Cert.AKeysIdeal Cert.AKeysIdeal.Gen Cert.Entries

theorem idx : ∀ t : Fin cfg0.N, win0_0.index t = ![(grid0.coords t 0).val, 0] ∧ win0_1.index t = ![0, 0, 4 + (grid0.coords t 1).val]
    ∧ win0_2.index t = ![0, 0] ∧ win0_3.index t = ![(grid0.coords t 0).val, (grid0.coords t 1).val]
    ∧ (grid0.coords t 0).val < 10 ∧ (grid0.coords t 1).val < 4 :=
  (by decide +kernel : ∀ t : Fin grid0.N, _)

variable (m : (ℓ : Loc nD τ sig) → Buf (Elt Ideal) ℓ)

theorem weights (c : Dev nD) (i : S1x4096x8192.Idx) :
    (V m c main_v0 : FVec Ideal S1x4096x8192 .bf16) i = (m ((c : Thread nD τ).loc main_arg1) : FVec Ideal S1x4096x8192 .f32) i := by
  simp only [V, List.flatten_cons, List.flatten_nil, List.append_nil, List.cons_append, List.nil_append]
  after_reads_at

theorem read_x (c : Dev nD) (t : Fin cfg0.N) (r : Fin 1024) (x : Fin 4096) (i : Fin 10240) (h : i.val = (grid0.coords t 0).val * 1024 + r.val) :
    (iblk m c 0 t : FVec Ideal S1024x4096 .bf16) (ix2 r x) = (m ((c : Thread nD τ).loc main_arg0) : FVec Ideal S10240x4096 .bf16) (ix2 i x) := by
  obtain ⟨e0, e1, -, -, -, -⟩ := idx t
  rw [← V_main_arg0 m c]
  blk_ext [iblk, e0]

theorem read_w (c : Dev nD) (t : Fin cfg0.N) (x : Fin 4096) (n : Fin 512) (j : Fin 8192) (h : j.val = 2048 + ((grid0.coords t 1).val * 512 + n.val)) :
    (iblk m c 1 t : FVec Ideal S1x4096x512 .bf16) (ix3 0 x n) = (m ((c : Thread nD τ).loc main_arg1) : FVec Ideal S1x4096x8192 .f32) (ix3 0 x j) := by
  obtain ⟨e0, e1, -, -, -, -⟩ := idx t
  rw [← weights m c]
  blk_ext [iblk, e1]

theorem gain (c : Dev nD) (d : Fin 128) :
    (V m c main_v2 : FVec Ideal S1x128 .f32) (ix2 0 d) = (m ((c : Thread nD τ).loc main_arg2) : FVec Ideal S1x128 .f32) (ix2 0 d) := by
  simp only [V, List.flatten_cons, List.flatten_nil, List.append_nil, List.cons_append, List.nil_append]
  after_reads_at

theorem read_g (c : Dev nD) (t : Fin cfg0.N) (d : Fin 128) :
    (iblk m c 2 t : FVec Ideal S1x128 .f32) (ix2 0 d) = (m ((c : Thread nD τ).loc main_arg2) : FVec Ideal S1x128 .f32) (ix2 0 d) := by
  obtain ⟨-, -, e2, -, -, -⟩ := idx t
  rw [← gain m c]
  blk_ext [iblk, e2]

/-- The four heads of a block, one after another. -/
theorem pay0 (v0 : FVec Ideal S1024x4096 .bf16) (v1 : FVec Ideal S1x4096x512 .bf16) (v4 : FVec Ideal S1x128 .f32) (r : Fin 1024) (d : Fin 128) :
    k0_pay5 (F := Ideal) v0 v1 v4 (ix2 r d) = scaled Heads.len eps (fun x : Fin 128 => entry v0 v1 r ⟨x.val, by omega⟩) (fun x : Fin 128 => v4 (ix2 0 x)) d := by
  pointwise [k0_pay5, k0_pay4, k0_pay3, entry, scaled]

theorem pay1 (v0 : FVec Ideal S1024x4096 .bf16) (v1 : FVec Ideal S1x4096x512 .bf16) (v4 : FVec Ideal S1x128 .f32) (r : Fin 1024) (d : Fin 128) :
    k0_pay6 (F := Ideal) v0 v1 v4 (ix2 r d) = scaled Heads.len eps (fun x : Fin 128 => entry v0 v1 r ⟨128 + x.val, by omega⟩) (fun x : Fin 128 => v4 (ix2 0 x)) d := by
  pointwise [k0_pay6, k0_pay4, k0_pay3, entry, scaled]

theorem pay2 (v0 : FVec Ideal S1024x4096 .bf16) (v1 : FVec Ideal S1x4096x512 .bf16) (v4 : FVec Ideal S1x128 .f32) (r : Fin 1024) (d : Fin 128) :
    k0_pay1 (F := Ideal) (k0_pay4 v4) (k0_pay7 v0 v1) (k0_pay8 v0 v1) (ix2 r d) = scaled Heads.len eps (fun x : Fin 128 => entry v0 v1 r ⟨256 + x.val, by omega⟩) (fun x : Fin 128 => v4 (ix2 0 x)) d := by
  pointwise [k0_pay1, k0_pay7, k0_pay8, k0_pay4, k0_pay3, entry, scaled]

theorem pay3 (v0 : FVec Ideal S1024x4096 .bf16) (v1 : FVec Ideal S1x4096x512 .bf16) (v4 : FVec Ideal S1x128 .f32) (r : Fin 1024) (d : Fin 128) :
    k0_pay2 (F := Ideal) (k0_pay3 v0 v1) (k0_pay4 v4) (ix2 r d) = scaled Heads.len eps (fun x : Fin 128 => entry v0 v1 r ⟨384 + x.val, by omega⟩) (fun x : Fin 128 => v4 (ix2 0 x)) d := by
  pointwise [k0_pay2, k0_pay4, k0_pay3, entry, scaled]

/-- The whole result. -/
def whole (x : FVec Ideal S10240x4096 .bf16) (w : FVec Ideal S1x4096x8192 .f32) (g : FVec Ideal S1x128 .f32) (i : S10240x2048.Idx) : EReal :=
  Heads.headed 2048 (by omega) x w g (i 0) (i 1)

/-- A block's head is the whole's. -/
theorem block (c : Dev nD) (t : Fin cfg0.N) (q : Nat) (p : Fin 128 → Fin 512) (hp : ∀ d, (p d).val = q * 128 + d.val) (r : Fin 1024) (d : Fin 128)
    (i : S10240x2048.Idx) (h0 : (i 0).val = (grid0.coords t 0).val * 1024 + r.val) (h1 : (i 1).val = (grid0.coords t 1).val * 512 + (q * 128 + d.val)) :
    scaled Heads.len eps (fun x : Fin 128 => entry (iblk m c 0 t : FVec Ideal S1024x4096 .bf16) (iblk m c 1 t : FVec Ideal S1x4096x512 .bf16) r (p x))
      (fun x : Fin 128 => (iblk m c 2 t : FVec Ideal S1x128 .f32) (ix2 0 x)) d
      = whole (m ((c : Thread nD τ).loc main_arg0)) (m ((c : Thread nD τ).loc main_arg1)) (m ((c : Thread nD τ).loc main_arg2)) i :=
  Heads.headed_block 2048 (by omega) q (grid0.coords t 1).val p hp r d (i 0) (i 1) (fun j => read_x m c t r j _ h0)
    (fun j a k hk => read_w m c t j a k hk) (fun d => read_g m c t d) h1

theorem final (c : Dev nD) : (dats m 0 c).arrAt 3 (cfgs 0).N
    = whole (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3 k0_pay9
  frame_out
  canon_tiles x h
  · idx_vars x
    obtain ⟨-, -, -, e3, -, -⟩ := idx t
    refine (pay3 _ _ _ x0 x1).trans (block m c t 3 _ (fun d => rfl) x0 x1 _ ?_ ?_)
    · blk_simp [e3]; omega
    · blk_simp [e3]; omega
  · idx_vars x
    obtain ⟨-, -, -, e3, -, -⟩ := idx t
    refine (pay2 _ _ _ x0 x1).trans (block m c t 2 _ (fun d => rfl) x0 x1 _ ?_ ?_)
    · blk_simp [e3]; omega
    · blk_simp [e3]; omega
  · idx_vars x
    obtain ⟨-, -, -, e3, -, -⟩ := idx t
    refine (pay1 _ _ _ x0 x1).trans (block m c t 1 _ (fun d => rfl) x0 x1 _ ?_ ?_)
    · blk_simp [e3]; omega
    · blk_simp [e3]; omega
  · idx_vars x
    obtain ⟨-, -, -, e3, -, -⟩ := idx t
    refine (pay0 _ _ _ x0 x1).trans (block m c t 0 _ (fun d => by simp) x0 x1 _ ?_ ?_)
    · blk_simp [e3]; omega
    · blk_simp [e3]; omega

end Cert.AKeysIdeal.Eq

namespace Cert.RefAKeysIdeal.Eq

open Cert.RefAKeysIdeal Cert.RefAKeysIdeal.Gen Cert.Entries

/-- The heads of the product. -/
def split (x : FVec Ideal S10240x4096 .bf16) (w : FVec Ideal S1x4096x8192 .f32) : FVec Ideal S10240x16x128 .f32 :=
  shapeCast _ (extractStridedSlice S10240x2048 ![0, 2048] (Host.dotGeneral dot_S10240x4096_S4096x8192_S10240x8192_1_0_0_1_n_n none (extf .f32 x bitsLt_bf16_f32) (shapeCast _ w shapeCasts_S1x4096x8192_S4096x8192)) slices_S10240x8192_S10240x2048_0_2048) shapeCasts_S10240x2048_S10240x16x128

/-- Heads scaled, row by row. -/
def norm (s : FVec Ideal S10240x16x128 .f32) (g : FVec Ideal S1x128 .f32) : FVec Ideal S10240x16x128 .f32 :=
  mulf (mulf s (broadcastInDim S10240x16x128 ![0, 1, 2] bcast_S10240x16x1_S10240x16x128_0_1_2 (Host.rsqrt (addf (Host.divf (broadcastInDim S10240x16x1 ![0, 1] bcast_S10240x16_S10240x16x1_0_1 (Host.reduceAdd (mulf s s) (constant S_ .f32 0x00000000#32) reducesTo_S10240x16x128_S10240x16_d2 h_S_)) (broadcastInDim S10240x16x1 ![] bcast_S_S10240x16x1 (constant S_ .f32 0x43000000#32))) (broadcastInDim S10240x16x1 ![] bcast_S_S10240x16x1 (constant S_ .f32 0x358637BD#32)))))) (broadcastInDim S10240x16x128 ![0, 1, 2] bcast_S1x1x128_S10240x16x128_0_1_2 (broadcastInDim S1x1x128 ![2] bcast_S128_S1x1x128_2 (shapeCast _ g shapeCasts_S1x128_S128)))

/-- The reference's result. -/
def res (x : FVec Ideal S10240x4096 .bf16) (w : FVec Ideal S1x4096x8192 .f32) (g : FVec Ideal S1x128 .f32) : FVec Ideal S10240x2048 .f32 :=
  shapeCast _ (norm (split x w) g) shapeCasts_S10240x16x128_S10240x2048

/-- Its entries. -/
theorem split_at (x : FVec Ideal S10240x4096 .bf16) (w : FVec Ideal S1x4096x8192 .f32) (r : Fin 10240) (h : Fin 16) (d : Fin 128) :
    split x w (ix3 r h d) = entry x w r ⟨2048 + (h.val * 128 + d.val), by omega⟩ := by
  pointwise [split, entry]

/-- Its entries. -/
theorem norm_at (s : FVec Ideal S10240x16x128 .f32) (g : FVec Ideal S1x128 .f32) (r : Fin 10240) (h : Fin 16) (d : Fin 128) :
    norm s g (ix3 r h d) = scaled Heads.len eps (fun x : Fin 128 => s (ix3 r h x)) (fun x : Fin 128 => g (ix2 0 x)) d := by
  pointwise [norm, scaled]

/-- A column is an entry of its head. -/
theorem res_at (x : FVec Ideal S10240x4096 .bf16) (w : FVec Ideal S1x4096x8192 .f32) (g : FVec Ideal S1x128 .f32) (r : Fin 10240) (n : Fin 2048) :
    res x w g (ix2 r n) = norm (split x w) g (ix3 r ⟨n.val / 128, by omega⟩ ⟨n.val % 128, by omega⟩) := by
  pointwise [res]

theorem res_eq (x : FVec Ideal S10240x4096 .bf16) (w : FVec Ideal S1x4096x8192 .f32) (g : FVec Ideal S1x128 .f32) :
    res x w g = Cert.AKeysIdeal.Eq.whole x w g := by
  funext i
  idx_vars i
  refine (res_at x w g i0 i1).trans ((norm_at _ g i0 _ _).trans (scaled_congr (fun d => split_at x w i0 _ d) (fun d => rfl) _))

end Cert.RefAKeysIdeal.Eq

namespace Cert.AKeysIdeal.Eq

/-- The kernel and the reference end with one result array. -/
theorem same : Cert.algebraic_AKeysIdeal_RefAKeysIdeal := by
  intro m g m' g' hp hm
  refine ⟨fun c => (Gen.dats m 0 c).arrAt 3 cfg0.N, Value.run_blocks (F := Ideal) m g, ?_⟩
  refine (θ_run Cert.RefAKeysIdeal.defs _ _).mono (fun r h c => ⟨(h c).1.trans ?_, (h c).2⟩) (Cert.RefAKeysIdeal.Value.run (F := Ideal) m' g')
  obtain ⟨e0, e1, e2⟩ := hm c
  refine (Cert.RefAKeysIdeal.Eq.res_eq _ _ _).trans (Eq.trans ?_ (final m c).symm)
  rw [e0, e1, e2]

end Cert.AKeysIdeal.Eq

end
-- ==== Proof.AValuesEq.lean ====
/-
  The attention values: the kernel's blocks and the reference's result are the same entries of one product.
-/
module

public import proofs.«01_k».proof.Defs
public import proofs.«01_k».proof.Proof.Entries
public import proofs.«01_k».proof.Proof.Gen.AValuesIdeal.Value
public import proofs.«01_k».proof.Proof.Gen.RefAValuesIdeal.Run
public import Idealize.ShloMosaic.Lib.StableHlo.Run
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.AValuesIdeal.Eq

open Cert.AValuesIdeal Cert.AValuesIdeal.Gen Cert.Entries

theorem idx : ∀ t : Fin cfg0.N, win0_0.index t = ![(grid0.coords t 0).val, 0] ∧ win0_1.index t = ![0, 0, 8 + (grid0.coords t 1).val]
    ∧ win0_2.index t = ![(grid0.coords t 0).val, (grid0.coords t 1).val] ∧ (grid0.coords t 0).val < 10 ∧ (grid0.coords t 1).val < 4 :=
  (by decide +kernel : ∀ t : Fin grid0.N, _)

variable (m : (ℓ : Loc nD τ sig) → Buf (Elt Ideal) ℓ)

theorem weights (c : Dev nD) (i : S1x4096x8192.Idx) :
    (V m c main_v0 : FVec Ideal S1x4096x8192 .bf16) i = (m ((c : Thread nD τ).loc main_arg1) : FVec Ideal S1x4096x8192 .f32) i := by
  simp only [V, List.flatten_cons, List.flatten_nil, List.append_nil, List.cons_append, List.nil_append]
  after_reads_at

theorem read_x (c : Dev nD) (t : Fin cfg0.N) (r : Fin 1024) (x : Fin 4096) (i : Fin 10240) (h : i.val = (grid0.coords t 0).val * 1024 + r.val) :
    (iblk m c 0 t : FVec Ideal S1024x4096 .bf16) (ix2 r x) = (m ((c : Thread nD τ).loc main_arg0) : FVec Ideal S10240x4096 .bf16) (ix2 i x) := by
  obtain ⟨e0, e1, e2, -, -⟩ := idx t
  rw [← V_main_arg0 m c]
  blk_ext [iblk, e0]

theorem read_w (c : Dev nD) (t : Fin cfg0.N) (x : Fin 4096) (n : Fin 512) (j : Fin 8192) (h : j.val = (8 + (grid0.coords t 1).val) * 512 + n.val) :
    (iblk m c 1 t : FVec Ideal S1x4096x512 .bf16) (ix3 0 x n) = (m ((c : Thread nD τ).loc main_arg1) : FVec Ideal S1x4096x8192 .f32) (ix3 0 x j) := by
  obtain ⟨e0, e1, e2, -, -⟩ := idx t
  rw [← weights m c]
  blk_ext [iblk, e1]

theorem pay (v0 : FVec Ideal S1024x4096 .bf16) (v1 : FVec Ideal S1x4096x512 .bf16) (r : Fin 1024) (n : Fin 512) :
    k0_pay1 (F := Ideal) v0 v1 (ix2 r n) = entry v0 v1 r n := by
  pointwise [k0_pay1, entry]

/-- The whole result. -/
def whole (x : FVec Ideal S10240x4096 .bf16) (w : FVec Ideal S1x4096x8192 .f32) (i : S10240x2048.Idx) : EReal :=
  entry x w (i 0) ⟨4096 + (i 1).val, by have := (i 1).isLt; show 4096 + (i 1).val < 8192; change (i 1).val < 2048 at this; omega⟩

theorem final (c : Dev nD) : (dats m 0 c).arrAt 2 (cfgs 0).N = whole (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  idx_vars y
  obtain ⟨e0, e1, e2, h0, h1⟩ := idx t
  refine (pay _ _ y0 y1).trans (entry_block (fun j => read_x m c t y0 j _ ?_) (fun j => read_w m c t j y1 _ ?_))
  · blk_simp [e2]
  · blk_simp [e2]; show 4096 + ((grid0.coords t 1).val * 512 + y1.val) = _; omega

end Cert.AValuesIdeal.Eq

namespace Cert.RefAValuesIdeal.Eq

open Cert.RefAValuesIdeal Cert.RefAValuesIdeal.Gen Cert.Entries

/-- The reference's result. -/
def res (x : FVec Ideal S10240x4096 .bf16) (w : FVec Ideal S1x4096x8192 .f32) : FVec Ideal S10240x2048 .f32 :=
  extractStridedSlice S10240x2048 ![0, 4096] (Host.dotGeneral dot_S10240x4096_S4096x8192_S10240x8192_1_0_0_1_n_n none (extf .f32 x bitsLt_bf16_f32) (shapeCast _ w shapeCasts_S1x4096x8192_S4096x8192)) slices_S10240x8192_S10240x2048_0_4096

theorem res_eq (x : FVec Ideal S10240x4096 .bf16) (w : FVec Ideal S1x4096x8192 .f32) : res x w = Cert.AValuesIdeal.Eq.whole x w := by
  funext i
  idx_vars i
  pointwise [res, Cert.AValuesIdeal.Eq.whole, entry]

end Cert.RefAValuesIdeal.Eq

namespace Cert.AValuesIdeal.Eq

/-- The kernel and the reference end with one result array. -/
theorem same : Cert.algebraic_AValuesIdeal_RefAValuesIdeal := by
  intro m g m' g' hp hm
  refine ⟨fun c => (Gen.dats m 0 c).arrAt 2 cfg0.N, Value.run_blocks (F := Ideal) m g, ?_⟩
  refine (θ_run Cert.RefAValuesIdeal.defs _ _).mono (fun r h c => ⟨(h c).1.trans ?_, (h c).2⟩) (Cert.RefAValuesIdeal.Value.run (F := Ideal) m' g')
  obtain ⟨e0, e1⟩ := hm c
  refine (Cert.RefAValuesIdeal.Eq.res_eq _ _).trans (Eq.trans ?_ (final m c).symm)
  rw [e0, e1]

end Cert.AValuesIdeal.Eq

end
-- ==== Proof.BInputsEq.lean ====
/-
  The pooling inputs: the kernel's blocks and the reference's result are the same entries of one product.
-/
module

public import proofs.«01_k».proof.Defs
public import proofs.«01_k».proof.Proof.Entries
public import proofs.«01_k».proof.Proof.Gen.BInputsIdeal.Value
public import proofs.«01_k».proof.Proof.Gen.RefBInputsIdeal.Run
public import Idealize.ShloMosaic.Lib.StableHlo.Run
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.BInputsIdeal.Eq

open Cert.BInputsIdeal Cert.BInputsIdeal.Gen Cert.Entries

theorem idx : ∀ t : Fin cfg0.N, win0_0.index t = ![(grid0.coords t 0).val, 0] ∧ win0_1.index t = ![0, 0, 12 + (grid0.coords t 1).val]
    ∧ win0_2.index t = ![(grid0.coords t 0).val, (grid0.coords t 1).val] ∧ (grid0.coords t 0).val < 10 ∧ (grid0.coords t 1).val < 4 :=
  (by decide +kernel : ∀ t : Fin grid0.N, _)

variable (m : (ℓ : Loc nD τ sig) → Buf (Elt Ideal) ℓ)

theorem weights (c : Dev nD) (i : S1x4096x8192.Idx) :
    (V m c main_v0 : FVec Ideal S1x4096x8192 .bf16) i = (m ((c : Thread nD τ).loc main_arg1) : FVec Ideal S1x4096x8192 .f32) i := by
  simp only [V, List.flatten_cons, List.flatten_nil, List.append_nil, List.cons_append, List.nil_append]
  after_reads_at

theorem read_x (c : Dev nD) (t : Fin cfg0.N) (r : Fin 1024) (x : Fin 4096) (i : Fin 10240) (h : i.val = (grid0.coords t 0).val * 1024 + r.val) :
    (iblk m c 0 t : FVec Ideal S1024x4096 .bf16) (ix2 r x) = (m ((c : Thread nD τ).loc main_arg0) : FVec Ideal S10240x4096 .bf16) (ix2 i x) := by
  obtain ⟨e0, e1, e2, -, -⟩ := idx t
  rw [← V_main_arg0 m c]
  blk_ext [iblk, e0]

theorem read_w (c : Dev nD) (t : Fin cfg0.N) (x : Fin 4096) (n : Fin 512) (j : Fin 8192) (h : j.val = (12 + (grid0.coords t 1).val) * 512 + n.val) :
    (iblk m c 1 t : FVec Ideal S1x4096x512 .bf16) (ix3 0 x n) = (m ((c : Thread nD τ).loc main_arg1) : FVec Ideal S1x4096x8192 .f32) (ix3 0 x j) := by
  obtain ⟨e0, e1, e2, -, -⟩ := idx t
  rw [← weights m c]
  blk_ext [iblk, e1]

theorem pay (v0 : FVec Ideal S1024x4096 .bf16) (v1 : FVec Ideal S1x4096x512 .bf16) (r : Fin 1024) (n : Fin 512) :
    k0_pay1 (F := Ideal) v0 v1 (ix2 r n) = entry v0 v1 r n := by
  pointwise [k0_pay1, entry]

/-- The whole result. -/
def whole (x : FVec Ideal S10240x4096 .bf16) (w : FVec Ideal S1x4096x8192 .f32) (i : S10240x2048.Idx) : EReal :=
  entry x w (i 0) ⟨6144 + (i 1).val, by have := (i 1).isLt; show 6144 + (i 1).val < 8192; change (i 1).val < 2048 at this; omega⟩

theorem final (c : Dev nD) : (dats m 0 c).arrAt 2 (cfgs 0).N = whole (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  idx_vars y
  obtain ⟨e0, e1, e2, h0, h1⟩ := idx t
  refine (pay _ _ y0 y1).trans (entry_block (fun j => read_x m c t y0 j _ ?_) (fun j => read_w m c t j y1 _ ?_))
  · blk_simp [e2]
  · blk_simp [e2]; show 6144 + ((grid0.coords t 1).val * 512 + y1.val) = _; omega

end Cert.BInputsIdeal.Eq

namespace Cert.RefBInputsIdeal.Eq

open Cert.RefBInputsIdeal Cert.RefBInputsIdeal.Gen Cert.Entries

/-- The reference's result. -/
def res (x : FVec Ideal S10240x4096 .bf16) (w : FVec Ideal S1x4096x8192 .f32) : FVec Ideal S10240x2048 .f32 :=
  extractStridedSlice S10240x2048 ![0, 6144] (Host.dotGeneral dot_S10240x4096_S4096x8192_S10240x8192_1_0_0_1_n_n none (extf .f32 x bitsLt_bf16_f32) (shapeCast _ w shapeCasts_S1x4096x8192_S4096x8192)) slices_S10240x8192_S10240x2048_0_6144

theorem res_eq (x : FVec Ideal S10240x4096 .bf16) (w : FVec Ideal S1x4096x8192 .f32) : res x w = Cert.BInputsIdeal.Eq.whole x w := by
  funext i
  idx_vars i
  pointwise [res, Cert.BInputsIdeal.Eq.whole, entry]

end Cert.RefBInputsIdeal.Eq

namespace Cert.BInputsIdeal.Eq

/-- The kernel and the reference end with one result array. -/
theorem same : Cert.algebraic_BInputsIdeal_RefBInputsIdeal := by
  intro m g m' g' hp hm
  refine ⟨fun c => (Gen.dats m 0 c).arrAt 2 cfg0.N, Value.run_blocks (F := Ideal) m g, ?_⟩
  refine (θ_run Cert.RefBInputsIdeal.defs _ _).mono (fun r h c => ⟨(h c).1.trans ?_, (h c).2⟩) (Cert.RefBInputsIdeal.Value.run (F := Ideal) m' g')
  obtain ⟨e0, e1⟩ := hm c
  refine (Cert.RefBInputsIdeal.Eq.res_eq _ _).trans (Eq.trans ?_ (final m c).symm)
  rw [e0, e1]

end Cert.BInputsIdeal.Eq

end
-- ==== Proof.AOutputEq.lean ====
/-
  The output projection of the band attention and the pooling, added to the stream: the kernel multiplies the two parts
  by the two halves of the weights, the reference the parts side by side by the whole; the sums are the same.
-/
module

public import proofs.«01_k».proof.Defs
public import proofs.«01_k».proof.Proof.Entries
public import proofs.«01_k».proof.Proof.Gen.AOutputIdeal.Value
public import proofs.«01_k».proof.Proof.Gen.RefAOutputIdeal.Run
public import Idealize.ShloMosaic.Lib.StableHlo.Run
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.AOutputIdeal.Eq

open Cert.AOutputIdeal Cert.AOutputIdeal.Gen Cert.Entries

theorem idx : ∀ t : Fin cfg0.N, win0_0.index t = ![(grid0.coords t 0).val, 0] ∧ win0_1.index t = ![0, 0, (grid0.coords t 1).val]
    ∧ win0_2.index t = ![(grid0.coords t 0).val, 0] ∧ win0_3.index t = ![(grid0.coords t 0).val, (grid0.coords t 1).val]
    ∧ win0_4.index t = ![(grid0.coords t 0).val, (grid0.coords t 1).val] ∧ (grid0.coords t 0).val < 10 ∧ (grid0.coords t 1).val < 8 :=
  (by decide +kernel : ∀ t : Fin grid0.N, _)

variable (m : (ℓ : Loc nD τ sig) → Buf (Elt Ideal) ℓ)

theorem weights (c : Dev nD) (i : S1x4096x4096.Idx) :
    (V m c main_v0 : FVec Ideal S1x4096x4096 .bf16) i = (m ((c : Thread nD τ).loc main_arg2) : FVec Ideal S1x4096x4096 .f32) i := by
  simp only [V, List.flatten_cons, List.flatten_nil, List.append_nil, List.cons_append, List.nil_append]
  after_reads_at

theorem read_x (c : Dev nD) (t : Fin cfg0.N) (r : Fin 1024) (x : Fin 2048) (i : Fin 10240) (h : i.val = (grid0.coords t 0).val * 1024 + r.val) :
    (iblk m c 0 t : FVec Ideal S1024x2048 .bf16) (ix2 r x) = (m ((c : Thread nD τ).loc main_arg0) : FVec Ideal S10240x2048 .bf16) (ix2 i x) := by
  obtain ⟨e0, e1, e2, e3, e4, -, -⟩ := idx t
  rw [← V_main_arg0 m c]
  blk_ext [iblk, e0]

theorem read_y (c : Dev nD) (t : Fin cfg0.N) (r : Fin 1024) (x : Fin 2048) (i : Fin 10240) (h : i.val = (grid0.coords t 0).val * 1024 + r.val) :
    (iblk m c 2 t : FVec Ideal S1024x2048 .bf16) (ix2 r x) = (m ((c : Thread nD τ).loc main_arg1) : FVec Ideal S10240x2048 .bf16) (ix2 i x) := by
  obtain ⟨e0, e1, e2, e3, e4, -, -⟩ := idx t
  rw [← V_main_arg1 m c]
  blk_ext [iblk, e2]

theorem read_w (c : Dev nD) (t : Fin cfg0.N) (x : Fin 4096) (n : Fin 512) (j : Fin 4096) (h : j.val = (grid0.coords t 1).val * 512 + n.val) :
    (iblk m c 1 t : FVec Ideal S1x4096x512 .bf16) (ix3 0 x n) = (m ((c : Thread nD τ).loc main_arg2) : FVec Ideal S1x4096x4096 .f32) (ix3 0 x j) := by
  obtain ⟨e0, e1, e2, e3, e4, -, -⟩ := idx t
  rw [← weights m c]
  blk_ext [iblk, e1]

theorem read_h (c : Dev nD) (t : Fin cfg0.N) (r : Fin 1024) (n : Fin 512) (i : S10240x4096.Idx) (h : (i 0).val = (grid0.coords t 0).val * 1024 + r.val)
    (h' : (i 1).val = (grid0.coords t 1).val * 512 + n.val) :
    (iblk m c 3 t : FVec Ideal S1024x512 .f32) (ix2 r n) = (m ((c : Thread nD τ).loc main_arg3) : FVec Ideal S10240x4096 .f32) i := by
  obtain ⟨e0, e1, e2, e3, e4, -, -⟩ := idx t
  rw [← V_main_arg3 m c]
  blk_ext [iblk, e3]

/-- Half of the weights' rows of a block. -/
theorem half (X : S1x4096x512.Idx → Elt Ideal .bf16) (o : Nat) (ho : o + 2048 ≤ 4096) (inb) (r : Fin 2048) (x : Fin 512) :
    View.ld X (Rect.unit (s := S1x4096x512) ![0, o, 0] ![1, 2048, 512] inb) (ix3 0 r x) = X (ix3 0 ⟨o + r.val, by omega⟩ x) :=
  View.ld_unit_apply_of X _ _ inb (ix3 0 r x) _ (fun a => by fin_cases a <;> simp)

/-- The first half. -/
theorem half_zero (X : S1x4096x512.Idx → Elt Ideal .bf16) (inb) (r : Fin 2048) (x : Fin 512) :
    View.ld X (Rect.unit (s := S1x4096x512) ![0, 0, 0] ![1, 2048, 512] inb) (ix3 0 r x) = X (ix3 0 ⟨r.val, by omega⟩ x) :=
  (half X 0 (by omega) inb r x).trans (congrArg X (congrArg (fun z => ix3 0 z x) (Fin.ext (Nat.zero_add r.val))))

theorem pay (v0 : FVec Ideal S1024x2048 .bf16) (v1 : FVec Ideal S1x2048x512 .bf16) (v4 : FVec Ideal S1024x2048 .bf16) (v5 : FVec Ideal S1x2048x512 .bf16)
    (v9 : FVec Ideal S1024x512 .f32) (r : Fin 1024) (n : Fin 512) :
    k0_pay1 (F := Ideal) v0 v1 v4 v5 v9 (ix2 r n) = v9 (ix2 r n) + (entry v0 v1 r n + entry v4 v5 r n) := by
  pointwise [k0_pay1, entry]

/-- The whole result. -/
def whole (x y : FVec Ideal S10240x2048 .bf16) (w : FVec Ideal S1x4096x4096 .f32) (h : FVec Ideal S10240x4096 .f32) (i : S10240x4096.Idx) : EReal :=
  h i + (∑ j : Fin 2048, x (ix2 (i 0) j) * w (ix3 0 ⟨j.val, by omega⟩ (i 1)) + ∑ j : Fin 2048, y (ix2 (i 0) j) * w (ix3 0 ⟨2048 + j.val, by omega⟩ (i 1)))

theorem final (c : Dev nD) : (dats m 0 c).arrAt 4 (cfgs 0).N
    = whole (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold out0_4
  frame_out
  idx_vars y
  obtain ⟨e0, e1, e2, e3, e4, h0, h1⟩ := idx t
  refine (pay _ _ _ _ _ y0 y1).trans (congrArg₂ _ (read_h m c t y0 y1 _ ?_ ?_) (congrArg₂ _
    (Finset.sum_congr rfl fun j _ => congrArg₂ _ (read_x m c t y0 j _ ?_) ((half_zero _ _ j y1).trans (read_w m c t _ y1 _ ?_)))
    (Finset.sum_congr rfl fun j _ => congrArg₂ _ (read_y m c t y0 j _ ?_) ((half _ 2048 (by omega) _ j y1).trans (read_w m c t _ y1 _ ?_)))))
  all_goals blk_simp [e4]

end Cert.AOutputIdeal.Eq

namespace Cert.RefAOutputIdeal.Eq

open Cert.RefAOutputIdeal Cert.RefAOutputIdeal.Gen Cert.Entries

/-- The two parts side by side. -/
def both (x y : FVec Ideal S10240x2048 .bf16) : FVec Ideal S10240x4096 .f32 :=
  concatenate S10240x4096 1 [⟨S10240x2048, (extf .f32 x bitsLt_bf16_f32)⟩, ⟨S10240x2048, (extf .f32 y bitsLt_bf16_f32)⟩] concatenates_S10240x2048_S10240x2048_S10240x4096_d1

/-- The reference's result. -/
def res (x y : FVec Ideal S10240x2048 .bf16) (w : FVec Ideal S1x4096x4096 .f32) (h : FVec Ideal S10240x4096 .f32) : FVec Ideal S10240x4096 .f32 :=
  addf h (Host.dotGeneral dot_S10240x4096_S4096x4096_S10240x4096_1_0_0_1_n_n none (both x y) (shapeCast _ w shapeCasts_S1x4096x4096_S4096x4096))

theorem both_left (x y : FVec Ideal S10240x2048 .bf16) (r : Fin 10240) (j : Fin 2048) : both x y (ix2 r ⟨j.val, by omega⟩) = x (ix2 r j) := by
  pointwise [both]

theorem both_right (x y : FVec Ideal S10240x2048 .bf16) (r : Fin 10240) (j : Fin 2048) : both x y (ix2 r ⟨2048 + j.val, by omega⟩) = y (ix2 r j) := by
  pointwise [both]

theorem res_at (x y : FVec Ideal S10240x2048 .bf16) (w : FVec Ideal S1x4096x4096 .f32) (h : FVec Ideal S10240x4096 .f32) (r : Fin 10240) (n : Fin 4096) :
    res x y w h (ix2 r n) = h (ix2 r n) + ∑ j : Fin 4096, both x y (ix2 r j) * w (ix3 0 j n) := by
  pointwise [res]

theorem res_eq (x y : FVec Ideal S10240x2048 .bf16) (w : FVec Ideal S1x4096x4096 .f32) (h : FVec Ideal S10240x4096 .f32) :
    res x y w h = Cert.AOutputIdeal.Eq.whole x y w h := by
  funext i
  idx_vars i
  rw [res_at]
  refine congrArg _ ((Fin.sum_univ_add (a := 2048) (b := 2048) (fun j : Fin 4096 => both x y (ix2 i0 j) * w (ix3 0 j i1))).trans (congrArg₂ _ ?_ ?_))
  · exact Finset.sum_congr rfl fun j _ => congrArg (· * _) (both_left x y i0 j)
  · exact Finset.sum_congr rfl fun j _ => congrArg (· * _) (both_right x y i0 j)

end Cert.RefAOutputIdeal.Eq

namespace Cert.AOutputIdeal.Eq

/-- The kernel and the reference end with one result array. -/
theorem same : Cert.algebraic_AOutputIdeal_RefAOutputIdeal := by
  intro m g m' g' hp hm
  refine ⟨fun c => (Gen.dats m 0 c).arrAt 4 cfg0.N, Value.run_blocks (F := Ideal) m g, ?_⟩
  refine (θ_run Cert.RefAOutputIdeal.defs _ _).mono (fun r h c => ⟨(h c).1.trans ?_, (h c).2⟩) (Cert.RefAOutputIdeal.Value.run (F := Ideal) m' g')
  obtain ⟨e0, e1, e2, e3⟩ := hm c
  refine (Cert.RefAOutputIdeal.Eq.res_eq _ _ _ _).trans (Eq.trans ?_ (final m c).symm)
  rw [e0, e1, e2, e3]

end Cert.AOutputIdeal.Eq

end
-- ==== Proof.COutputEq.lean ====
/-
  The output projection of the stick-breaking attention, added to the stream: the kernel's blocks and the reference's
  result are the same entries.
-/
module

public import proofs.«01_k».proof.Defs
public import proofs.«01_k».proof.Proof.Entries
public import proofs.«01_k».proof.Proof.Gen.COutputIdeal.Value
public import proofs.«01_k».proof.Proof.Gen.RefCOutputIdeal.Run
public import Idealize.ShloMosaic.Lib.StableHlo.Run
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.COutputIdeal.Eq

open Cert.COutputIdeal Cert.COutputIdeal.Gen Cert.Entries

theorem idx : ∀ t : Fin cfg0.N, win0_0.index t = ![(grid0.coords t 0).val, 0] ∧ win0_1.index t = ![0, 0, (grid0.coords t 1).val]
    ∧ win0_2.index t = ![(grid0.coords t 0).val, (grid0.coords t 1).val] ∧ win0_3.index t = ![(grid0.coords t 0).val, (grid0.coords t 1).val]
    ∧ (grid0.coords t 0).val < 10 ∧ (grid0.coords t 1).val < 8 :=
  (by decide +kernel : ∀ t : Fin grid0.N, _)

variable (m : (ℓ : Loc nD τ sig) → Buf (Elt Ideal) ℓ)

theorem weights (c : Dev nD) (i : S1x4096x4096.Idx) :
    (V m c main_v0 : FVec Ideal S1x4096x4096 .bf16) i = (m ((c : Thread nD τ).loc main_arg1) : FVec Ideal S1x4096x4096 .f32) i := by
  simp only [V, List.flatten_cons, List.flatten_nil, List.append_nil, List.cons_append, List.nil_append]
  after_reads_at

theorem read_x (c : Dev nD) (t : Fin cfg0.N) (r : Fin 1024) (x : Fin 4096) (i : Fin 10240) (h : i.val = (grid0.coords t 0).val * 1024 + r.val) :
    (iblk m c 0 t : FVec Ideal S1024x4096 .bf16) (ix2 r x) = (m ((c : Thread nD τ).loc main_arg0) : FVec Ideal S10240x4096 .bf16) (ix2 i x) := by
  obtain ⟨e0, e1, e2, e3, -, -⟩ := idx t
  rw [← V_main_arg0 m c]
  blk_ext [iblk, e0]

theorem read_w (c : Dev nD) (t : Fin cfg0.N) (x : Fin 4096) (n : Fin 512) (j : Fin 4096) (h : j.val = (grid0.coords t 1).val * 512 + n.val) :
    (iblk m c 1 t : FVec Ideal S1x4096x512 .bf16) (ix3 0 x n) = (m ((c : Thread nD τ).loc main_arg1) : FVec Ideal S1x4096x4096 .f32) (ix3 0 x j) := by
  obtain ⟨e0, e1, e2, e3, -, -⟩ := idx t
  rw [← weights m c]
  blk_ext [iblk, e1]

theorem read_h (c : Dev nD) (t : Fin cfg0.N) (r : Fin 1024) (n : Fin 512) (i : S10240x4096.Idx) (h : (i 0).val = (grid0.coords t 0).val * 1024 + r.val)
    (h' : (i 1).val = (grid0.coords t 1).val * 512 + n.val) :
    (iblk m c 2 t : FVec Ideal S1024x512 .f32) (ix2 r n) = (m ((c : Thread nD τ).loc main_arg2) : FVec Ideal S10240x4096 .f32) i := by
  obtain ⟨e0, e1, e2, e3, -, -⟩ := idx t
  rw [← V_main_arg2 m c]
  blk_ext [iblk, e2]

theorem pay (v0 : FVec Ideal S1024x4096 .bf16) (v1 : FVec Ideal S1x4096x512 .bf16) (v4 : FVec Ideal S1024x512 .f32) (r : Fin 1024) (n : Fin 512) :
    k0_pay1 (F := Ideal) v0 v1 v4 (ix2 r n) = v4 (ix2 r n) + entry v0 v1 r n := by
  pointwise [k0_pay1, entry]

/-- The whole result. -/
def whole (x : FVec Ideal S10240x4096 .bf16) (w : FVec Ideal S1x4096x4096 .f32) (h : FVec Ideal S10240x4096 .f32) (i : S10240x4096.Idx) : EReal :=
  h i + entry x w (i 0) (i 1)

theorem final (c : Dev nD) : (dats m 0 c).arrAt 3 (cfgs 0).N
    = whole (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  frame_out
  idx_vars y
  obtain ⟨e0, e1, e2, e3, h0, h1⟩ := idx t
  refine (pay _ _ _ y0 y1).trans (congrArg₂ _ (read_h m c t y0 y1 _ ?_ ?_) (entry_block (fun j => read_x m c t y0 j _ ?_) (fun j => read_w m c t j y1 _ ?_)))
  all_goals blk_simp [e3]

end Cert.COutputIdeal.Eq

namespace Cert.RefCOutputIdeal.Eq

open Cert.RefCOutputIdeal Cert.RefCOutputIdeal.Gen Cert.Entries

/-- The reference's result. -/
def res (x : FVec Ideal S10240x4096 .bf16) (w : FVec Ideal S1x4096x4096 .f32) (h : FVec Ideal S10240x4096 .f32) : FVec Ideal S10240x4096 .f32 :=
  addf h (Host.dotGeneral dot_S10240x4096_S4096x4096_S10240x4096_1_0_0_1_n_n none (extf .f32 x bitsLt_bf16_f32) (shapeCast _ w shapeCasts_S1x4096x4096_S4096x4096))

theorem res_eq (x : FVec Ideal S10240x4096 .bf16) (w : FVec Ideal S1x4096x4096 .f32) (h : FVec Ideal S10240x4096 .f32) :
    res x w h = Cert.COutputIdeal.Eq.whole x w h := by
  funext i
  idx_vars i
  pointwise [res, Cert.COutputIdeal.Eq.whole, entry]

end Cert.RefCOutputIdeal.Eq

namespace Cert.COutputIdeal.Eq

/-- The kernel and the reference end with one result array. -/
theorem same : Cert.algebraic_COutputIdeal_RefCOutputIdeal := by
  intro m g m' g' hp hm
  refine ⟨fun c => (Gen.dats m 0 c).arrAt 3 cfg0.N, Value.run_blocks (F := Ideal) m g, ?_⟩
  refine (θ_run Cert.RefCOutputIdeal.defs _ _).mono (fun r h c => ⟨(h c).1.trans ?_, (h c).2⟩) (Cert.RefCOutputIdeal.Value.run (F := Ideal) m' g')
  obtain ⟨e0, e1, e2⟩ := hm c
  refine (Cert.RefCOutputIdeal.Eq.res_eq _ _ _).trans (Eq.trans ?_ (final m c).symm)
  rw [e0, e1, e2]

end Cert.COutputIdeal.Eq

end
-- ==== Proof.ScoresEq.lean ====
/-
  The scores of a query's halves against the sub-keys: the kernel's blocks and the reference's result are the same sums.
-/
module

public import proofs.«01_k».proof.Defs
public import proofs.«01_k».proof.Proof.Entries
public import proofs.«01_k».proof.Proof.Gen.ScoresIdeal.Value
public import proofs.«01_k».proof.Proof.Gen.RefScoresIdeal.Run
public import Idealize.ShloMosaic.Lib.StableHlo.Run
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.ScoresIdeal.Eq

open Cert.ScoresIdeal Cert.ScoresIdeal.Gen Cert.Entries

theorem idx : ∀ t : Fin cfg0.N, win0_0.index t = ![(grid0.coords t 0).val, 0] ∧ win0_1.index t = ![0, 0, (grid0.coords t 1).val]
    ∧ win0_2.index t = ![0, (grid0.coords t 1).val, 0, 0] ∧ win0_3.index t = ![(grid0.coords t 1).val, 0, (grid0.coords t 0).val]
    ∧ (grid0.coords t 0).val < 10 ∧ (grid0.coords t 1).val < 4 :=
  (by decide +kernel : ∀ t : Fin grid0.N, _)

variable (m : (ℓ : Loc nD τ sig) → Buf (Elt Ideal) ℓ)

theorem weights (c : Dev nD) (i : S2x4096x2048.Idx) :
    (V m c main_v2 : FVec Ideal S2x4096x2048 .bf16) i = (m ((c : Thread nD τ).loc main_arg1) : FVec Ideal S2x4096x2048 .f32) i := by
  simp only [V, List.flatten_cons, List.flatten_nil, List.append_nil, List.cons_append, List.nil_append]
  after_reads_at

theorem keys (c : Dev nD) (p : Fin 16) (n d : Fin 128) :
    (V m c main_v1 : FVec Ideal S2x16x128x128 .bf16) (ix4 0 p n d)
      = (m ((c : Thread nD τ).loc main_arg2) : FVec Ideal S2x8x2x128x128 .f32) (ix5 0 ⟨p.val / 2, by omega⟩ ⟨p.val % 2, by omega⟩ n d) := by
  simp only [V, List.flatten_cons, List.flatten_nil, List.append_nil, List.cons_append, List.nil_append]
  after_reads_at

theorem read_x (c : Dev nD) (t : Fin cfg0.N) (r : Fin 1024) (x : Fin 4096) (i : Fin 10240) (h : i.val = (grid0.coords t 0).val * 1024 + r.val) :
    (iblk m c 0 t : FVec Ideal S1024x4096 .bf16) (ix2 r x) = (m ((c : Thread nD τ).loc main_arg0) : FVec Ideal S10240x4096 .bf16) (ix2 i x) := by
  obtain ⟨e0, -, -, -, -, -⟩ := idx t
  rw [← V_main_arg0 m c]
  blk_ext [iblk, e0]

theorem read_w (c : Dev nD) (t : Fin cfg0.N) (x : Fin 4096) (n : Fin 512) (j : Fin 2048) (h : j.val = (grid0.coords t 1).val * 512 + n.val) :
    (iblk m c 1 t : FVec Ideal S1x4096x512 .bf16) (ix3 0 x n) = (m ((c : Thread nD τ).loc main_arg1) : FVec Ideal S2x4096x2048 .f32) (ix3 0 x j) := by
  obtain ⟨-, e1, -, -, -, -⟩ := idx t
  rw [← weights m c]
  blk_ext [iblk, e1]

theorem read_k (c : Dev nD) (t : Fin cfg0.N) (q : Fin 4) (n d : Fin 128) (p : Fin 16) (h : p.val = (grid0.coords t 1).val * 4 + q.val) :
    (iblk m c 2 t : FVec Ideal S1x4x128x128 .bf16) (ix4 0 q n d)
      = (m ((c : Thread nD τ).loc main_arg2) : FVec Ideal S2x8x2x128x128 .f32) (ix5 0 ⟨p.val / 2, by omega⟩ ⟨p.val % 2, by omega⟩ n d) := by
  obtain ⟨-, -, e2, -, -, -⟩ := idx t
  rw [← keys m c p n d]
  blk_ext [iblk, e2]

/-- One half's keys of the block. -/
theorem one (X : S1x4x128x128.Idx → Elt Ideal .bf16) (q : Nat) (hq : q < 4) (inb) (n d : Fin 128) :
    View.ld X (Rect.unit (s := S1x4x128x128) ![0, q, 0, 0] ![1, 1, 128, 128] inb) (ix4 0 0 n d) = X (ix4 0 ⟨q, hq⟩ n d) :=
  View.ld_unit_apply_of X _ _ inb (ix4 0 0 n d) _ (fun a => by fin_cases a <;> simp)

/-- The four blocks of scores, one after another. -/
theorem pay0 (v0 : FVec Ideal S1024x4096 .bf16) (v1 : FVec Ideal S1x4096x512 .bf16) (v5 : FVec Ideal S1x1x128x128 .bf16) (n : Fin 128) (r : Fin 1024) :
    k0_pay3 (F := Ideal) v0 v1 v5 (ix3 0 n r) = ∑ d : Fin 128, v5 (ix4 0 0 n d) * entry v0 v1 r ⟨d.val, by omega⟩ := by
  pointwise [k0_pay3, k0_pay2, entry]

theorem pay1 (v0 : FVec Ideal S1024x4096 .bf16) (v1 : FVec Ideal S1x4096x512 .bf16) (v5 : FVec Ideal S1x1x128x128 .bf16) (n : Fin 128) (r : Fin 1024) :
    k0_pay4 (F := Ideal) v0 v1 v5 (ix3 0 n r) = ∑ d : Fin 128, v5 (ix4 0 0 n d) * entry v0 v1 r ⟨128 + d.val, by omega⟩ := by
  pointwise [k0_pay4, k0_pay2, entry]

theorem pay2 (v0 : FVec Ideal S1024x4096 .bf16) (v1 : FVec Ideal S1x4096x512 .bf16) (v5 : FVec Ideal S1x1x128x128 .bf16) (n : Fin 128) (r : Fin 1024) :
    k0_pay5 (F := Ideal) v0 v1 v5 (ix3 0 n r) = ∑ d : Fin 128, v5 (ix4 0 0 n d) * entry v0 v1 r ⟨256 + d.val, by omega⟩ := by
  pointwise [k0_pay5, k0_pay2, entry]

theorem pay3 (v0 : FVec Ideal S1024x4096 .bf16) (v1 : FVec Ideal S1x4096x512 .bf16) (v5 : FVec Ideal S1x1x128x128 .bf16) (n : Fin 128) (r : Fin 1024) :
    k0_pay1 (F := Ideal) (k0_pay2 v0 v1) v5 (ix3 0 n r) = ∑ d : Fin 128, v5 (ix4 0 0 n d) * entry v0 v1 r ⟨384 + d.val, by omega⟩ := by
  pointwise [k0_pay1, k0_pay2, entry]

/-- A query's entry. -/
def query (x : FVec Ideal S10240x4096 .bf16) (w : FVec Ideal S2x4096x2048 .f32) (i : Fin 10240) (n : Fin 2048) : EReal :=
  ∑ j : Fin 4096, x (ix2 i j) * w (ix3 0 j n)

/-- The score of half `p` of query `i` against key `n`. -/
def score (x : FVec Ideal S10240x4096 .bf16) (w : FVec Ideal S2x4096x2048 .f32) (k : FVec Ideal S2x8x2x128x128 .f32) (p : Fin 16) (n : Fin 128) (i : Fin 10240) : EReal :=
  ∑ d : Fin 128, k (ix5 0 ⟨p.val / 2, by omega⟩ ⟨p.val % 2, by omega⟩ n d) * query x w i ⟨p.val * 128 + d.val, by omega⟩

/-- The whole result. -/
def whole (x : FVec Ideal S10240x4096 .bf16) (w : FVec Ideal S2x4096x2048 .f32) (k : FVec Ideal S2x8x2x128x128 .f32) (i : S16x128x10240.Idx) : EReal :=
  score x w k (i 0) (i 1) (i 2)

/-- A block's score is the whole's. -/
theorem block (c : Dev nD) (t : Fin cfg0.N) (q : Nat) (hq : q < 4) (v5 : FVec Ideal S1x1x128x128 .bf16) (p : Fin 128 → Fin 512) (hp : ∀ d, (p d).val = q * 128 + d.val) (n : Fin 128) (r : Fin 1024)
    (hv : ∀ d, v5 (ix4 0 0 n d) = (iblk m c 2 t : FVec Ideal S1x4x128x128 .bf16) (ix4 0 ⟨q, hq⟩ n d)) (i : S16x128x10240.Idx) (h0 : (i 0).val = (grid0.coords t 1).val * 4 + q) (h1 : (i 1).val = n.val) (h2 : (i 2).val = (grid0.coords t 0).val * 1024 + r.val) :
    (∑ d : Fin 128, v5 (ix4 0 0 n d) * entry (iblk m c 0 t : FVec Ideal S1024x4096 .bf16) (iblk m c 1 t : FVec Ideal S1x4096x512 .bf16) r (p d))
      = whole (m ((c : Thread nD τ).loc main_arg0)) (m ((c : Thread nD τ).loc main_arg1)) (m ((c : Thread nD τ).loc main_arg2)) i := by
  obtain rfl : n = i 1 := Fin.ext h1.symm
  show _ = score _ _ _ (i 0) (i 1) (i 2)
  refine Finset.sum_congr rfl fun d _ => congr (congrArg _ ((hv d).trans (read_k m c t ⟨q, hq⟩ _ d _ h0))) ?_
  refine Finset.sum_congr rfl fun j _ => congr (congrArg _ (read_x m c t r j _ h2)) (read_w m c t j _ _ ?_)
  rw [hp]
  show (i 0).val * 128 + d.val = _
  rw [h0]; omega

theorem final (c : Dev nD) : (dats m 0 c).arrAt 3 (cfgs 0).N
    = whole (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold out0_3
  frame_out
  canon_tiles x h
  · idx_vars x
    obtain rfl : x0 = 0 := Subsingleton.elim _ _
    obtain ⟨-, -, -, e3, -, -⟩ := idx t
    refine (pay3 _ _ _ x1 x2).trans (block m c t 3 (by omega) _ _ (fun d => rfl) x1 x2 (fun d => one (iblk m c 2 t) 3 _ _ x1 d) _ ?_ ?_ ?_)
    · blk_simp [e3]; omega
    · blk_simp [e3]; omega
    · blk_simp [e3]; omega
  · idx_vars x
    obtain rfl : x0 = 0 := Subsingleton.elim _ _
    obtain ⟨-, -, -, e3, -, -⟩ := idx t
    refine (pay2 _ _ _ x1 x2).trans (block m c t 2 (by omega) _ _ (fun d => rfl) x1 x2 (fun d => one (iblk m c 2 t) 2 _ _ x1 d) _ ?_ ?_ ?_)
    · blk_simp [e3]; omega
    · blk_simp [e3]; omega
    · blk_simp [e3]; omega
  · idx_vars x
    obtain rfl : x0 = 0 := Subsingleton.elim _ _
    obtain ⟨-, -, -, e3, -, -⟩ := idx t
    refine (pay1 _ _ _ x1 x2).trans (block m c t 1 (by omega) _ _ (fun d => rfl) x1 x2 (fun d => one (iblk m c 2 t) 1 _ _ x1 d) _ ?_ ?_ ?_)
    · blk_simp [e3]; omega
    · blk_simp [e3]; omega
    · blk_simp [e3]; omega
  · idx_vars x
    obtain rfl : x0 = 0 := Subsingleton.elim _ _
    obtain ⟨-, -, -, e3, -, -⟩ := idx t
    refine (pay0 _ _ _ x1 x2).trans (block m c t 0 (by omega) _ _ (fun d => by simp) x1 x2 (fun d => one (iblk m c 2 t) 0 _ _ x1 d) _ ?_ ?_ ?_)
    · blk_simp [e3]; omega
    · blk_simp [e3]; omega
    · blk_simp [e3]; omega

end Cert.ScoresIdeal.Eq

namespace Cert.RefScoresIdeal.Eq

open Cert.RefScoresIdeal Cert.RefScoresIdeal.Gen Cert.Entries

/-- The queries, one half after another. -/
def halves (x : FVec Ideal S10240x4096 .bf16) (w : FVec Ideal S2x4096x2048 .f32) : FVec Ideal S10240x8x2x128 .f32 :=
  shapeCast _ (Host.dotGeneral dot_S10240x4096_S4096x2048_S10240x2048_1_0_0_1_n_n none (extf .f32 x bitsLt_bf16_f32) (shapeCast _ (extractStridedSlice S1x4096x2048 ![0, 0, 0] w slices_S2x4096x2048_S1x4096x2048_0_0_0) shapeCasts_S1x4096x2048_S4096x2048)) shapeCasts_S10240x2048_S10240x8x2x128

/-- Their scores. -/
def scores (k : FVec Ideal S2x8x2x128x128 .f32) (h : FVec Ideal S10240x8x2x128 .f32) : FVec Ideal S16x128x10240 .f32 :=
  shapeCast _ (transpose S8x2x128x10240 [1, 2, 3, 0] (transpose S10240x8x2x128 [3, 0, 1, 2] (Host.dotGeneral dot_S8x2x128x128_S10240x8x2x128_S8x2x128x10240_3_3_2_0_01_12 none (shapeCast _ (extractStridedSlice S1x8x2x128x128 ![0, 0, 0, 0, 0] k slices_S2x8x2x128x128_S1x8x2x128x128_0_0_0_0_0) shapeCasts_S1x8x2x128x128_S8x2x128x128) h) transposes_S8x2x128x10240_S10240x8x2x128_3_0_1_2) transposes_S10240x8x2x128_S8x2x128x10240_1_2_3_0) shapeCasts_S8x2x128x10240_S16x128x10240

theorem halves_at (x : FVec Ideal S10240x4096 .bf16) (w : FVec Ideal S2x4096x2048 .f32) (i : Fin 10240) (a : Fin 8) (b : Fin 2) (d : Fin 128) :
    halves x w (ix4 i a b d) = Cert.ScoresIdeal.Eq.query x w i ⟨(a.val * 2 + b.val) * 128 + d.val, by omega⟩ := by
  pointwise [halves, Cert.ScoresIdeal.Eq.query]
  refine Finset.sum_congr rfl fun j _ => congrArg _ (congrArg w (congrArg (fun z => ix3 0 j z) (Fin.ext ?_)))
  show a.val * 256 + b.val * 128 + d.val = (a.val * 2 + b.val) * 128 + d.val
  omega

theorem scores_at (k : FVec Ideal S2x8x2x128x128 .f32) (h : FVec Ideal S10240x8x2x128 .f32) (p : Fin 16) (n : Fin 128) (i : Fin 10240) :
    scores k h (ix3 p n i) = ∑ d : Fin 128, k (ix5 0 ⟨p.val / 2, by omega⟩ ⟨p.val % 2, by omega⟩ n d) * h (ix4 i ⟨p.val / 2, by omega⟩ ⟨p.val % 2, by omega⟩ d) := by
  pointwise [scores]

/-- The reference's result. -/
def res (x : FVec Ideal S10240x4096 .bf16) (w : FVec Ideal S2x4096x2048 .f32) (k : FVec Ideal S2x8x2x128x128 .f32) : FVec Ideal S16x128x10240 .f32 :=
  scores k (halves x w)

theorem res_eq (x : FVec Ideal S10240x4096 .bf16) (w : FVec Ideal S2x4096x2048 .f32) (k : FVec Ideal S2x8x2x128x128 .f32) :
    res x w k = Cert.ScoresIdeal.Eq.whole x w k := by
  funext i
  idx_vars i
  refine (scores_at k _ i0 i1 i2).trans ?_
  show _ = Cert.ScoresIdeal.Eq.score x w k i0 i1 i2
  refine Finset.sum_congr rfl fun d _ => congrArg _ ((halves_at x w i2 _ _ d).trans (congrArg (Cert.ScoresIdeal.Eq.query x w i2) (Fin.ext ?_)))
  show (i0.val / 2 * 2 + i0.val % 2) * 128 + d.val = i0.val * 128 + d.val
  omega

end Cert.RefScoresIdeal.Eq

namespace Cert.ScoresIdeal.Eq

/-- The kernel and the reference end with one result array. -/
theorem same : Cert.algebraic_ScoresIdeal_RefScoresIdeal := by
  intro m g m' g' hp hm
  refine ⟨fun c => (Gen.dats m 0 c).arrAt 3 cfg0.N, Value.run_blocks (F := Ideal) m g, ?_⟩
  refine (θ_run Cert.RefScoresIdeal.defs _ _).mono (fun r h c => ⟨(h c).1.trans ?_, (h c).2⟩) (Cert.RefScoresIdeal.Value.run (F := Ideal) m' g')
  obtain ⟨e0, e1, e2⟩ := hm c
  refine (Cert.RefScoresIdeal.Eq.res_eq _ _ _).trans (Eq.trans ?_ (final m c).symm)
  rw [e0, e1, e2]

end Cert.ScoresIdeal.Eq

end
-- ==== Proof.NormEq.lean ====
/-
  The normalisation before the first mixer: the kernel's blocks and the reference's result are the same scaled rows.
-/
module

public import proofs.«01_k».proof.Defs
public import proofs.«01_k».proof.Proof.Entries
public import proofs.«01_k».proof.Proof.Gen.NormIdeal.Value
public import proofs.«01_k».proof.Proof.Gen.RefNormIdeal.Run
public import Idealize.ShloMosaic.Lib.StableHlo.Run
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.NormIdeal.Eq

open Cert.NormIdeal Cert.NormIdeal.Gen Cert.Entries

theorem idx : ∀ t : Fin cfg0.N, win0_0.index t = ![t.val, 0] ∧ win0_1.index t = ![0, 0] ∧ win0_2.index t = ![t.val, 0] ∧ t.val < 40 :=
  (by decide +kernel : ∀ t : Fin grid0.N, _)

variable (m : (ℓ : Loc nD τ sig) → Buf (Elt Ideal) ℓ)

theorem read_x (c : Dev nD) (t : Fin cfg0.N) (r : Fin 256) (x : Fin 4096) (i : Fin 10240) (h : i.val = t.val * 256 + r.val) :
    (iblk m c 0 t : FVec Ideal S256x4096 .f32) (ix2 r x) = (m ((c : Thread nD τ).loc main_arg0) : FVec Ideal S10240x4096 .f32) (ix2 i x) := by
  obtain ⟨e0, -, -, -⟩ := idx t
  rw [← V_main_arg0 m c]
  blk_ext [iblk, e0]

theorem gain (c : Dev nD) (d : Fin 4096) :
    (V m c main_v2 : FVec Ideal S1x4096 .f32) (ix2 0 d) = (m ((c : Thread nD τ).loc main_arg1) : FVec Ideal S2x4096 .f32) (ix2 0 d) := by
  simp only [V, List.flatten_cons, List.flatten_nil, List.append_nil, List.cons_append, List.nil_append]
  after_reads_at

theorem read_g (c : Dev nD) (t : Fin cfg0.N) (d : Fin 4096) :
    (iblk m c 1 t : FVec Ideal S1x4096 .f32) (ix2 0 d) = (m ((c : Thread nD τ).loc main_arg1) : FVec Ideal S2x4096 .f32) (ix2 0 d) := by
  obtain ⟨-, e1, -, -⟩ := idx t
  rw [← gain m c]
  blk_ext [iblk, e1]

/-- The number of columns. -/
abbrev len : EReal := Ideal.ofBits .f32 0x45800000#32

theorem pay (v0 : FVec Ideal S256x4096 .f32) (v1 : FVec Ideal S1x4096 .f32) (r : Fin 256) (d : Fin 4096) :
    k0_pay1 (F := Ideal) v0 v1 (ix2 r d) = scaled len eps (fun x : Fin 4096 => v0 (ix2 r x)) (fun x : Fin 4096 => v1 (ix2 0 x)) d := by
  pointwise [k0_pay1, scaled]

/-- The whole result. -/
def whole (x : FVec Ideal S10240x4096 .f32) (g : FVec Ideal S2x4096 .f32) (i : S10240x4096.Idx) : EReal :=
  scaled len eps (fun d : Fin 4096 => x (ix2 (i 0) d)) (fun d : Fin 4096 => g (ix2 0 d)) (i 1)

theorem final (c : Dev nD) : (dats m 0 c).arrAt 2 (cfgs 0).N = whole (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  idx_vars y
  obtain ⟨e0, e1, e2, h0⟩ := idx t
  refine (pay _ _ y0 y1).trans ((scaled_congr (fun d => read_x m c t y0 d _ ?_) (fun d => read_g m c t d) y1).trans (congrArg _ ?_))
  · blk_simp [e2]
  · exact Fin.ext (by blk_simp [e2])

end Cert.NormIdeal.Eq

namespace Cert.RefNormIdeal.Eq

open Cert.RefNormIdeal Cert.RefNormIdeal.Gen Cert.Entries

/-- The reference's result. -/
def res (h : FVec Ideal S10240x4096 .f32) (g : FVec Ideal S2x4096 .f32) : FVec Ideal S10240x4096 .bf16 :=
  truncf .bf16 (mulf (mulf h (broadcastInDim S10240x4096 ![0, 1] bcast_S10240x1_S10240x4096_0_1 (Host.rsqrt (addf (Host.divf (broadcastInDim S10240x1 ![0] bcast_S10240_S10240x1_0 (Host.reduceAdd (mulf h h) (constant S_ .f32 0x00000000#32) reducesTo_S10240x4096_S10240_d1 h_S_)) (broadcastInDim S10240x1 ![] bcast_S_S10240x1 (constant S_ .f32 0x45800000#32))) (broadcastInDim S10240x1 ![] bcast_S_S10240x1 (constant S_ .f32 0x358637BD#32)))))) (broadcastInDim S10240x4096 ![0, 1] bcast_S1x4096_S10240x4096_0_1 (broadcastInDim S1x4096 ![1] bcast_S4096_S1x4096_1 (shapeCast _ (extractStridedSlice S1x4096 ![0, 0] g slices_S2x4096_S1x4096_0_0) shapeCasts_S1x4096_S4096)))) bitsLt_bf16_f32

theorem res_at (h : FVec Ideal S10240x4096 .f32) (g : FVec Ideal S2x4096 .f32) (r : Fin 10240) (d : Fin 4096) :
    res h g (ix2 r d) = scaled Cert.NormIdeal.Eq.len eps (fun x : Fin 4096 => h (ix2 r x)) (fun x : Fin 4096 => g (ix2 0 x)) d := by
  pointwise [res, scaled]

theorem res_eq (h : FVec Ideal S10240x4096 .f32) (g : FVec Ideal S2x4096 .f32) : res h g = Cert.NormIdeal.Eq.whole h g := by
  funext i
  idx_vars i
  exact res_at h g i0 i1

end Cert.RefNormIdeal.Eq

namespace Cert.NormIdeal.Eq

/-- The kernel and the reference end with one result array. -/
theorem same : Cert.algebraic_NormIdeal_RefNormIdeal := by
  intro m g m' g' hp hm
  refine ⟨fun c => (Gen.dats m 0 c).arrAt 2 cfg0.N, Value.run_blocks (F := Ideal) m g, ?_⟩
  refine (θ_run Cert.RefNormIdeal.defs _ _).mono (fun r h c => ⟨(h c).1.trans ?_, (h c).2⟩) (Cert.RefNormIdeal.Value.run (F := Ideal) m' g')
  obtain ⟨e0, e1⟩ := hm c
  refine (Cert.RefNormIdeal.Eq.res_eq _ _).trans (Eq.trans ?_ (final m c).symm)
  rw [e0, e1]

end Cert.NormIdeal.Eq

end
-- ==== Proof.CKeysSampleEq.lean ====
/-
  The keys of the stick-breaking attention over the sample's rows, as a matrix and head by head: the kernel's blocks and the reference's results
  are the same entries of one product.
-/
module

public import proofs.«01_k».proof.Defs
public import proofs.«01_k».proof.Proof.Entries
public import proofs.«01_k».proof.Proof.Gen.CKeysSampleIdeal.Frame
public import proofs.«01_k».proof.Proof.Gen.RefCKeysSampleIdeal.Run
public import Idealize.ShloMosaic.Lib.StableHlo.Run
public import Idealize.ShloMosaic.Lib.Pipeline.Value
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.CKeysSampleIdeal.Eq

open Cert.CKeysSampleIdeal Cert.CKeysSampleIdeal.Gen Cert.Entries

theorem idx : ∀ t : Fin cfg0.N, win0_0.index t = ![8 + (grid0.coords t 0).val, 0] ∧ win0_1.index t = ![0, 0, 4 + (grid0.coords t 1).val]
    ∧ win0_2.index t = ![(grid0.coords t 0).val, (grid0.coords t 1).val] ∧ win0_3.index t = ![(grid0.coords t 0).val, (grid0.coords t 1).val, 0]
    ∧ (grid0.coords t 0).val < 2 ∧ (grid0.coords t 1).val < 4 :=
  (by decide +kernel : ∀ t : Fin grid0.N, _)

variable (m : (ℓ : Loc nD τ sig) → Buf (Elt Ideal) ℓ)

theorem weights (c : Dev nD) (i : S1x4096x12288.Idx) :
    (V m c main_v0 : FVec Ideal S1x4096x12288 .bf16) i = (m ((c : Thread nD τ).loc main_arg1) : FVec Ideal S1x4096x12288 .f32) i := by
  simp only [V, List.flatten_cons, List.flatten_nil, List.append_nil, List.cons_append, List.nil_append]
  after_reads_at

theorem read_x (c : Dev nD) (t : Fin cfg0.N) (r : Fin 1024) (x : Fin 4096) (i : Fin 10240) (h : i.val = (8 + (grid0.coords t 0).val) * 1024 + r.val) :
    (iblk m c 0 t : FVec Ideal S1024x4096 .bf16) (ix2 r x) = (m ((c : Thread nD τ).loc main_arg0) : FVec Ideal S10240x4096 .bf16) (ix2 i x) := by
  obtain ⟨e0, e1, e2, e3, -, -⟩ := idx t
  rw [← V_main_arg0 m c]
  blk_ext [iblk, e0]

theorem read_w (c : Dev nD) (t : Fin cfg0.N) (x : Fin 4096) (n : Fin 1024) (j : Fin 12288) (h : j.val = (4 + (grid0.coords t 1).val) * 1024 + n.val) :
    (iblk m c 1 t : FVec Ideal S1x4096x1024 .bf16) (ix3 0 x n) = (m ((c : Thread nD τ).loc main_arg1) : FVec Ideal S1x4096x12288 .f32) (ix3 0 x j) := by
  obtain ⟨e0, e1, e2, e3, -, -⟩ := idx t
  rw [← weights m c]
  blk_ext [iblk, e1]

theorem pay (v0 : FVec Ideal S1024x4096 .bf16) (v1 : FVec Ideal S1x4096x1024 .bf16) (r : Fin 1024) (n : Fin 1024) :
    k0_pay2 (F := Ideal) v0 v1 (ix2 r n) = entry v0 v1 r n := by
  pointwise [k0_pay2, k0_pay1, entry]

theorem pay_heads (v0 : FVec Ideal S1024x4096 .bf16) (v1 : FVec Ideal S1x4096x1024 .bf16) (r : Fin 1024) (n : Fin 8) (d : Fin 128) :
    k0_pay3 (F := Ideal) v0 v1 (ix3 r n d) = entry v0 v1 r ⟨n.val * 128 + d.val, by omega⟩ := by
  pointwise [k0_pay3, k0_pay1, entry]

/-- The whole result, a matrix. -/
def whole (x : FVec Ideal S10240x4096 .bf16) (w : FVec Ideal S1x4096x12288 .f32) (i : S2048x4096.Idx) : EReal :=
  entry x w ⟨8192 + (i 0).val, by have := (i 0).isLt; change (i 0).val < 2048 at this; omega⟩
    ⟨4096 + (i 1).val, by have := (i 1).isLt; change (i 1).val < 4096 at this; omega⟩

/-- The whole result, head by head. -/
def heads (x : FVec Ideal S10240x4096 .bf16) (w : FVec Ideal S1x4096x12288 .f32) (i : S2048x32x128.Idx) : EReal :=
  entry x w ⟨8192 + (i 0).val, by have := (i 0).isLt; change (i 0).val < 2048 at this; omega⟩
    ⟨4096 + ((i 1).val * 128 + (i 2).val), by
      have := (i 1).isLt; change (i 1).val < 32 at this
      have := (i 2).isLt; change (i 2).val < 128 at this; omega⟩

/-- The run with its two result arrays named, the arguments unchanged. -/
theorem run_arrays (ρ : Dev nD → PrngReg) : θ_run defs (onTc (τ := τ) (main (F := Ideal))) ⟨m, fun _ => 0, ρ⟩ fun r => ∀ c : Dev nD,
      r.2.mem ((c : Thread nD τ).loc main_v1_0) = (dats m 0 c).arrAt 2 cfg0.N
      ∧ r.2.mem ((c : Thread nD τ).loc main_v1_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2, (h c).1 3,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

theorem final (c : Dev nD) : (dats m 0 c).arrAt 2 (cfgs 0).N = whole (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  idx_vars y
  obtain ⟨e0, e1, e2, e3, h0, h1⟩ := idx t
  refine (pay _ _ y0 y1).trans (entry_block (fun j => read_x m c t y0 j _ ?_) (fun j => read_w m c t j y1 _ ?_))
  · blk_simp [e2]; show 8192 + ((grid0.coords t 0).val * 1024 + y0.val) = (8 + (grid0.coords t 0).val) * 1024 + y0.val; omega
  · blk_simp [e2]; show 4096 + ((grid0.coords t 1).val * 1024 + y1.val) = _; omega

theorem final_heads (c : Dev nD) : (dats m 0 c).arrAt 3 (cfgs 0).N = heads (m ((c : Thread nD τ).loc main_arg0)) (m ((c : Thread nD τ).loc main_arg1)) := by
  refine (dats m 0 c).arrAt_eq_of_covers 3 _ (by decide +kernel) fun t hf y => ?_
  blk_simp
  rw [after0_3]
  unfold out0_3
  frame_out
  idx_vars y
  obtain ⟨e0, e1, e2, e3, h0, h1⟩ := idx t
  refine (pay_heads _ _ y0 y1 y2).trans (entry_block (fun j => read_x m c t y0 j _ ?_) (fun j => read_w m c t j _ _ ?_))
  · blk_simp [e3]; show 8192 + ((grid0.coords t 0).val * 1024 + y0.val) = (8 + (grid0.coords t 0).val) * 1024 + y0.val; omega
  · blk_simp [e3]; show 4096 + (((grid0.coords t 1).val * 8 + y1.val) * 128 + y2.val) = (4 + (grid0.coords t 1).val) * 1024 + (y1.val * 128 + y2.val); omega

end Cert.CKeysSampleIdeal.Eq

namespace Cert.RefCKeysSampleIdeal.Eq

open Cert.RefCKeysSampleIdeal Cert.RefCKeysSampleIdeal.Gen Cert.Entries

/-- The reference's columns. -/
def cols (x : FVec Ideal S10240x4096 .bf16) (w : FVec Ideal S1x4096x12288 .f32) : FVec Ideal S2048x4096 .f32 :=
  extractStridedSlice S2048x4096 ![0, 4096] (Host.dotGeneral dot_S2048x4096_S4096x12288_S2048x12288_1_0_0_1_n_n none (extf .f32 (extractStridedSlice S2048x4096 ![8192, 0] x slices_S10240x4096_S2048x4096_8192_0) bitsLt_bf16_f32) (shapeCast _ w shapeCasts_S1x4096x12288_S4096x12288)) slices_S2048x12288_S2048x4096_0_4096

/-- The reference's results. -/
def res (x : FVec Ideal S10240x4096 .bf16) (w : FVec Ideal S1x4096x12288 .f32) : FVec Ideal S2048x4096 .bf16 := truncf .bf16 (cols x w) bitsLt_bf16_f32

def res_heads (x : FVec Ideal S10240x4096 .bf16) (w : FVec Ideal S1x4096x12288 .f32) : FVec Ideal S2048x32x128 .f32 :=
  shapeCast _ (cols x w) shapeCasts_S2048x4096_S2048x32x128

theorem res_eq (x : FVec Ideal S10240x4096 .bf16) (w : FVec Ideal S1x4096x12288 .f32) : res x w = Cert.CKeysSampleIdeal.Eq.whole x w := by
  funext i
  idx_vars i
  pointwise [res, cols, Cert.CKeysSampleIdeal.Eq.whole, entry]

theorem res_heads_eq (x : FVec Ideal S10240x4096 .bf16) (w : FVec Ideal S1x4096x12288 .f32) : res_heads x w = Cert.CKeysSampleIdeal.Eq.heads x w := by
  funext i
  idx_vars i
  pointwise [res_heads, cols, Cert.CKeysSampleIdeal.Eq.heads, entry]

end Cert.RefCKeysSampleIdeal.Eq

namespace Cert.CKeysSampleIdeal.Eq

/-- The kernel and the reference end with the same two result arrays. -/
theorem same : Cert.algebraic_CKeysSampleIdeal_RefCKeysSampleIdeal := by
  intro m g m' g' hp hm
  refine ⟨fun c => (Gen.dats m 0 c).arrAt 2 cfg0.N, fun c => (Gen.dats m 0 c).arrAt 3 cfg0.N, run_arrays m g, ?_⟩
  refine (θ_run Cert.RefCKeysSampleIdeal.defs _ _).mono (fun r h c => ⟨(h c).1.trans ?_, (h c).2.1.trans ?_, (h c).2.2⟩) (Cert.RefCKeysSampleIdeal.Value.run (F := Ideal) m' g')
  · obtain ⟨e0, e1⟩ := hm c
    refine (Cert.RefCKeysSampleIdeal.Eq.res_eq _ _).trans (Eq.trans ?_ (final m c).symm)
    rw [e0, e1]
  · obtain ⟨e0, e1⟩ := hm c
    refine (Cert.RefCKeysSampleIdeal.Eq.res_heads_eq _ _).trans (Eq.trans ?_ (final_heads m c).symm)
    rw [e0, e1]

end Cert.CKeysSampleIdeal.Eq

end
-- ==== Proof.CValuesSampleEq.lean ====
/-
  The values of the stick-breaking attention over the sample's rows, as a matrix and head by head: the kernel's blocks and the reference's results
  are the same entries of one product.
-/
module

public import proofs.«01_k».proof.Defs
public import proofs.«01_k».proof.Proof.Entries
public import proofs.«01_k».proof.Proof.Gen.CValuesSampleIdeal.Frame
public import proofs.«01_k».proof.Proof.Gen.RefCValuesSampleIdeal.Run
public import Idealize.ShloMosaic.Lib.StableHlo.Run
public import Idealize.ShloMosaic.Lib.Pipeline.Value
public import Idealize.ShloMosaic.Lib.Pipeline.ValueKit
public import Idealize.ShloMosaic.Lib.Claim
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.CValuesSampleIdeal.Eq

open Cert.CValuesSampleIdeal Cert.CValuesSampleIdeal.Gen Cert.Entries

theorem idx : ∀ t : Fin cfg0.N, win0_0.index t = ![8 + (grid0.coords t 0).val, 0] ∧ win0_1.index t = ![0, 0, 8 + (grid0.coords t 1).val]
    ∧ win0_2.index t = ![(grid0.coords t 0).val, (grid0.coords t 1).val] ∧ win0_3.index t = ![(grid0.coords t 0).val, (grid0.coords t 1).val, 0]
    ∧ (grid0.coords t 0).val < 2 ∧ (grid0.coords t 1).val < 4 :=
  (by decide +kernel : ∀ t : Fin grid0.N, _)

variable (m : (ℓ : Loc nD τ sig) → Buf (Elt Ideal) ℓ)

theorem weights (c : Dev nD) (i : S1x4096x12288.Idx) :
    (V m c main_v0 : FVec Ideal S1x4096x12288 .bf16) i = (m ((c : Thread nD τ).loc main_arg1) : FVec Ideal S1x4096x12288 .f32) i := by
  simp only [V, List.flatten_cons, List.flatten_nil, List.append_nil, List.cons_append, List.nil_append]
  after_reads_at

theorem read_x (c : Dev nD) (t : Fin cfg0.N) (r : Fin 1024) (x : Fin 4096) (i : Fin 10240) (h : i.val = (8 + (grid0.coords t 0).val) * 1024 + r.val) :
    (iblk m c 0 t : FVec Ideal S1024x4096 .bf16) (ix2 r x) = (m ((c : Thread nD τ).loc main_arg0) : FVec Ideal S10240x4096 .bf16) (ix2 i x) := by
  obtain ⟨e0, e1, e2, e3, -, -⟩ := idx t
  rw [← V_main_arg0 m c]
  blk_ext [iblk, e0]

theorem read_w (c : Dev nD) (t : Fin cfg0.N) (x : Fin 4096) (n : Fin 1024) (j : Fin 12288) (h : j.val = (8 + (grid0.coords t 1).val) * 1024 + n.val) :
    (iblk m c 1 t : FVec Ideal S1x4096x1024 .bf16) (ix3 0 x n) = (m ((c : Thread nD τ).loc main_arg1) : FVec Ideal S1x4096x12288 .f32) (ix3 0 x j) := by
  obtain ⟨e0, e1, e2, e3, -, -⟩ := idx t
  rw [← weights m c]
  blk_ext [iblk, e1]

theorem pay (v0 : FVec Ideal S1024x4096 .bf16) (v1 : FVec Ideal S1x4096x1024 .bf16) (r : Fin 1024) (n : Fin 1024) :
    k0_pay2 (F := Ideal) v0 v1 (ix2 r n) = entry v0 v1 r n := by
  pointwise [k0_pay2, k0_pay1, entry]

theorem pay_heads (v0 : FVec Ideal S1024x4096 .bf16) (v1 : FVec Ideal S1x4096x1024 .bf16) (r : Fin 1024) (n : Fin 8) (d : Fin 128) :
    k0_pay3 (F := Ideal) v0 v1 (ix3 r n d) = entry v0 v1 r ⟨n.val * 128 + d.val, by omega⟩ := by
  pointwise [k0_pay3, k0_pay1, entry]

/-- The whole result, a matrix. -/
def whole (x : FVec Ideal S10240x4096 .bf16) (w : FVec Ideal S1x4096x12288 .f32) (i : S2048x4096.Idx) : EReal :=
  entry x w ⟨8192 + (i 0).val, by have := (i 0).isLt; change (i 0).val < 2048 at this; omega⟩
    ⟨8192 + (i 1).val, by have := (i 1).isLt; change (i 1).val < 4096 at this; omega⟩

/-- The whole result, head by head. -/
def heads (x : FVec Ideal S10240x4096 .bf16) (w : FVec Ideal S1x4096x12288 .f32) (i : S2048x32x128.Idx) : EReal :=
  entry x w ⟨8192 + (i 0).val, by have := (i 0).isLt; change (i 0).val < 2048 at this; omega⟩
    ⟨8192 + ((i 1).val * 128 + (i 2).val), by
      have := (i 1).isLt; change (i 1).val < 32 at this
      have := (i 2).isLt; change (i 2).val < 128 at this; omega⟩

/-- The run with its two result arrays named, the arguments unchanged. -/
theorem run_arrays (ρ : Dev nD → PrngReg) : θ_run defs (onTc (τ := τ) (main (F := Ideal))) ⟨m, fun _ => 0, ρ⟩ fun r => ∀ c : Dev nD,
      r.2.mem ((c : Thread nD τ).loc main_v1_0) = (dats m 0 c).arrAt 2 cfg0.N
      ∧ r.2.mem ((c : Thread nD τ).loc main_v1_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 2, (h c).1 3,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

theorem final (c : Dev nD) : (dats m 0 c).arrAt 2 (cfgs 0).N = whole (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  frame_out
  idx_vars y
  obtain ⟨e0, e1, e2, e3, h0, h1⟩ := idx t
  refine (pay _ _ y0 y1).trans (entry_block (fun j => read_x m c t y0 j _ ?_) (fun j => read_w m c t j y1 _ ?_))
  · blk_simp [e2]; show 8192 + ((grid0.coords t 0).val * 1024 + y0.val) = (8 + (grid0.coords t 0).val) * 1024 + y0.val; omega
  · blk_simp [e2]; show 8192 + ((grid0.coords t 1).val * 1024 + y1.val) = _; omega

theorem final_heads (c : Dev nD) : (dats m 0 c).arrAt 3 (cfgs 0).N = heads (m ((c : Thread nD τ).loc main_arg0)) (m ((c : Thread nD τ).loc main_arg1)) := by
  refine (dats m 0 c).arrAt_eq_of_covers 3 _ (by decide +kernel) fun t hf y => ?_
  blk_simp
  rw [after0_3]
  unfold out0_3
  frame_out
  idx_vars y
  obtain ⟨e0, e1, e2, e3, h0, h1⟩ := idx t
  refine (pay_heads _ _ y0 y1 y2).trans (entry_block (fun j => read_x m c t y0 j _ ?_) (fun j => read_w m c t j _ _ ?_))
  · blk_simp [e3]; show 8192 + ((grid0.coords t 0).val * 1024 + y0.val) = (8 + (grid0.coords t 0).val) * 1024 + y0.val; omega
  · blk_simp [e3]; show 8192 + (((grid0.coords t 1).val * 8 + y1.val) * 128 + y2.val) = (8 + (grid0.coords t 1).val) * 1024 + (y1.val * 128 + y2.val); omega

end Cert.CValuesSampleIdeal.Eq

namespace Cert.RefCValuesSampleIdeal.Eq

open Cert.RefCValuesSampleIdeal Cert.RefCValuesSampleIdeal.Gen Cert.Entries

/-- The reference's columns. -/
def cols (x : FVec Ideal S10240x4096 .bf16) (w : FVec Ideal S1x4096x12288 .f32) : FVec Ideal S2048x4096 .f32 :=
  extractStridedSlice S2048x4096 ![0, 8192] (Host.dotGeneral dot_S2048x4096_S4096x12288_S2048x12288_1_0_0_1_n_n none (extf .f32 (extractStridedSlice S2048x4096 ![8192, 0] x slices_S10240x4096_S2048x4096_8192_0) bitsLt_bf16_f32) (shapeCast _ w shapeCasts_S1x4096x12288_S4096x12288)) slices_S2048x12288_S2048x4096_0_8192

/-- The reference's results. -/
def res (x : FVec Ideal S10240x4096 .bf16) (w : FVec Ideal S1x4096x12288 .f32) : FVec Ideal S2048x4096 .bf16 := truncf .bf16 (cols x w) bitsLt_bf16_f32

def res_heads (x : FVec Ideal S10240x4096 .bf16) (w : FVec Ideal S1x4096x12288 .f32) : FVec Ideal S2048x32x128 .f32 :=
  shapeCast _ (cols x w) shapeCasts_S2048x4096_S2048x32x128

theorem res_eq (x : FVec Ideal S10240x4096 .bf16) (w : FVec Ideal S1x4096x12288 .f32) : res x w = Cert.CValuesSampleIdeal.Eq.whole x w := by
  funext i
  idx_vars i
  pointwise [res, cols, Cert.CValuesSampleIdeal.Eq.whole, entry]

theorem res_heads_eq (x : FVec Ideal S10240x4096 .bf16) (w : FVec Ideal S1x4096x12288 .f32) : res_heads x w = Cert.CValuesSampleIdeal.Eq.heads x w := by
  funext i
  idx_vars i
  pointwise [res_heads, cols, Cert.CValuesSampleIdeal.Eq.heads, entry]

end Cert.RefCValuesSampleIdeal.Eq

namespace Cert.CValuesSampleIdeal.Eq

/-- The kernel and the reference end with the same two result arrays. -/
theorem same : Cert.algebraic_CValuesSampleIdeal_RefCValuesSampleIdeal := by
  intro m g m' g' hp hm
  refine ⟨fun c => (Gen.dats m 0 c).arrAt 2 cfg0.N, fun c => (Gen.dats m 0 c).arrAt 3 cfg0.N, run_arrays m g, ?_⟩
  refine (θ_run Cert.RefCValuesSampleIdeal.defs _ _).mono (fun r h c => ⟨(h c).1.trans ?_, (h c).2.1.trans ?_, (h c).2.2⟩) (Cert.RefCValuesSampleIdeal.Value.run (F := Ideal) m' g')
  · obtain ⟨e0, e1⟩ := hm c
    refine (Cert.RefCValuesSampleIdeal.Eq.res_eq _ _).trans (Eq.trans ?_ (final m c).symm)
    rw [e0, e1]
  · obtain ⟨e0, e1⟩ := hm c
    refine (Cert.RefCValuesSampleIdeal.Eq.res_heads_eq _ _).trans (Eq.trans ?_ (final_heads m c).symm)
    rw [e0, e1]

end Cert.CValuesSampleIdeal.Eq

end
-- ==== Proof.Rows.lean ====
/-
  The prompt's rows with the sample's below them, normalised.
-/
module

public import proofs.«01_k».proof.Proof.Entries
public import proofs.«01_k».proof.Proof.Heads

@[expose] public section

noncomputable section

open Idealize.ShloMosaic

namespace Cert.Rows

open Cert.Entries

/-- A row of the stream: the prompt's 8192, then the sample's 32 times 64. -/
def stack (xp : (⟨3, ![1, 8192, 4096]⟩ : Shape).Idx → EReal) (xs : (⟨3, ![32, 64, 4096]⟩ : Shape).Idx → EReal) (r : Fin 10240) (d : Fin 4096) : EReal :=
  if h : r.val < 8192 then xp (ix3 0 ⟨r.val, h⟩ d) else xs (ix3 ⟨(r.val - 8192) / 64, by omega⟩ ⟨(r.val - 8192) % 64, by omega⟩ d)

/-- The length of a row. -/
abbrev len : EReal := Ideal.ofBits .f32 0x45800000#32

/-- The rows, normalised. -/
def rows (xp : (⟨3, ![1, 8192, 4096]⟩ : Shape).Idx → EReal) (xs : (⟨3, ![32, 64, 4096]⟩ : Shape).Idx → EReal)
    (g : (⟨2, ![2, 4096]⟩ : Shape).Idx → EReal) (i : (⟨2, ![10240, 4096]⟩ : Shape).Idx) : EReal :=
  scaled len eps (fun d : Fin 4096 => stack xp xs (i 0) d) (fun d : Fin 4096 => g (ix2 0 d)) (i 1)

theorem stack_prompt (xp : (⟨3, ![1, 8192, 4096]⟩ : Shape).Idx → EReal) (xs : (⟨3, ![32, 64, 4096]⟩ : Shape).Idx → EReal) (r : Fin 10240) (d : Fin 4096)
    (q : Fin 8192) (h : r.val = q.val) : stack xp xs r d = xp (ix3 0 q d) := by
  have hr : r.val < 8192 := by omega
  unfold stack
  rw [dif_pos hr]
  congr 2
  exact Fin.ext h

theorem stack_sample (xp : (⟨3, ![1, 8192, 4096]⟩ : Shape).Idx → EReal) (xs : (⟨3, ![32, 64, 4096]⟩ : Shape).Idx → EReal) (r : Fin 10240) (d : Fin 4096)
    (b : Fin 32) (q : Fin 64) (h : r.val = 8192 + (b.val * 64 + q.val)) : stack xp xs r d = xs (ix3 b q d) := by
  have hr : ¬ r.val < 8192 := by omega
  unfold stack
  rw [dif_neg hr]
  have e0 : (⟨(r.val - 8192) / 64, by omega⟩ : Fin 32) = b := Fin.ext (by show (r.val - 8192) / 64 = b.val; omega)
  have e1 : (⟨(r.val - 8192) % 64, by omega⟩ : Fin 64) = q := Fin.ext (by show (r.val - 8192) % 64 = q.val; omega)
  rw [e0, e1]

/-- A column of the product. -/
def column (o : Nat) (ho : o + 2048 ≤ 8192) (x : (⟨2, ![10240, 4096]⟩ : Shape).Idx → EReal) (w : (⟨3, ![1, 4096, 8192]⟩ : Shape).Idx → EReal)
    (r : Fin 10240) (n : Fin 2048) : EReal :=
  entry x w r ⟨o + n.val, by omega⟩

end Cert.Rows

end
-- ==== Proof.FirstRef.lean ====
/-
  The reference's keys, values and pooling inputs from the layer's inputs: entries of the products of the stacked,
  normalised rows.
-/
module

public import proofs.«01_k».proof.Defs
public import proofs.«01_k».proof.Proof.Rows
public import proofs.«01_k».proof.Proof.Gen.RefFirstIdeal.Run

@[expose] public section

set_option maxRecDepth 16384

noncomputable section

open Idealize.ShloMosaic Idealize.ShloMosaic.TcCoe Idealize.SL.Sem

namespace Cert.RefFirstIdeal.Eq

open Cert.RefFirstIdeal Cert.RefFirstIdeal.Gen Cert.Entries Cert.Rows

/-- Rows normalised. -/
def rows_p (x : FVec Ideal S1x8192x4096 .f32) (g : FVec Ideal S2x4096 .f32) : FVec Ideal S1x8192x4096 .f32 :=
  mulf (mulf x (broadcastInDim S1x8192x4096 ![0, 1, 2] bcast_S1x8192x1_S1x8192x4096_0_1_2 (Host.rsqrt (addf (Host.divf (broadcastInDim S1x8192x1 ![0, 1] bcast_S1x8192_S1x8192x1_0_1 (Host.reduceAdd (mulf x x) (constant S_ .f32 0x00000000#32) reducesTo_S1x8192x4096_S1x8192_d2 h_S_)) (broadcastInDim S1x8192x1 ![] bcast_S_S1x8192x1 (constant S_ .f32 0x45800000#32))) (broadcastInDim S1x8192x1 ![] bcast_S_S1x8192x1 (constant S_ .f32 0x358637BD#32)))))) (broadcastInDim S1x8192x4096 ![0, 1, 2] bcast_S1x1x4096_S1x8192x4096_0_1_2 (broadcastInDim S1x1x4096 ![2] bcast_S4096_S1x1x4096_2 (shapeCast _ (extractStridedSlice S1x4096 ![0, 0] g slices_S2x4096_S1x4096_0_0) shapeCasts_S1x4096_S4096)))

/-- Their product. -/
def up_p (x : FVec Ideal S1x8192x4096 .f32) (w : FVec Ideal S1x4096x8192 .f32) : FVec Ideal S1x8192x8192 .f32 :=
  Host.dotGeneral dot_S1x8192x4096_S4096x8192_S1x8192x8192_2_0_01_1_n_n none x (shapeCast _ w shapeCasts_S1x4096x8192_S4096x8192)

/-- Its keys, head by head. -/
def split_p (u : FVec Ideal S1x8192x8192 .f32) : FVec Ideal S1x8192x16x128 .f32 :=
  shapeCast _ (extractStridedSlice S1x8192x2048 ![0, 0, 2048] u slices_S1x8192x8192_S1x8192x2048_0_0_2048) shapeCasts_S1x8192x2048_S1x8192x16x128

/-- Heads scaled. -/
def norm_p (s : FVec Ideal S1x8192x16x128 .f32) (g : FVec Ideal S1x128 .f32) : FVec Ideal S1x8192x16x128 .f32 :=
  mulf (mulf s (broadcastInDim S1x8192x16x128 ![0, 1, 2, 3] bcast_S1x8192x16x1_S1x8192x16x128_0_1_2_3 (Host.rsqrt (addf (Host.divf (broadcastInDim S1x8192x16x1 ![0, 1, 2] bcast_S1x8192x16_S1x8192x16x1_0_1_2 (Host.reduceAdd (mulf s s) (constant S_ .f32 0x00000000#32) reducesTo_S1x8192x16x128_S1x8192x16_d3 h_S_)) (broadcastInDim S1x8192x16x1 ![] bcast_S_S1x8192x16x1 (constant S_ .f32 0x43000000#32))) (broadcastInDim S1x8192x16x1 ![] bcast_S_S1x8192x16x1 (constant S_ .f32 0x358637BD#32)))))) (broadcastInDim S1x8192x16x128 ![0, 1, 2, 3] bcast_S1x1x1x128_S1x8192x16x128_0_1_2_3 (broadcastInDim S1x1x1x128 ![3] bcast_S128_S1x1x1x128_3 (shapeCast _ g shapeCasts_S1x128_S128)))

theorem rows_p_at (x : FVec Ideal S1x8192x4096 .f32) (g : FVec Ideal S2x4096 .f32) (r : Fin 8192) (d : Fin 4096) :
    rows_p x g (ix3 (0 : Fin 1) r d) = scaled len eps (fun y : Fin 4096 => x (ix3 (0 : Fin 1) r y)) (fun y : Fin 4096 => g (ix2 0 y)) d := by
  pointwise [rows_p, scaled]

theorem up_p_at (x : FVec Ideal S1x8192x4096 .f32) (w : FVec Ideal S1x4096x8192 .f32) (r : Fin 8192) (n : Fin 8192) :
    up_p x w (ix3 (0 : Fin 1) r n) = ∑ j : Fin 4096, x (ix3 (0 : Fin 1) r j) * w (ix3 0 j n) := by
  pointwise [up_p]

theorem split_p_at (u : FVec Ideal S1x8192x8192 .f32) (r : Fin 8192) (h : Fin 16) (d : Fin 128) :
    split_p u (ix4 (0 : Fin 1) r h d) = u (ix3 (0 : Fin 1) r ⟨2048 + (h.val * 128 + d.val), by omega⟩) := by
  pointwise [split_p]

theorem norm_p_at (s : FVec Ideal S1x8192x16x128 .f32) (g : FVec Ideal S1x128 .f32) (r : Fin 8192) (h : Fin 16) (d : Fin 128) :
    norm_p s g (ix4 (0 : Fin 1) r h d) = scaled Heads.len eps (fun x : Fin 128 => s (ix4 (0 : Fin 1) r h x)) (fun x : Fin 128 => g (ix2 0 x)) d := by
  pointwise [norm_p, scaled]

/-- An entry of the product is the stacked rows'. -/
theorem up_p_entry (xp : FVec Ideal S1x8192x4096 .f32) (xs : FVec Ideal S32x64x4096 .f32) (g : FVec Ideal S2x4096 .f32) (w : FVec Ideal S1x4096x8192 .f32)
    (r : Fin 8192) (n : Fin 8192) (i : Fin 10240) (h : i.val = r.val) :
    up_p (rows_p xp g) w (ix3 (0 : Fin 1) r n) = entry (rows xp xs g) w i n := by
  refine (up_p_at _ w r n).trans (Finset.sum_congr rfl fun j _ => congrArg (· * w (ix3 0 j n)) ?_)
  exact (rows_p_at xp g r j).trans (scaled_congr (fun y => (stack_prompt xp xs i y r h).symm) (fun _ => rfl) j)

/-- Rows normalised. -/
def rows_s (x : FVec Ideal S32x64x4096 .f32) (g : FVec Ideal S2x4096 .f32) : FVec Ideal S32x64x4096 .f32 :=
  mulf (mulf x (broadcastInDim S32x64x4096 ![0, 1, 2] bcast_S32x64x1_S32x64x4096_0_1_2 (Host.rsqrt (addf (Host.divf (broadcastInDim S32x64x1 ![0, 1] bcast_S32x64_S32x64x1_0_1 (Host.reduceAdd (mulf x x) (constant S_ .f32 0x00000000#32) reducesTo_S32x64x4096_S32x64_d2 h_S_)) (broadcastInDim S32x64x1 ![] bcast_S_S32x64x1 (constant S_ .f32 0x45800000#32))) (broadcastInDim S32x64x1 ![] bcast_S_S32x64x1 (constant S_ .f32 0x358637BD#32)))))) (broadcastInDim S32x64x4096 ![0, 1, 2] bcast_S1x1x4096_S32x64x4096_0_1_2 (broadcastInDim S1x1x4096 ![2] bcast_S4096_S1x1x4096_2 (shapeCast _ (extractStridedSlice S1x4096 ![0, 0] g slices_S2x4096_S1x4096_0_0) shapeCasts_S1x4096_S4096)))

/-- Their product. -/
def up_s (x : FVec Ideal S32x64x4096 .f32) (w : FVec Ideal S1x4096x8192 .f32) : FVec Ideal S32x64x8192 .f32 :=
  Host.dotGeneral dot_S32x64x4096_S4096x8192_S32x64x8192_2_0_01_1_n_n none x (shapeCast _ w shapeCasts_S1x4096x8192_S4096x8192)

/-- Its keys, head by head. -/
def split_s (u : FVec Ideal S32x64x8192 .f32) : FVec Ideal S32x64x16x128 .f32 :=
  shapeCast _ (extractStridedSlice S32x64x2048 ![0, 0, 2048] u slices_S32x64x8192_S32x64x2048_0_0_2048) shapeCasts_S32x64x2048_S32x64x16x128

/-- Heads scaled. -/
def norm_s (s : FVec Ideal S32x64x16x128 .f32) (g : FVec Ideal S1x128 .f32) : FVec Ideal S32x64x16x128 .f32 :=
  mulf (mulf s (broadcastInDim S32x64x16x128 ![0, 1, 2, 3] bcast_S32x64x16x1_S32x64x16x128_0_1_2_3 (Host.rsqrt (addf (Host.divf (broadcastInDim S32x64x16x1 ![0, 1, 2] bcast_S32x64x16_S32x64x16x1_0_1_2 (Host.reduceAdd (mulf s s) (constant S_ .f32 0x00000000#32) reducesTo_S32x64x16x128_S32x64x16_d3 h_S_)) (broadcastInDim S32x64x16x1 ![] bcast_S_S32x64x16x1 (constant S_ .f32 0x43000000#32))) (broadcastInDim S32x64x16x1 ![] bcast_S_S32x64x16x1 (constant S_ .f32 0x358637BD#32)))))) (broadcastInDim S32x64x16x128 ![0, 1, 2, 3] bcast_S1x1x1x128_S32x64x16x128_0_1_2_3 (broadcastInDim S1x1x1x128 ![3] bcast_S128_S1x1x1x128_3 (shapeCast _ g shapeCasts_S1x128_S128)))

theorem rows_s_at (x : FVec Ideal S32x64x4096 .f32) (g : FVec Ideal S2x4096 .f32) (b : Fin 32) (r : Fin 64) (d : Fin 4096) :
    rows_s x g (ix3 b r d) = scaled len eps (fun y : Fin 4096 => x (ix3 b r y)) (fun y : Fin 4096 => g (ix2 0 y)) d := by
  pointwise [rows_s, scaled]

theorem up_s_at (x : FVec Ideal S32x64x4096 .f32) (w : FVec Ideal S1x4096x8192 .f32) (b : Fin 32) (r : Fin 64) (n : Fin 8192) :
    up_s x w (ix3 b r n) = ∑ j : Fin 4096, x (ix3 b r j) * w (ix3 0 j n) := by
  pointwise [up_s]

theorem split_s_at (u : FVec Ideal S32x64x8192 .f32) (b : Fin 32) (r : Fin 64) (h : Fin 16) (d : Fin 128) :
    split_s u (ix4 b r h d) = u (ix3 b r ⟨2048 + (h.val * 128 + d.val), by omega⟩) := by
  pointwise [split_s]

theorem norm_s_at (s : FVec Ideal S32x64x16x128 .f32) (g : FVec Ideal S1x128 .f32) (b : Fin 32) (r : Fin 64) (h : Fin 16) (d : Fin 128) :
    norm_s s g (ix4 b r h d) = scaled Heads.len eps (fun x : Fin 128 => s (ix4 b r h x)) (fun x : Fin 128 => g (ix2 0 x)) d := by
  pointwise [norm_s, scaled]

/-- An entry of the product is the stacked rows'. -/
theorem up_s_entry (xp : FVec Ideal S1x8192x4096 .f32) (xs : FVec Ideal S32x64x4096 .f32) (g : FVec Ideal S2x4096 .f32) (w : FVec Ideal S1x4096x8192 .f32)
    (b : Fin 32) (r : Fin 64) (n : Fin 8192) (i : Fin 10240) (h : i.val = 8192 + (b.val * 64 + r.val)) :
    up_s (rows_s xs g) w (ix3 b r n) = entry (rows xp xs g) w i n := by
  refine (up_s_at _ w b r n).trans (Finset.sum_congr rfl fun j _ => congrArg (· * w (ix3 0 j n)) ?_)
  exact (rows_s_at xs g b r j).trans (scaled_congr (fun y => (stack_sample xp xs i y b r h).symm) (fun _ => rfl) j)

/-- The keys. -/
def keys (xp : FVec Ideal S1x8192x4096 .f32) (xs : FVec Ideal S32x64x4096 .f32) (g : FVec Ideal S2x4096 .f32) (w : FVec Ideal S1x4096x8192 .f32) (k : FVec Ideal S1x128 .f32) : FVec Ideal S10240x2048 .f32 :=
  concatenate S10240x2048 0 [⟨S8192x2048, (shapeCast _ (norm_p (split_p (up_p (rows_p xp g) w)) k) shapeCasts_S1x8192x16x128_S8192x2048)⟩, ⟨S2048x2048, (shapeCast _ (norm_s (split_s (up_s (rows_s xs g) w)) k) shapeCasts_S32x64x16x128_S2048x2048)⟩] concatenates_S8192x2048_S2048x2048_S10240x2048_d0

/-- The values. -/
def values (xp : FVec Ideal S1x8192x4096 .f32) (xs : FVec Ideal S32x64x4096 .f32) (g : FVec Ideal S2x4096 .f32) (w : FVec Ideal S1x4096x8192 .f32) : FVec Ideal S10240x2048 .f32 :=
  concatenate S10240x2048 0 [⟨S8192x2048, (shapeCast _ (extractStridedSlice S1x8192x2048 ![0, 0, 4096] (up_p (rows_p xp g) w) slices_S1x8192x8192_S1x8192x2048_0_0_4096) shapeCasts_S1x8192x2048_S8192x2048)⟩, ⟨S2048x2048, (shapeCast _ (extractStridedSlice S32x64x2048 ![0, 0, 4096] (up_s (rows_s xs g) w) slices_S32x64x8192_S32x64x2048_0_0_4096) shapeCasts_S32x64x2048_S2048x2048)⟩] concatenates_S8192x2048_S2048x2048_S10240x2048_d0

/-- The pooling mixer's inputs. -/
def inputs (xp : FVec Ideal S1x8192x4096 .f32) (xs : FVec Ideal S32x64x4096 .f32) (g : FVec Ideal S2x4096 .f32) (w : FVec Ideal S1x4096x8192 .f32) : FVec Ideal S10240x2048 .f32 :=
  concatenate S10240x2048 0 [⟨S8192x2048, (shapeCast _ (extractStridedSlice S1x8192x2048 ![0, 0, 6144] (up_p (rows_p xp g) w) slices_S1x8192x8192_S1x8192x2048_0_0_6144) shapeCasts_S1x8192x2048_S8192x2048)⟩, ⟨S2048x2048, (shapeCast _ (extractStridedSlice S32x64x2048 ![0, 0, 6144] (up_s (rows_s xs g) w) slices_S32x64x8192_S32x64x2048_0_0_6144) shapeCasts_S32x64x2048_S2048x2048)⟩] concatenates_S8192x2048_S2048x2048_S10240x2048_d0

/-- Rows put below others. -/
theorem above (a : FVec Ideal S8192x2048 .f32) (b : FVec Ideal S2048x2048 .f32) (r : Fin 10240) (n : Fin 2048) (h : r.val < 8192) :
    concatenate S10240x2048 0 [⟨S8192x2048, a⟩, ⟨S2048x2048, b⟩] concatenates_S8192x2048_S2048x2048_S10240x2048_d0 (ix2 r n) = a (ix2 ⟨r.val, h⟩ n) := by
  pointwise
  rw [dif_pos h]

theorem below (a : FVec Ideal S8192x2048 .f32) (b : FVec Ideal S2048x2048 .f32) (r : Fin 10240) (n : Fin 2048) (h : ¬ r.val < 8192) :
    concatenate S10240x2048 0 [⟨S8192x2048, a⟩, ⟨S2048x2048, b⟩] concatenates_S8192x2048_S2048x2048_S10240x2048_d0 (ix2 r n) = b (ix2 ⟨r.val - 8192, by omega⟩ n) := by
  pointwise
  rw [dif_neg h]

theorem flat_p (s : FVec Ideal S1x8192x16x128 .f32) (r : Fin 8192) (n : Fin 2048) :
    (shapeCast S8192x2048 s shapeCasts_S1x8192x16x128_S8192x2048) (ix2 r n) = s (ix4 (0 : Fin 1) r ⟨n.val / 128, by omega⟩ ⟨n.val % 128, by omega⟩) := by
  pointwise

theorem flat_s (s : FVec Ideal S32x64x16x128 .f32) (r : Fin 2048) (n : Fin 2048) :
    (shapeCast S2048x2048 s shapeCasts_S32x64x16x128_S2048x2048) (ix2 r n) = s (ix4 ⟨r.val / 64, by omega⟩ ⟨r.val % 64, by omega⟩ ⟨n.val / 128, by omega⟩ ⟨n.val % 128, by omega⟩) := by
  pointwise

theorem cols4_p (u : FVec Ideal S1x8192x8192 .f32) (r : Fin 8192) (n : Fin 2048) :
    (shapeCast S8192x2048 (extractStridedSlice S1x8192x2048 ![0, 0, 4096] u slices_S1x8192x8192_S1x8192x2048_0_0_4096) shapeCasts_S1x8192x2048_S8192x2048) (ix2 r n) = u (ix3 (0 : Fin 1) r ⟨4096 + n.val, by omega⟩) := by
  pointwise

theorem cols4_s (u : FVec Ideal S32x64x8192 .f32) (r : Fin 2048) (n : Fin 2048) :
    (shapeCast S2048x2048 (extractStridedSlice S32x64x2048 ![0, 0, 4096] u slices_S32x64x8192_S32x64x2048_0_0_4096) shapeCasts_S32x64x2048_S2048x2048) (ix2 r n) = u (ix3 ⟨r.val / 64, by omega⟩ ⟨r.val % 64, by omega⟩ ⟨4096 + n.val, by omega⟩) := by
  pointwise

theorem cols6_p (u : FVec Ideal S1x8192x8192 .f32) (r : Fin 8192) (n : Fin 2048) :
    (shapeCast S8192x2048 (extractStridedSlice S1x8192x2048 ![0, 0, 6144] u slices_S1x8192x8192_S1x8192x2048_0_0_6144) shapeCasts_S1x8192x2048_S8192x2048) (ix2 r n) = u (ix3 (0 : Fin 1) r ⟨6144 + n.val, by omega⟩) := by
  pointwise

theorem cols6_s (u : FVec Ideal S32x64x8192 .f32) (r : Fin 2048) (n : Fin 2048) :
    (shapeCast S2048x2048 (extractStridedSlice S32x64x2048 ![0, 0, 6144] u slices_S32x64x8192_S32x64x2048_0_0_6144) shapeCasts_S32x64x2048_S2048x2048) (ix2 r n) = u (ix3 ⟨r.val / 64, by omega⟩ ⟨r.val % 64, by omega⟩ ⟨6144 + n.val, by omega⟩) := by
  pointwise

theorem keys_at (xp : FVec Ideal S1x8192x4096 .f32) (xs : FVec Ideal S32x64x4096 .f32) (g : FVec Ideal S2x4096 .f32) (w : FVec Ideal S1x4096x8192 .f32) (k : FVec Ideal S1x128 .f32) (r : Fin 10240) (n : Fin 2048) :
    keys xp xs g w k (ix2 r n) = Heads.headed 2048 (by omega) (rows xp xs g) w k r n := by
  by_cases h : r.val < 8192
  · refine (above _ _ r n h).trans ((flat_p _ ⟨r.val, h⟩ n).trans ((norm_p_at _ k _ _ _).trans (scaled_congr (fun x => ?_) (fun _ => rfl) _)))
    exact (split_p_at _ _ _ x).trans (up_p_entry xp xs g w _ _ r rfl)
  · refine (below _ _ r n h).trans ((flat_s _ ⟨r.val - 8192, by omega⟩ n).trans ((norm_s_at _ k _ _ _ _).trans (scaled_congr (fun x => ?_) (fun _ => rfl) _)))
    exact (split_s_at _ _ _ _ x).trans (up_s_entry xp xs g w _ _ _ r (by show r.val = 8192 + ((r.val - 8192) / 64 * 64 + (r.val - 8192) % 64); omega))

theorem values_at (xp : FVec Ideal S1x8192x4096 .f32) (xs : FVec Ideal S32x64x4096 .f32) (g : FVec Ideal S2x4096 .f32) (w : FVec Ideal S1x4096x8192 .f32) (r : Fin 10240) (n : Fin 2048) :
    values xp xs g w (ix2 r n) = column 4096 (by omega) (rows xp xs g) w r n := by
  by_cases h : r.val < 8192
  · exact (above _ _ r n h).trans ((cols4_p _ ⟨r.val, h⟩ n).trans (up_p_entry xp xs g w _ _ r rfl))
  · refine (below _ _ r n h).trans ((cols4_s _ ⟨r.val - 8192, by omega⟩ n).trans (up_s_entry xp xs g w _ _ _ r ?_))
    show r.val = 8192 + ((r.val - 8192) / 64 * 64 + (r.val - 8192) % 64)
    omega

theorem inputs_at (xp : FVec Ideal S1x8192x4096 .f32) (xs : FVec Ideal S32x64x4096 .f32) (g : FVec Ideal S2x4096 .f32) (w : FVec Ideal S1x4096x8192 .f32) (r : Fin 10240) (n : Fin 2048) :
    inputs xp xs g w (ix2 r n) = column 6144 (by omega) (rows xp xs g) w r n := by
  by_cases h : r.val < 8192
  · exact (above _ _ r n h).trans ((cols6_p _ ⟨r.val, h⟩ n).trans (up_p_entry xp xs g w _ _ r rfl))
  · refine (below _ _ r n h).trans ((cols6_s _ ⟨r.val - 8192, by omega⟩ n).trans (up_s_entry xp xs g w _ _ _ r ?_))
    show r.val = 8192 + ((r.val - 8192) / 64 * 64 + (r.val - 8192) % 64)
    omega

end Cert.RefFirstIdeal.Eq

end
-- ==== Proof.FirstEq.lean ====
/-
  The first norm and the three projections that follow it, from the layer's inputs: the kernels' arrays, one handed to
  the next, and the reference's results are the same.
-/
module

public import proofs.«01_k».proof.Defs
public import proofs.«01_k».proof.Proof.Rows
public import proofs.«01_k».proof.Proof.FirstRef
public import proofs.«01_k».proof.Proof.Gen.FirstIdeal.Frame
public import Idealize.ShloMosaic.Lib.StableHlo.Run
public import Idealize.ShloMosaic.Lib.Pipeline.Value
public import Idealize.ShloMosaic.Lib.Pipeline.ValueKit
public import Idealize.ShloMosaic.Lib.Claim
public import Idealize.ShloMosaic.Lib.StableHlo.ReadAt

@[expose] public section

set_option maxRecDepth 16384

noncomputable section

namespace Cert.FirstIdeal.Eq

section Regions

open Idealize.ShloMosaic Idealize.ShloMosaic.TcCoe Idealize.SL.Sem
open Idealize.ShloMosaic.Pipeline (Dat)
open Cert.FirstIdeal Cert.FirstIdeal.Gen Cert.Entries Cert.Rows

variable (V : (c : Dev nD) → (b : Ref sig .tc) → Buf (Elt Ideal) ((c : Thread nD τ).loc b))

/-- The norm's blocks. -/
theorem idx0 : ∀ t : Fin cfg0.N, win0_0.index t = ![t.val, 0] ∧ win0_1.index t = ![0, 0] ∧ win0_2.index t = ![t.val, 0] ∧ t.val < 40 :=
  (by decide +kernel : ∀ t : Fin grid0.N, _)

theorem read0_x (c : Dev nD) (x : FVec Ideal S10240x4096 .f32) (hx : ∀ r d, (V c main_v2 : FVec Ideal S10240x4096 .f32) (ix2 r d) = x (ix2 r d))
    (t : Fin cfg0.N) (r : Fin 256) (d : Fin 4096) (i : Fin 10240) (h : i.val = t.val * 256 + r.val) :
    (iblk0 V c 0 t : FVec Ideal S256x4096 .f32) (ix2 r d) = x (ix2 i d) := by
  obtain ⟨e0, -, -, -⟩ := idx0 t
  rw [← hx]
  blk_ext [iblk0, e0]

theorem read0_g (c : Dev nD) (g : FVec Ideal S2x4096 .f32) (hg : ∀ d, (V c main_v6 : FVec Ideal S1x4096 .f32) (ix2 0 d) = g (ix2 0 d))
    (t : Fin cfg0.N) (d : Fin 4096) : (iblk0 V c 1 t : FVec Ideal S1x4096 .f32) (ix2 0 d) = g (ix2 0 d) := by
  obtain ⟨-, e1, -, -⟩ := idx0 t
  rw [← hg]
  blk_ext [iblk0, e1]

theorem pay_rows (v0 : FVec Ideal S256x4096 .f32) (v1 : FVec Ideal S1x4096 .f32) (r : Fin 256) (d : Fin 4096) :
    k0_pay1 (F := Ideal) v0 v1 (ix2 r d) = scaled len eps (fun x : Fin 4096 => v0 (ix2 r x)) (fun x : Fin 4096 => v1 (ix2 0 x)) d := by
  pointwise [k0_pay1, scaled]

theorem final_rows (c : Dev nD) (xp : FVec Ideal S1x8192x4096 .f32) (xs : FVec Ideal S32x64x4096 .f32) (g : FVec Ideal S2x4096 .f32)
    (hx : ∀ r d, (V c main_v2 : FVec Ideal S10240x4096 .f32) (ix2 r d) = stack xp xs r d)
    (hg : ∀ d, (V c main_v6 : FVec Ideal S1x4096 .f32) (ix2 0 d) = g (ix2 0 d)) :
    (dat0 V c).arrAt 2 cfg0.N = rows xp xs g := by
  refine (dat0 V c).arrAt_eq_of_covers 2 _ (by decide +kernel) fun t hf y => ?_
  blk_simp
  rw [after0_2]
  unfold out0_2
  frame_out
  idx_vars y
  obtain ⟨e0, e1, e2, h0⟩ := idx0 t
  refine (pay_rows _ _ y0 y1).trans ((scaled_congr (fun d => read0_x V c (fun i => stack xp xs (i 0) (i 1)) hx t y0 d _ ?_) (fun d => read0_g V c g hg t d) y1).trans (congrArg _ ?_))
  · blk_simp [e2]
  · exact Fin.ext (by blk_simp [e2])

/-- The columns of a product, as an array. -/
def columns (o : Nat) (ho : o + 2048 ≤ 8192) (x : FVec Ideal S10240x4096 .bf16) (w : FVec Ideal S1x4096x8192 .f32) (i : S10240x2048.Idx) : EReal :=
  column o ho x w (i 0) (i 1)

/-- The scaled heads, as an array. -/
def heads (x : FVec Ideal S10240x4096 .bf16) (w : FVec Ideal S1x4096x8192 .f32) (g : FVec Ideal S1x128 .f32) (i : S10240x2048.Idx) : EReal :=
  Heads.headed 2048 (by omega) x w g (i 0) (i 1)

theorem idx2 : ∀ t : Fin cfg2.N, win2_0.index t = ![(grid2.coords t 0).val, 0] ∧ win2_1.index t = ![0, 0, 8 + (grid2.coords t 1).val]
    ∧ win2_2.index t = ![(grid2.coords t 0).val, (grid2.coords t 1).val] ∧ (grid2.coords t 0).val < 10 ∧ (grid2.coords t 1).val < 4 :=
  (by decide +kernel : ∀ t : Fin grid2.N, _)

theorem read2_x (c : Dev nD) (x : FVec Ideal S10240x4096 .bf16) (hx : (V c main_v7 : FVec Ideal S10240x4096 .bf16) = x)
    (t : Fin cfg2.N) (r : Fin 1024) (d : Fin 4096) (i : Fin 10240) (h : i.val = (grid2.coords t 0).val * 1024 + r.val) :
    (iblk2 V c 0 t : FVec Ideal S1024x4096 .bf16) (ix2 r d) = x (ix2 i d) := by
  obtain ⟨e0, e1, e2, -, -⟩ := idx2 t
  rw [← hx]
  blk_ext [iblk2, e0]

theorem read2_w (c : Dev nD) (w : FVec Ideal S1x4096x8192 .f32) (hw : ∀ i, (V c main_v3 : FVec Ideal S1x4096x8192 .bf16) i = w i)
    (t : Fin cfg2.N) (d : Fin 4096) (n : Fin 512) (j : Fin 8192) (h : j.val = (8 + (grid2.coords t 1).val) * 512 + n.val) :
    (iblk2 V c 1 t : FVec Ideal S1x4096x512 .bf16) (ix3 0 d n) = w (ix3 0 d j) := by
  obtain ⟨e0, e1, e2, -, -⟩ := idx2 t
  rw [← hw]
  blk_ext [iblk2, e1]

theorem pay_values (v0 : FVec Ideal S1024x4096 .bf16) (v1 : FVec Ideal S1x4096x512 .bf16) (r : Fin 1024) (n : Fin 512) :
    k2_pay1 (F := Ideal) v0 v1 (ix2 r n) = entry v0 v1 r n := by
  pointwise [k2_pay1, entry]

theorem final_values (c : Dev nD) (x : FVec Ideal S10240x4096 .bf16) (w : FVec Ideal S1x4096x8192 .f32)
    (hx : (V c main_v7 : FVec Ideal S10240x4096 .bf16) = x) (hw : ∀ i, (V c main_v3 : FVec Ideal S1x4096x8192 .bf16) i = w i) :
    (dat2 V c).arrAt 2 cfg2.N = columns 4096 (by omega) x w := by
  refine (dat2 V c).arrAt_eq_of_covers 2 _ (by decide +kernel) fun t hf y => ?_
  blk_simp
  rw [after2_2]
  unfold out2_2
  frame_out
  idx_vars y
  obtain ⟨e0, e1, e2, h0, h1⟩ := idx2 t
  refine (pay_values _ _ y0 y1).trans (entry_block (fun j => read2_x V c x hx t y0 j _ ?_) (fun j => read2_w V c w hw t j y1 _ ?_))
  · blk_simp [e2]
  · blk_simp [e2]; show 4096 + ((grid2.coords t 1).val * 512 + y1.val) = _; omega

theorem idx3 : ∀ t : Fin cfg3.N, win3_0.index t = ![(grid3.coords t 0).val, 0] ∧ win3_1.index t = ![0, 0, 12 + (grid3.coords t 1).val]
    ∧ win3_2.index t = ![(grid3.coords t 0).val, (grid3.coords t 1).val] ∧ (grid3.coords t 0).val < 10 ∧ (grid3.coords t 1).val < 4 :=
  (by decide +kernel : ∀ t : Fin grid3.N, _)

theorem read3_x (c : Dev nD) (x : FVec Ideal S10240x4096 .bf16) (hx : (V c main_v7 : FVec Ideal S10240x4096 .bf16) = x)
    (t : Fin cfg3.N) (r : Fin 1024) (d : Fin 4096) (i : Fin 10240) (h : i.val = (grid3.coords t 0).val * 1024 + r.val) :
    (iblk3 V c 0 t : FVec Ideal S1024x4096 .bf16) (ix2 r d) = x (ix2 i d) := by
  obtain ⟨e0, e1, e2, -, -⟩ := idx3 t
  rw [← hx]
  blk_ext [iblk3, e0]

theorem read3_w (c : Dev nD) (w : FVec Ideal S1x4096x8192 .f32) (hw : ∀ i, (V c main_v3 : FVec Ideal S1x4096x8192 .bf16) i = w i)
    (t : Fin cfg3.N) (d : Fin 4096) (n : Fin 512) (j : Fin 8192) (h : j.val = (12 + (grid3.coords t 1).val) * 512 + n.val) :
    (iblk3 V c 1 t : FVec Ideal S1x4096x512 .bf16) (ix3 0 d n) = w (ix3 0 d j) := by
  obtain ⟨e0, e1, e2, -, -⟩ := idx3 t
  rw [← hw]
  blk_ext [iblk3, e1]

theorem pay_inputs (v0 : FVec Ideal S1024x4096 .bf16) (v1 : FVec Ideal S1x4096x512 .bf16) (r : Fin 1024) (n : Fin 512) :
    k3_pay1 (F := Ideal) v0 v1 (ix2 r n) = entry v0 v1 r n := by
  pointwise [k3_pay1, entry]

theorem final_inputs (c : Dev nD) (x : FVec Ideal S10240x4096 .bf16) (w : FVec Ideal S1x4096x8192 .f32)
    (hx : (V c main_v7 : FVec Ideal S10240x4096 .bf16) = x) (hw : ∀ i, (V c main_v3 : FVec Ideal S1x4096x8192 .bf16) i = w i) :
    (dat3 V c).arrAt 2 cfg3.N = columns 6144 (by omega) x w := by
  refine (dat3 V c).arrAt_eq_of_covers 2 _ (by decide +kernel) fun t hf y => ?_
  blk_simp
  rw [after3_2]
  unfold out3_2
  frame_out
  idx_vars y
  obtain ⟨e0, e1, e2, h0, h1⟩ := idx3 t
  refine (pay_inputs _ _ y0 y1).trans (entry_block (fun j => read3_x V c x hx t y0 j _ ?_) (fun j => read3_w V c w hw t j y1 _ ?_))
  · blk_simp [e2]
  · blk_simp [e2]; show 6144 + ((grid3.coords t 1).val * 512 + y1.val) = _; omega

theorem idx1 : ∀ t : Fin cfg1.N, win1_0.index t = ![(grid1.coords t 0).val, 0] ∧ win1_1.index t = ![0, 0, 4 + (grid1.coords t 1).val]
    ∧ win1_2.index t = ![0, 0] ∧ win1_3.index t = ![(grid1.coords t 0).val, (grid1.coords t 1).val]
    ∧ (grid1.coords t 0).val < 10 ∧ (grid1.coords t 1).val < 4 :=
  (by decide +kernel : ∀ t : Fin grid1.N, _)

theorem read1_x (c : Dev nD) (x : FVec Ideal S10240x4096 .bf16) (hx : (V c main_v7 : FVec Ideal S10240x4096 .bf16) = x)
    (t : Fin cfg1.N) (r : Fin 1024) (d : Fin 4096) (i : Fin 10240) (h : i.val = (grid1.coords t 0).val * 1024 + r.val) :
    (iblk1 V c 0 t : FVec Ideal S1024x4096 .bf16) (ix2 r d) = x (ix2 i d) := by
  obtain ⟨e0, e1, -, -, -, -⟩ := idx1 t
  rw [← hx]
  blk_ext [iblk1, e0]

theorem read1_w (c : Dev nD) (w : FVec Ideal S1x4096x8192 .f32) (hw : ∀ i, (V c main_v3 : FVec Ideal S1x4096x8192 .bf16) i = w i)
    (t : Fin cfg1.N) (d : Fin 4096) (n : Fin 512) (j : Fin 8192) (h : j.val = 2048 + ((grid1.coords t 1).val * 512 + n.val)) :
    (iblk1 V c 1 t : FVec Ideal S1x4096x512 .bf16) (ix3 0 d n) = w (ix3 0 d j) := by
  obtain ⟨e0, e1, -, -, -, -⟩ := idx1 t
  rw [← hw]
  blk_ext [iblk1, e1]

theorem read1_g (c : Dev nD) (g : FVec Ideal S1x128 .f32) (hg : ∀ d, (V c main_v9 : FVec Ideal S1x128 .f32) (ix2 0 d) = g (ix2 0 d))
    (t : Fin cfg1.N) (d : Fin 128) : (iblk1 V c 2 t : FVec Ideal S1x128 .f32) (ix2 0 d) = g (ix2 0 d) := by
  obtain ⟨-, -, e2, -, -, -⟩ := idx1 t
  rw [← hg]
  blk_ext [iblk1, e2]

/-- The four heads of a block, one after another. -/
theorem pay0 (v0 : FVec Ideal S1024x4096 .bf16) (v1 : FVec Ideal S1x4096x512 .bf16) (v4 : FVec Ideal S1x128 .f32) (r : Fin 1024) (d : Fin 128) :
    k1_pay5 (F := Ideal) v0 v1 v4 (ix2 r d) = scaled Heads.len eps (fun x : Fin 128 => entry v0 v1 r ⟨x.val, by omega⟩) (fun x : Fin 128 => v4 (ix2 0 x)) d := by
  pointwise [k1_pay5, k1_pay4, k1_pay3, entry, scaled]

theorem pay1 (v0 : FVec Ideal S1024x4096 .bf16) (v1 : FVec Ideal S1x4096x512 .bf16) (v4 : FVec Ideal S1x128 .f32) (r : Fin 1024) (d : Fin 128) :
    k1_pay6 (F := Ideal) v0 v1 v4 (ix2 r d) = scaled Heads.len eps (fun x : Fin 128 => entry v0 v1 r ⟨128 + x.val, by omega⟩) (fun x : Fin 128 => v4 (ix2 0 x)) d := by
  pointwise [k1_pay6, k1_pay4, k1_pay3, entry, scaled]

theorem pay2 (v0 : FVec Ideal S1024x4096 .bf16) (v1 : FVec Ideal S1x4096x512 .bf16) (v4 : FVec Ideal S1x128 .f32) (r : Fin 1024) (d : Fin 128) :
    k1_pay1 (F := Ideal) (k1_pay4 v4) (k1_pay7 v0 v1) (k1_pay8 v0 v1) (ix2 r d) = scaled Heads.len eps (fun x : Fin 128 => entry v0 v1 r ⟨256 + x.val, by omega⟩) (fun x : Fin 128 => v4 (ix2 0 x)) d := by
  pointwise [k1_pay1, k1_pay7, k1_pay8, k1_pay4, k1_pay3, entry, scaled]

theorem pay3 (v0 : FVec Ideal S1024x4096 .bf16) (v1 : FVec Ideal S1x4096x512 .bf16) (v4 : FVec Ideal S1x128 .f32) (r : Fin 1024) (d : Fin 128) :
    k1_pay2 (F := Ideal) (k1_pay3 v0 v1) (k1_pay4 v4) (ix2 r d) = scaled Heads.len eps (fun x : Fin 128 => entry v0 v1 r ⟨384 + x.val, by omega⟩) (fun x : Fin 128 => v4 (ix2 0 x)) d := by
  pointwise [k1_pay2, k1_pay4, k1_pay3, entry, scaled]

/-- A block's head is the whole's. -/
theorem block (c : Dev nD) (x : FVec Ideal S10240x4096 .bf16) (w : FVec Ideal S1x4096x8192 .f32) (g : FVec Ideal S1x128 .f32)
    (hx : (V c main_v7 : FVec Ideal S10240x4096 .bf16) = x) (hw : ∀ i, (V c main_v3 : FVec Ideal S1x4096x8192 .bf16) i = w i)
    (hg : ∀ d, (V c main_v9 : FVec Ideal S1x128 .f32) (ix2 0 d) = g (ix2 0 d))
    (t : Fin cfg1.N) (q : Nat) (p : Fin 128 → Fin 512) (hp : ∀ d, (p d).val = q * 128 + d.val) (r : Fin 1024) (d : Fin 128)
    (i : S10240x2048.Idx) (h0 : (i 0).val = (grid1.coords t 0).val * 1024 + r.val) (h1 : (i 1).val = (grid1.coords t 1).val * 512 + (q * 128 + d.val)) :
    scaled Heads.len eps (fun y : Fin 128 => entry (iblk1 V c 0 t : FVec Ideal S1024x4096 .bf16) (iblk1 V c 1 t : FVec Ideal S1x4096x512 .bf16) r (p y))
      (fun y : Fin 128 => (iblk1 V c 2 t : FVec Ideal S1x128 .f32) (ix2 0 y)) d
      = heads x w g i :=
  Heads.headed_block 2048 (by omega) q (grid1.coords t 1).val p hp r d (i 0) (i 1) (fun j => read1_x V c x hx t r j _ h0)
    (fun j a k hk => read1_w V c w hw t j a k hk) (fun d => read1_g V c g hg t d) h1

theorem final_keys (c : Dev nD) (x : FVec Ideal S10240x4096 .bf16) (w : FVec Ideal S1x4096x8192 .f32) (g : FVec Ideal S1x128 .f32)
    (hx : (V c main_v7 : FVec Ideal S10240x4096 .bf16) = x) (hw : ∀ i, (V c main_v3 : FVec Ideal S1x4096x8192 .bf16) i = w i)
    (hg : ∀ d, (V c main_v9 : FVec Ideal S1x128 .f32) (ix2 0 d) = g (ix2 0 d)) :
    (dat1 V c).arrAt 3 cfg1.N = heads x w g := by
  refine (dat1 V c).arrAt_eq_of_covers 3 _ (by decide +kernel) fun t hf y => ?_
  blk_simp
  rw [after1_3]
  unfold out1_3 k1_pay9
  frame_out
  canon_tiles z h
  · idx_vars z
    obtain ⟨-, -, -, e3, -, -⟩ := idx1 t
    refine (pay3 _ _ _ z0 z1).trans (block V c x w g hx hw hg t 3 _ (fun d => rfl) z0 z1 _ ?_ ?_)
    · blk_simp [e3]; omega
    · blk_simp [e3]; omega
  · idx_vars z
    obtain ⟨-, -, -, e3, -, -⟩ := idx1 t
    refine (pay2 _ _ _ z0 z1).trans (block V c x w g hx hw hg t 2 _ (fun d => rfl) z0 z1 _ ?_ ?_)
    · blk_simp [e3]; omega
    · blk_simp [e3]; omega
  · idx_vars z
    obtain ⟨-, -, -, e3, -, -⟩ := idx1 t
    refine (pay1 _ _ _ z0 z1).trans (block V c x w g hx hw hg t 1 _ (fun d => rfl) z0 z1 _ ?_ ?_)
    · blk_simp [e3]; omega
    · blk_simp [e3]; omega
  · idx_vars z
    obtain ⟨-, -, -, e3, -, -⟩ := idx1 t
    refine (pay0 _ _ _ z0 z1).trans (block V c x w g hx hw hg t 0 _ (fun d => by simp) z0 z1 _ ?_ ?_)
    · blk_simp [e3]; omega
    · blk_simp [e3]; omega

end Regions

section Run

open Idealize.ShloMosaic Idealize.ShloMosaic.TcCoe Idealize.SL.Sem
open Cert.FirstIdeal Cert.FirstIdeal.Gen Cert.Entries Cert.Rows

variable (m : (ℓ : Loc nD τ sig) → Buf (Elt Ideal) ℓ) (ρ : Dev nD → PrngReg)

/-- The host's concatenation. -/
def piled (xp : FVec Ideal S1x8192x4096 .f32) (xs : FVec Ideal S32x64x4096 .f32) : FVec Ideal S10240x4096 .f32 :=
  concatenate S10240x4096 0 [⟨S8192x4096, shapeCast _ xp shapeCasts_S1x8192x4096_S8192x4096⟩, ⟨S2048x4096, shapeCast _ xs shapeCasts_S32x64x4096_S2048x4096⟩] concatenates_S8192x4096_S2048x4096_S10240x4096_d0

theorem flat_prompt (xp : FVec Ideal S1x8192x4096 .f32) (r : Fin 8192) (d : Fin 4096) :
    (shapeCast S8192x4096 xp shapeCasts_S1x8192x4096_S8192x4096) (ix2 r d) = xp (ix3 (0 : Fin 1) r d) := by
  pointwise

theorem flat_sample (xs : FVec Ideal S32x64x4096 .f32) (r : Fin 2048) (d : Fin 4096) :
    (shapeCast S2048x4096 xs shapeCasts_S32x64x4096_S2048x4096) (ix2 r d) = xs (ix3 ⟨r.val / 64, by omega⟩ ⟨r.val % 64, by omega⟩ d) := by
  pointwise

theorem above (a : FVec Ideal S8192x4096 .f32) (b : FVec Ideal S2048x4096 .f32) (r : Fin 10240) (n : Fin 4096) (h : r.val < 8192) :
    concatenate S10240x4096 0 [⟨S8192x4096, a⟩, ⟨S2048x4096, b⟩] concatenates_S8192x4096_S2048x4096_S10240x4096_d0 (ix2 r n) = a (ix2 ⟨r.val, h⟩ n) := by
  pointwise
  rw [dif_pos h]

theorem below (a : FVec Ideal S8192x4096 .f32) (b : FVec Ideal S2048x4096 .f32) (r : Fin 10240) (n : Fin 4096) (h : ¬ r.val < 8192) :
    concatenate S10240x4096 0 [⟨S8192x4096, a⟩, ⟨S2048x4096, b⟩] concatenates_S8192x4096_S2048x4096_S10240x4096_d0 (ix2 r n) = b (ix2 ⟨r.val - 8192, by omega⟩ n) := by
  pointwise
  rw [dif_neg h]

theorem piled_at (xp : FVec Ideal S1x8192x4096 .f32) (xs : FVec Ideal S32x64x4096 .f32) (r : Fin 10240) (d : Fin 4096) :
    piled xp xs (ix2 r d) = stack xp xs r d := by
  by_cases h : r.val < 8192
  · exact (above _ _ r d h).trans ((flat_prompt xp ⟨r.val, h⟩ d).trans (stack_prompt xp xs r d ⟨r.val, h⟩ rfl).symm)
  · refine (below _ _ r d h).trans ((flat_sample xs ⟨r.val - 8192, by omega⟩ d).trans (stack_sample xp xs r d _ _ ?_).symm)
    show r.val = 8192 + ((r.val - 8192) / 64 * 64 + (r.val - 8192) % 64)
    omega

theorem host_rows (c : Dev nD) (r : Fin 10240) (d : Fin 4096) :
    (V1 m ρ c main_v2 : FVec Ideal S10240x4096 .f32) (ix2 r d)
      = stack (m ((c : Thread nD τ).loc main_arg0) : FVec Ideal S1x8192x4096 .f32) (m ((c : Thread nD τ).loc main_arg1) : FVec Ideal S32x64x4096 .f32) r d := by
  have e : (V1 m ρ c main_v2 : FVec Ideal S10240x4096 .f32) = piled (m ((c : Thread nD τ).loc main_arg0)) (m ((c : Thread nD τ).loc main_arg1)) := by
    simp only [V1, W1, hostOps0]
    after_reads_simp
    rfl
  rw [e]
  exact piled_at _ _ r d

theorem host_gain (c : Dev nD) (d : Fin 4096) :
    (V1 m ρ c main_v6 : FVec Ideal S1x4096 .f32) (ix2 0 d) = (m ((c : Thread nD τ).loc main_arg2) : FVec Ideal S2x4096 .f32) (ix2 0 d) := by
  simp only [V1, W1, hostOps0]
  after_reads_at

theorem host_weights (c : Dev nD) (i : S1x4096x8192.Idx) :
    (V1 m ρ c main_v3 : FVec Ideal S1x4096x8192 .bf16) i = (m ((c : Thread nD τ).loc main_arg3) : FVec Ideal S1x4096x8192 .f32) i := by
  simp only [V1, W1, hostOps0]
  after_reads_at

/-- What the projections find: the norm's array, the weights, the gain. -/
theorem rows3 (c : Dev nD) : V3 m ρ c main_v7 = (dat0 (V1 m ρ) c).arrAt 2 cfg0.N :=
  (W3_of m ρ c main_v7 (by decide)).trans (W2_arr m ρ c 2)

theorem rows4 (c : Dev nD) : V4 m ρ c main_v7 = (dat0 (V1 m ρ) c).arrAt 2 cfg0.N :=
  (W4_of m ρ c main_v7 (by decide +kernel)).trans (rows3 m ρ c)

theorem rows5 (c : Dev nD) : V5 m ρ c main_v7 = (dat0 (V1 m ρ) c).arrAt 2 cfg0.N :=
  (W5_of m ρ c main_v7 (by decide +kernel)).trans (rows4 m ρ c)

theorem weights3 (c : Dev nD) : V3 m ρ c main_v3 = V1 m ρ c main_v3 :=
  (W3_of m ρ c main_v3 (by decide)).trans (W2_of m ρ c main_v3 (by decide +kernel))

theorem weights4 (c : Dev nD) : V4 m ρ c main_v3 = V1 m ρ c main_v3 :=
  (W4_of m ρ c main_v3 (by decide +kernel)).trans (weights3 m ρ c)

theorem weights5 (c : Dev nD) : V5 m ρ c main_v3 = V1 m ρ c main_v3 :=
  (W5_of m ρ c main_v3 (by decide +kernel)).trans (weights4 m ρ c)

theorem host_gain3 (c : Dev nD) (d : Fin 128) :
    (V3 m ρ c main_v9 : FVec Ideal S1x128 .f32) (ix2 0 d) = (m ((c : Thread nD τ).loc main_arg4) : FVec Ideal S1x128 .f32) (ix2 0 d) := by
  rw [← W2_args m ρ c main_arg4 (by decide)]
  simp only [V3, W3, hostOps1]
  after_reads_at

theorem W6_keys (c : Dev nD) : W6 m ρ c (Proc.devRef .tc main_v10) = (dat1 (V3 m ρ) c).arrAt 3 cfg1.N :=
  (W6_of m ρ c main_v10 (by decide +kernel)).trans ((W5_of m ρ c main_v10 (by decide +kernel)).trans (W4_arr m ρ c 3))

theorem W6_values (c : Dev nD) : W6 m ρ c (Proc.devRef .tc main_v11) = (dat2 (V4 m ρ) c).arrAt 2 cfg2.N :=
  (W6_of m ρ c main_v11 (by decide +kernel)).trans (W5_arr m ρ c 2)

/-- The norm's array. -/
abbrev xn (c : Dev nD) : FVec Ideal S10240x4096 .bf16 :=
  rows (m ((c : Thread nD τ).loc main_arg0) : FVec Ideal S1x8192x4096 .f32) (m ((c : Thread nD τ).loc main_arg1) : FVec Ideal S32x64x4096 .f32) (m ((c : Thread nD τ).loc main_arg2) : FVec Ideal S2x4096 .f32)

theorem norm_array (c : Dev nD) : (dat0 (V1 m ρ) c).arrAt 2 cfg0.N = xn m c :=
  final_rows (V1 m ρ) c _ _ _ (host_rows m ρ c) (host_gain m ρ c)

theorem keys_array (c : Dev nD) : (dat1 (V3 m ρ) c).arrAt 3 cfg1.N
    = heads (xn m c) (m ((c : Thread nD τ).loc main_arg3)) (m ((c : Thread nD τ).loc main_arg4)) :=
  final_keys (V3 m ρ) c _ _ _ ((rows3 m ρ c).trans (norm_array m ρ c)) (fun i => (congrFun (weights3 m ρ c) i).trans (host_weights m ρ c i)) (host_gain3 m ρ c)

theorem values_array (c : Dev nD) : (dat2 (V4 m ρ) c).arrAt 2 cfg2.N = columns 4096 (by omega) (xn m c) (m ((c : Thread nD τ).loc main_arg3)) :=
  final_values (V4 m ρ) c _ _ ((rows4 m ρ c).trans (norm_array m ρ c)) (fun i => (congrFun (weights4 m ρ c) i).trans (host_weights m ρ c i))

theorem inputs_array (c : Dev nD) : (dat3 (V5 m ρ) c).arrAt 2 cfg3.N = columns 6144 (by omega) (xn m c) (m ((c : Thread nD τ).loc main_arg3)) :=
  final_inputs (V5 m ρ) c _ _ ((rows5 m ρ c).trans (norm_array m ρ c)) (fun i => (congrFun (weights5 m ρ c) i).trans (host_weights m ρ c i))

end Run

section Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FirstIdeal Cert.FirstIdeal.Gen

variable (m : (ℓ : Loc nD τ sig) → Buf (Elt Ideal) ℓ) (ρ : Dev nD → PrngReg)

set_option backward.isDefEq.respectTransparency.types false in
/-- The run with its three result arrays named, the arguments unchanged. -/
theorem run_arrays : θ_run defs (onTc (τ := τ) (main (F := Ideal))) ⟨m, fun _ => 0, ρ⟩ (fun r => ∀ c : Dev nD,
      r.2.mem ((c.tc : Thread nD τ).loc main_v10) = (dat1 (V3 m ρ) c).arrAt 3 cfg1.N
      ∧ r.2.mem ((c.tc : Thread nD τ).loc main_v11) = (dat2 (V4 m ρ) c).arrAt 2 cfg2.N
      ∧ r.2.mem ((c.tc : Thread nD τ).loc main_v12) = (dat3 (V5 m ρ) c).arrAt 2 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨(h c _ (mem_uc main_v10 (by decide))).trans (W6_keys m ρ c),
       (h c _ (mem_uc main_v11 (by decide))).trans (W6_values m ρ c),
       (h c _ (mem_uc main_v12 (by decide))).trans (W6_arr m ρ c 2),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Launch

open Idealize.ShloMosaic Idealize.ShloMosaic.TcCoe Idealize.SL.Sem
open Cert.Rows

/-- The kernels and the reference end with the same three result arrays. -/
theorem same : Cert.algebraic_FirstIdeal_RefFirstIdeal := by
  intro m g m' g' hp hm
  refine ⟨fun c => (Gen.dat1 (Gen.V3 m g) c).arrAt 3 cfg1.N, fun c => (Gen.dat2 (Gen.V4 m g) c).arrAt 2 cfg2.N, fun c => (Gen.dat3 (Gen.V5 m g) c).arrAt 2 cfg3.N, run_arrays m g, ?_⟩
  refine (θ_run Cert.RefFirstIdeal.defs _ _).mono (fun r h c => ⟨(h c).1.trans ?_, (h c).2.1.trans ?_, (h c).2.2.1.trans ?_, (h c).2.2.2⟩) (Cert.RefFirstIdeal.Value.run (F := Ideal) m' g')
  · obtain ⟨e0, e1, e2, e3, e4⟩ := hm c
    refine Eq.trans (b := Cert.RefFirstIdeal.Eq.keys _ _ _ _ _) rfl (Eq.trans ?_ (keys_array m g c).symm)
    rw [e0, e1, e2, e3, e4]
    funext i
    idx_vars i
    exact Cert.RefFirstIdeal.Eq.keys_at _ _ _ _ _ i0 i1
  · obtain ⟨e0, e1, e2, e3, e4⟩ := hm c
    refine Eq.trans (b := Cert.RefFirstIdeal.Eq.values _ _ _ _) rfl (Eq.trans ?_ (values_array m g c).symm)
    rw [e0, e1, e2, e3]
    funext i
    idx_vars i
    exact Cert.RefFirstIdeal.Eq.values_at _ _ _ _ i0 i1
  · obtain ⟨e0, e1, e2, e3, e4⟩ := hm c
    refine Eq.trans (b := Cert.RefFirstIdeal.Eq.inputs _ _ _ _) rfl (Eq.trans ?_ (inputs_array m g c).symm)
    rw [e0, e1, e2, e3]
    funext i
    idx_vars i
    exact Cert.RefFirstIdeal.Eq.inputs_at _ _ _ _ i0 i1

end Cert.FirstIdeal.Eq

end
-- ==== Proof.lean ====
/-
  The claims about the band attention call and the calls around it.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import proofs.«01_k».proof.Proof.Gen.CKeys
public import proofs.«01_k».proof.Proof.Gen.CKeys.Frame
public import proofs.«01_k».proof.Proof.Gen.CKeysIdeal
public import proofs.«01_k».proof.Proof.Gen.CKeysIdeal.Frame
public import proofs.«01_k».proof.Proof.Gen.RefCKeysIdeal
public import proofs.«01_k».proof.Proof.Gen.RefCKeysIdeal.Run
public import proofs.«01_k».proof.Proof.Gen.CValues
public import proofs.«01_k».proof.Proof.Gen.CValues.Frame
public import proofs.«01_k».proof.Proof.Gen.CValuesIdeal
public import proofs.«01_k».proof.Proof.Gen.CValuesIdeal.Frame
public import proofs.«01_k».proof.Proof.Gen.RefCValuesIdeal
public import proofs.«01_k».proof.Proof.Gen.RefCValuesIdeal.Run
public import proofs.«01_k».proof.Proof.Gen.CQueries
public import proofs.«01_k».proof.Proof.Gen.CQueries.Frame
public import proofs.«01_k».proof.Proof.Gen.CQueriesIdeal
public import proofs.«01_k».proof.Proof.Gen.CQueriesIdeal.Frame
public import proofs.«01_k».proof.Proof.Gen.CQueriesIdeal.Value
public import proofs.«01_k».proof.Proof.Gen.RefCQueriesIdeal
public import proofs.«01_k».proof.Proof.Gen.RefCQueriesIdeal.Run
public import proofs.«01_k».proof.Proof.Gen.AQueries
public import proofs.«01_k».proof.Proof.Gen.AQueries.Frame
public import proofs.«01_k».proof.Proof.Gen.AQueriesIdeal
public import proofs.«01_k».proof.Proof.Gen.AQueriesIdeal.Frame
public import proofs.«01_k».proof.Proof.Gen.AQueriesIdeal.Value
public import proofs.«01_k».proof.Proof.Gen.RefAQueriesIdeal
public import proofs.«01_k».proof.Proof.Gen.RefAQueriesIdeal.Run
public import proofs.«01_k».proof.Proof.Gen.AKeys
public import proofs.«01_k».proof.Proof.Gen.AKeys.Frame
public import proofs.«01_k».proof.Proof.Gen.AKeysIdeal
public import proofs.«01_k».proof.Proof.Gen.AKeysIdeal.Frame
public import proofs.«01_k».proof.Proof.Gen.AKeysIdeal.Value
public import proofs.«01_k».proof.Proof.Gen.RefAKeysIdeal
public import proofs.«01_k».proof.Proof.Gen.RefAKeysIdeal.Run
public import proofs.«01_k».proof.Proof.Gen.AValues
public import proofs.«01_k».proof.Proof.Gen.AValues.Frame
public import proofs.«01_k».proof.Proof.Gen.AValuesIdeal
public import proofs.«01_k».proof.Proof.Gen.AValuesIdeal.Frame
public import proofs.«01_k».proof.Proof.Gen.AValuesIdeal.Value
public import proofs.«01_k».proof.Proof.Gen.RefAValuesIdeal
public import proofs.«01_k».proof.Proof.Gen.RefAValuesIdeal.Run
public import proofs.«01_k».proof.Proof.Gen.BInputs
public import proofs.«01_k».proof.Proof.Gen.BInputs.Frame
public import proofs.«01_k».proof.Proof.Gen.BInputsIdeal
public import proofs.«01_k».proof.Proof.Gen.BInputsIdeal.Frame
public import proofs.«01_k».proof.Proof.Gen.BInputsIdeal.Value
public import proofs.«01_k».proof.Proof.Gen.RefBInputsIdeal
public import proofs.«01_k».proof.Proof.Gen.RefBInputsIdeal.Run
public import proofs.«01_k».proof.Proof.Gen.AOutput
public import proofs.«01_k».proof.Proof.Gen.AOutput.Frame
public import proofs.«01_k».proof.Proof.Gen.AOutputIdeal
public import proofs.«01_k».proof.Proof.Gen.AOutputIdeal.Frame
public import proofs.«01_k».proof.Proof.Gen.AOutputIdeal.Value
public import proofs.«01_k».proof.Proof.Gen.RefAOutputIdeal
public import proofs.«01_k».proof.Proof.Gen.RefAOutputIdeal.Run
public import proofs.«01_k».proof.Proof.Gen.COutput
public import proofs.«01_k».proof.Proof.Gen.COutput.Frame
public import proofs.«01_k».proof.Proof.Gen.COutputIdeal
public import proofs.«01_k».proof.Proof.Gen.COutputIdeal.Frame
public import proofs.«01_k».proof.Proof.Gen.COutputIdeal.Value
public import proofs.«01_k».proof.Proof.Gen.RefCOutputIdeal
public import proofs.«01_k».proof.Proof.Gen.RefCOutputIdeal.Run
public import proofs.«01_k».proof.Proof.Gen.Scores
public import proofs.«01_k».proof.Proof.Gen.Scores.Frame
public import proofs.«01_k».proof.Proof.Gen.ScoresIdeal
public import proofs.«01_k».proof.Proof.Gen.ScoresIdeal.Frame
public import proofs.«01_k».proof.Proof.Gen.ScoresIdeal.Value
public import proofs.«01_k».proof.Proof.Gen.RefScoresIdeal
public import proofs.«01_k».proof.Proof.Gen.RefScoresIdeal.Run
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.RefNormIdeal
public import proofs.«01_k».proof.Proof.Gen.RefNormIdeal.Run
public import proofs.«01_k».proof.Proof.Gen.CKeysSample
public import proofs.«01_k».proof.Proof.Gen.CKeysSample.Frame
public import proofs.«01_k».proof.Proof.Gen.CKeysSampleIdeal
public import proofs.«01_k».proof.Proof.Gen.CKeysSampleIdeal.Frame
public import proofs.«01_k».proof.Proof.Gen.RefCKeysSampleIdeal
public import proofs.«01_k».proof.Proof.Gen.RefCKeysSampleIdeal.Run
public import proofs.«01_k».proof.Proof.Gen.CValuesSample
public import proofs.«01_k».proof.Proof.Gen.CValuesSample.Frame
public import proofs.«01_k».proof.Proof.Gen.CValuesSampleIdeal
public import proofs.«01_k».proof.Proof.Gen.CValuesSampleIdeal.Frame
public import proofs.«01_k».proof.Proof.Gen.RefCValuesSampleIdeal
public import proofs.«01_k».proof.Proof.Gen.RefCValuesSampleIdeal.Run
public import proofs.«01_k».proof.Proof.Gen.First
public import proofs.«01_k».proof.Proof.Gen.First.Frame
public import proofs.«01_k».proof.Proof.Gen.FirstIdeal
public import proofs.«01_k».proof.Proof.Gen.FirstIdeal.Frame
public import proofs.«01_k».proof.Proof.Gen.RefFirstIdeal
public import proofs.«01_k».proof.Proof.Gen.RefFirstIdeal.Run
public import proofs.«01_k».proof.Proof.Finite
public import proofs.«01_k».proof.Proof.Point
public import proofs.«01_k».proof.Proof.Same
public import proofs.«01_k».proof.Proof.CKeysEq
public import proofs.«01_k».proof.Proof.CValuesEq
public import proofs.«01_k».proof.Proof.CQueriesEq
public import proofs.«01_k».proof.Proof.AQueriesEq
public import proofs.«01_k».proof.Proof.AKeysEq
public import proofs.«01_k».proof.Proof.AValuesEq
public import proofs.«01_k».proof.Proof.BInputsEq
public import proofs.«01_k».proof.Proof.AOutputEq
public import proofs.«01_k».proof.Proof.COutputEq
public import proofs.«01_k».proof.Proof.ScoresEq
public import proofs.«01_k».proof.Proof.NormEq
public import proofs.«01_k».proof.Proof.CKeysSampleEq
public import proofs.«01_k».proof.Proof.CValuesSampleEq
public import proofs.«01_k».proof.Proof.FirstEq
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The kernel and the reference end with one result array. -/
theorem same : Cert.algebraic_KernelIdeal_ReferenceIdeal_pre_finite_scores := by
  intro m g m' g' hp hm
  refine ⟨fun c => (Cert.KernelIdeal.Gen.dats m 0 c).arrAt 6 Cert.KernelIdeal.cfg0.N, Cert.KernelIdeal.Value.run_blocks (F := Ideal) m g, ?_⟩
  refine (θ_run Cert.ReferenceIdeal.defs _ _).mono (fun r h c => ⟨(h c).1.trans ?_, (h c).2⟩) (Cert.ReferenceIdeal.Value.run (F := Ideal) m' g')
  obtain ⟨e0, e1, e2, e3⟩ := hm c
  obtain ⟨hq, hk, hb⟩ := Cert.Finite.of_pre _ _ _ _ (hp c)
  refine Eq.trans ?_ ((Cert.KernelIdeal.Band.final m c hq hk hb).trans (Cert.KernelIdeal.Band.whole _ _ _ _ _ (Cert.KernelIdeal.Band.V_zero m c))).symm
  refine (Cert.ReferenceIdeal.Band.res_eq m' c).trans ?_
  rw [e0, e1, e2, e3]

theorem frame_cKeys_reference : @Cert.quiescent_RefCKeysIdeal Cert.RefCKeysIdeal.Gen.facts := fun m ρ _ =>
  (θ_run Cert.RefCKeysIdeal.defs _ _).mono (fun r h => ⟨fun c => (h c).2.2, Idealize.ShloMosaic.sem_eq_zero_of_no_sems (by decide) r.2⟩)
    (Cert.RefCKeysIdeal.Value.run (F := Ideal) m ρ)

theorem frame_cValues_reference : @Cert.quiescent_RefCValuesIdeal Cert.RefCValuesIdeal.Gen.facts := fun m ρ _ =>
  (θ_run Cert.RefCValuesIdeal.defs _ _).mono (fun r h => ⟨fun c => (h c).2.2, Idealize.ShloMosaic.sem_eq_zero_of_no_sems (by decide) r.2⟩)
    (Cert.RefCValuesIdeal.Value.run (F := Ideal) m ρ)

theorem frame_cQueries_reference : @Cert.quiescent_RefCQueriesIdeal Cert.RefCQueriesIdeal.Gen.facts := fun m ρ _ =>
  (θ_run Cert.RefCQueriesIdeal.defs _ _).mono (fun r h => ⟨fun c => (h c).2, Idealize.ShloMosaic.sem_eq_zero_of_no_sems (by decide) r.2⟩)
    (Cert.RefCQueriesIdeal.Value.run (F := Ideal) m ρ)

theorem frame_aQueries_reference : @Cert.quiescent_RefAQueriesIdeal Cert.RefAQueriesIdeal.Gen.facts := fun m ρ _ =>
  (θ_run Cert.RefAQueriesIdeal.defs _ _).mono (fun r h => ⟨fun c => (h c).2, Idealize.ShloMosaic.sem_eq_zero_of_no_sems (by decide) r.2⟩)
    (Cert.RefAQueriesIdeal.Value.run (F := Ideal) m ρ)

theorem frame_aKeys_reference : @Cert.quiescent_RefAKeysIdeal Cert.RefAKeysIdeal.Gen.facts := fun m ρ _ =>
  (θ_run Cert.RefAKeysIdeal.defs _ _).mono (fun r h => ⟨fun c => (h c).2, Idealize.ShloMosaic.sem_eq_zero_of_no_sems (by decide) r.2⟩)
    (Cert.RefAKeysIdeal.Value.run (F := Ideal) m ρ)

theorem frame_aValues_reference : @Cert.quiescent_RefAValuesIdeal Cert.RefAValuesIdeal.Gen.facts := fun m ρ _ =>
  (θ_run Cert.RefAValuesIdeal.defs _ _).mono (fun r h => ⟨fun c => (h c).2, Idealize.ShloMosaic.sem_eq_zero_of_no_sems (by decide) r.2⟩)
    (Cert.RefAValuesIdeal.Value.run (F := Ideal) m ρ)

theorem frame_bInputs_reference : @Cert.quiescent_RefBInputsIdeal Cert.RefBInputsIdeal.Gen.facts := fun m ρ _ =>
  (θ_run Cert.RefBInputsIdeal.defs _ _).mono (fun r h => ⟨fun c => (h c).2, Idealize.ShloMosaic.sem_eq_zero_of_no_sems (by decide) r.2⟩)
    (Cert.RefBInputsIdeal.Value.run (F := Ideal) m ρ)

theorem frame_aOutput_reference : @Cert.quiescent_RefAOutputIdeal Cert.RefAOutputIdeal.Gen.facts := fun m ρ _ =>
  (θ_run Cert.RefAOutputIdeal.defs _ _).mono (fun r h => ⟨fun c => (h c).2, Idealize.ShloMosaic.sem_eq_zero_of_no_sems (by decide) r.2⟩)
    (Cert.RefAOutputIdeal.Value.run (F := Ideal) m ρ)

theorem frame_cOutput_reference : @Cert.quiescent_RefCOutputIdeal Cert.RefCOutputIdeal.Gen.facts := fun m ρ _ =>
  (θ_run Cert.RefCOutputIdeal.defs _ _).mono (fun r h => ⟨fun c => (h c).2, Idealize.ShloMosaic.sem_eq_zero_of_no_sems (by decide) r.2⟩)
    (Cert.RefCOutputIdeal.Value.run (F := Ideal) m ρ)

theorem frame_scores_reference : @Cert.quiescent_RefScoresIdeal Cert.RefScoresIdeal.Gen.facts := fun m ρ _ =>
  (θ_run Cert.RefScoresIdeal.defs _ _).mono (fun r h => ⟨fun c => (h c).2, Idealize.ShloMosaic.sem_eq_zero_of_no_sems (by decide) r.2⟩)
    (Cert.RefScoresIdeal.Value.run (F := Ideal) m ρ)

theorem frame_norm_reference : @Cert.quiescent_RefNormIdeal Cert.RefNormIdeal.Gen.facts := fun m ρ _ =>
  (θ_run Cert.RefNormIdeal.defs _ _).mono (fun r h => ⟨fun c => (h c).2, Idealize.ShloMosaic.sem_eq_zero_of_no_sems (by decide) r.2⟩)
    (Cert.RefNormIdeal.Value.run (F := Ideal) m ρ)

theorem frame_cKeysSample_reference : @Cert.quiescent_RefCKeysSampleIdeal Cert.RefCKeysSampleIdeal.Gen.facts := fun m ρ _ =>
  (θ_run Cert.RefCKeysSampleIdeal.defs _ _).mono (fun r h => ⟨fun c => (h c).2.2, Idealize.ShloMosaic.sem_eq_zero_of_no_sems (by decide) r.2⟩)
    (Cert.RefCKeysSampleIdeal.Value.run (F := Ideal) m ρ)

theorem frame_cValuesSample_reference : @Cert.quiescent_RefCValuesSampleIdeal Cert.RefCValuesSampleIdeal.Gen.facts := fun m ρ _ =>
  (θ_run Cert.RefCValuesSampleIdeal.defs _ _).mono (fun r h => ⟨fun c => (h c).2.2, Idealize.ShloMosaic.sem_eq_zero_of_no_sems (by decide) r.2⟩)
    (Cert.RefCValuesSampleIdeal.Value.run (F := Ideal) m ρ)

theorem frame_first_reference : @Cert.quiescent_RefFirstIdeal Cert.RefFirstIdeal.Gen.facts := fun m ρ _ =>
  (θ_run Cert.RefFirstIdeal.defs _ _).mono (fun r h => ⟨fun c => (h c).2.2.2, Idealize.ShloMosaic.sem_eq_zero_of_no_sems (by decide) r.2⟩)
    (Cert.RefFirstIdeal.Value.run (F := Ideal) m ρ)

theorem claim : Cert.Claim := ⟨Cert.Kernel.Gen.facts, Cert.KernelIdeal.Gen.facts, Cert.ReferenceIdeal.Gen.facts,
  Cert.CKeys.Gen.facts, Cert.CKeysIdeal.Gen.facts, Cert.RefCKeysIdeal.Gen.facts,
  Cert.CValues.Gen.facts, Cert.CValuesIdeal.Gen.facts, Cert.RefCValuesIdeal.Gen.facts,
  Cert.CQueries.Gen.facts, Cert.CQueriesIdeal.Gen.facts, Cert.RefCQueriesIdeal.Gen.facts,
  Cert.AQueries.Gen.facts, Cert.AQueriesIdeal.Gen.facts, Cert.RefAQueriesIdeal.Gen.facts,
  Cert.AKeys.Gen.facts, Cert.AKeysIdeal.Gen.facts, Cert.RefAKeysIdeal.Gen.facts,
  Cert.AValues.Gen.facts, Cert.AValuesIdeal.Gen.facts, Cert.RefAValuesIdeal.Gen.facts,
  Cert.BInputs.Gen.facts, Cert.BInputsIdeal.Gen.facts, Cert.RefBInputsIdeal.Gen.facts,
  Cert.AOutput.Gen.facts, Cert.AOutputIdeal.Gen.facts, Cert.RefAOutputIdeal.Gen.facts,
  Cert.COutput.Gen.facts, Cert.COutputIdeal.Gen.facts, Cert.RefCOutputIdeal.Gen.facts,
  Cert.Scores.Gen.facts, Cert.ScoresIdeal.Gen.facts, Cert.RefScoresIdeal.Gen.facts,
  Cert.Norm.Gen.facts, Cert.NormIdeal.Gen.facts, Cert.RefNormIdeal.Gen.facts,
  Cert.CKeysSample.Gen.facts, Cert.CKeysSampleIdeal.Gen.facts, Cert.RefCKeysSampleIdeal.Gen.facts,
  Cert.CValuesSample.Gen.facts, Cert.CValuesSampleIdeal.Gen.facts, Cert.RefCValuesSampleIdeal.Gen.facts,
  Cert.First.Gen.facts, Cert.FirstIdeal.Gen.facts, Cert.RefFirstIdeal.Gen.facts,
  Cert.Finite.facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ,
  fun m ρ _ => Cert.CKeys.Gen.frame m ρ, fun m ρ _ => Cert.CKeysIdeal.Gen.frame m ρ, frame_cKeys_reference,
  fun m ρ _ => Cert.CValues.Gen.frame m ρ, fun m ρ _ => Cert.CValuesIdeal.Gen.frame m ρ, frame_cValues_reference,
  fun m ρ _ => Cert.CQueries.Gen.frame m ρ, fun m ρ _ => Cert.CQueriesIdeal.Gen.frame m ρ, frame_cQueries_reference,
  fun m ρ _ => Cert.AQueries.Gen.frame m ρ, fun m ρ _ => Cert.AQueriesIdeal.Gen.frame m ρ, frame_aQueries_reference,
  fun m ρ _ => Cert.AKeys.Gen.frame m ρ, fun m ρ _ => Cert.AKeysIdeal.Gen.frame m ρ, frame_aKeys_reference,
  fun m ρ _ => Cert.AValues.Gen.frame m ρ, fun m ρ _ => Cert.AValuesIdeal.Gen.frame m ρ, frame_aValues_reference,
  fun m ρ _ => Cert.BInputs.Gen.frame m ρ, fun m ρ _ => Cert.BInputsIdeal.Gen.frame m ρ, frame_bInputs_reference,
  fun m ρ _ => Cert.AOutput.Gen.frame m ρ, fun m ρ _ => Cert.AOutputIdeal.Gen.frame m ρ, frame_aOutput_reference,
  fun m ρ _ => Cert.COutput.Gen.frame m ρ, fun m ρ _ => Cert.COutputIdeal.Gen.frame m ρ, frame_cOutput_reference,
  fun m ρ _ => Cert.Scores.Gen.frame m ρ, fun m ρ _ => Cert.ScoresIdeal.Gen.frame m ρ, frame_scores_reference,
  fun m ρ _ => Cert.Norm.Gen.frame m ρ, fun m ρ _ => Cert.NormIdeal.Gen.frame m ρ, frame_norm_reference,
  fun m ρ _ => Cert.CKeysSample.Gen.frame m ρ, fun m ρ _ => Cert.CKeysSampleIdeal.Gen.frame m ρ, frame_cKeysSample_reference,
  fun m ρ _ => Cert.CValuesSample.Gen.frame m ρ, fun m ρ _ => Cert.CValuesSampleIdeal.Gen.frame m ρ, frame_cValuesSample_reference,
  fun m ρ _ => Cert.First.Gen.frame m ρ, fun m ρ _ => Cert.FirstIdeal.Gen.frame m ρ, frame_first_reference,
  IdealRules.named_const.statement Cert.KernelIdeal.κ "mask" .f32 0xF149F2CA#32 (⊥ : EReal) rfl, same,
  trivial, Cert.CKeysIdeal.Eq.same, trivial, Cert.CValuesIdeal.Eq.same, trivial, Cert.CQueriesIdeal.Eq.same, trivial, Cert.AQueriesIdeal.Eq.same, trivial, Cert.AKeysIdeal.Eq.same, trivial, Cert.AValuesIdeal.Eq.same, trivial, Cert.BInputsIdeal.Eq.same, trivial, Cert.AOutputIdeal.Eq.same, trivial, Cert.COutputIdeal.Eq.same, trivial, Cert.ScoresIdeal.Eq.same, trivial, Cert.NormIdeal.Eq.same, trivial, Cert.CKeysSampleIdeal.Eq.same, trivial, Cert.CValuesSampleIdeal.Eq.same, trivial, Cert.FirstIdeal.Eq.same⟩

end Cert.Proof

end
